-- ==== Defs.lean ====
def Pre_Kernel [hPre_prefix_in_sequence : Cert.Pre_prefix_in_sequence.Facts] (m : (ℓ : Loc Cert.Kernel.nD Cert.Kernel.τ Cert.Kernel.sig) → Buf (Elt Bits) ℓ) : Prop :=
  ∀ c : Dev Cert.Kernel.nD,
    (Cert.Pre_prefix_in_sequence.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_prefix_in_sequence : Cert.Pre_prefix_in_sequence.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_prefix_in_sequence : Cert.Pre_prefix_in_sequence.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_prefix_in_sequence : Cert.Pre_prefix_in_sequence.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_prefix_in_sequence : Cert.Pre_prefix_in_sequence.Facts) (hPre_x_finite : Cert.Pre_x_finite.Facts),
    quiescent_Kernel (hKernel := hKernel) (hPre_prefix_in_sequence := hPre_prefix_in_sequence)
    ∧ quiescent_KernelIdeal (hKernelIdeal := hKernelIdeal) (hPre_prefix_in_sequence := hPre_prefix_in_sequence)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_prefix_in_sequence.lean ====
abbrev S2x32768x2048 : Shape := ⟨3, ![2, 32768, 2048]⟩
abbrev S2x32768x256 : Shape := ⟨3, ![2, 32768, 256]⟩
abbrev S2x1x32768 : Shape := ⟨3, ![2, 1, 32768]⟩
abbrev S2x1x256 : Shape := ⟨3, ![2, 1, 256]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x32768x2048 .bf16) (main_arg1 : FVec F S2x32768x256 .fp8e4m3) (main_arg2 : FVec F S2x1x32768 .f32) (main_arg3 : FVec F S2x32768x256 .fp8e4m3) (main_arg4 : FVec F S2x1x256 .f32) (main_arg5 : IVec S2 32) : IVec S2 1 :=
  let main_c : IVec S_ 32 := constantI S_ 32 0#32
  let main_v0 : IVec S2 32 := broadcastInDim S2 ![] bcast_S_S2 main_c
  let main_v1 : IVec S2 1 := cmpi .sge main_arg5 main_v0
  let main_c_0 : IVec S_ 32 := constantI S_ 32 32768#32
  let main_v2 : IVec S2 32 := broadcastInDim S2 ![] bcast_S_S2 main_c_0
  let main_v3 : IVec S2 1 := cmpi .sle main_arg5 main_v2
  let main_v4 : IVec S2 1 := andi main_v1 main_v3
  main_v4
-- ==== Pre_x_finite.lean ====
abbrev S2x32768x2048 : Shape := ⟨3, ![2, 32768, 2048]⟩
abbrev S2x32768x256 : Shape := ⟨3, ![2, 32768, 256]⟩
abbrev S2x1x32768 : Shape := ⟨3, ![2, 1, 32768]⟩
abbrev S2x1x256 : Shape := ⟨3, ![2, 1, 256]⟩
abbrev S2 : Shape := ⟨1, ![2]⟩
abbrev S_ : Shape := ⟨0, ![]⟩

class Facts : Prop where
  bcast_S_S2 : S_.BroadcastsInDim S2 (![] : Fin 0 → Fin S2.rank)
  bcast_S_S2x32768x2048 : S_.BroadcastsInDim S2x32768x2048 (![] : Fin 0 → Fin S2x32768x2048.rank)

variable [Facts]

def fn {F : FTy → Type} [FloatOps F] (main_arg0 : FVec F S2x32768x2048 .bf16) (main_arg1 : FVec F S2x32768x256 .fp8e4m3) (main_arg2 : FVec F S2x1x32768 .f32) (main_arg3 : FVec F S2x32768x256 .fp8e4m3) (main_arg4 : FVec F S2x1x256 .f32) (main_arg5 : IVec S2 32) : IVec S2 1 × IVec S2x32768x2048 1 :=
  let main_c : IVec S_ 32 := constantI S_ 32 0#32
  let main_v0 : IVec S2 32 := broadcastInDim S2 ![] bcast_S_S2 main_c
  let main_v1 : IVec S2 1 := cmpi .sge main_arg5 main_v0
  let main_c_0 : IVec S_ 32 := constantI S_ 32 32768#32
  let main_v2 : IVec S2 32 := broadcastInDim S2 ![] bcast_S_S2 main_c_0
  let main_v3 : IVec S2 1 := cmpi .sle main_arg5 main_v2
  let main_v4 : IVec S2 1 := andi main_v1 main_v3
  let main_v5 : FVec F S2x32768x2048 .bf16 := Host.absf main_arg0
  let main_cst : FVec F S_ .bf16 := constant S_ .bf16 0x7F7F#16
  let main_v6 : FVec F S2x32768x2048 .bf16 := broadcastInDim S2x32768x2048 ![] bcast_S_S2x32768x2048 main_cst
  let main_v7 : IVec S2x32768x2048 1 := cmpf .ole main_v5 main_v6
  (main_v4, main_v7)
-- ==== Kernel.lean ====
abbrev S2x32768x2048 : Shape := ⟨3, ![2, 32768, 2048]⟩
abbrev S2x32768x256 : Shape := ⟨3, ![2, 32768, 256]⟩
abbrev S2x1x32768 : Shape := ⟨3, ![2, 1, 32768]⟩
abbrev S2x1x256 : Shape := ⟨3, ![2, 1, 256]⟩
abbrev S2 : Shape := ⟨1, ![2]⟩
abbrev S1x32x2048 : Shape := ⟨3, ![1, 32, 2048]⟩
abbrev S1x32768x256 : Shape := ⟨3, ![1, 32768, 256]⟩
abbrev S1x1x32768 : Shape := ⟨3, ![1, 1, 32768]⟩
abbrev S1x1x256 : Shape := ⟨3, ![1, 1, 256]⟩
abbrev S256x256 : Shape := ⟨2, ![256, 256]⟩
abbrev S256x128 : Shape := ⟨2, ![256, 128]⟩
abbrev S256x32768 : Shape := ⟨2, ![256, 32768]⟩
abbrev S256x512 : Shape := ⟨2, ![256, 512]⟩
abbrev S1 : Shape := ⟨1, ![1]⟩
abbrev S1x32x256 : Shape := ⟨3, ![1, 32, 256]⟩
abbrev S32x256 : Shape := ⟨2, ![32, 256]⟩
abbrev S32 : Shape := ⟨1, ![32]⟩
abbrev S32x1 : Shape := ⟨2, ![32, 1]⟩
abbrev S1x256 : Shape := ⟨2, ![1, 256]⟩
abbrev S32x128 : Shape := ⟨2, ![32, 128]⟩
abbrev S1x512x256 : Shape := ⟨3, ![1, 512, 256]⟩
abbrev S512x256 : Shape := ⟨2, ![512, 256]⟩
abbrev S1x1x512 : Shape := ⟨3, ![1, 1, 512]⟩
abbrev S1x512 : Shape := ⟨2, ![1, 512]⟩
abbrev S256 : Shape := ⟨1, ![256]⟩
abbrev S256x1 : Shape := ⟨2, ![256, 1]⟩

abbrev nBuf : Space → Nat
  | .hbm => 6
  | .vmem => 18
  | .smem => 1
  | _ => 0

abbrev bufTy : (tb : Table) → Fin (tcTables nBuf tb) → BufTy
  | .hbm, ⟨0, _⟩ => ⟨S2x32768x2048, .bf16⟩
  | .hbm, ⟨1, _⟩ => ⟨S2x32768x256, .fp8e4m3⟩
  | .hbm, ⟨2, _⟩ => ⟨S2x1x32768, .f32⟩
  | .hbm, ⟨3, _⟩ => ⟨S2x32768x256, .fp8e4m3⟩
  | .hbm, ⟨4, _⟩ => ⟨S2x1x256, .f32⟩
  | .hbm, ⟨5, _⟩ => ⟨S2x32768x2048, .bf16⟩
  | .local _ .vmem, ⟨0, _⟩ => ⟨S1x32x2048, .bf16⟩
  | .local _ .vmem, ⟨1, _⟩ => ⟨S1x32x2048, .bf16⟩
  | .local _ .vmem, ⟨2, _⟩ => ⟨S1x32768x256, .fp8e4m3⟩
  | .local _ .vmem, ⟨3, _⟩ => ⟨S1x1x32768, .f32⟩
  | .local _ .vmem, ⟨4, _⟩ => ⟨S1x1x32768, .f32⟩
  | .local _ .vmem, ⟨5, _⟩ => ⟨S1x32768x256, .fp8e4m3⟩
  | .local _ .vmem, ⟨6, _⟩ => ⟨S1x1x256, .f32⟩
  | .local _ .vmem, ⟨7, _⟩ => ⟨S1x1x256, .f32⟩
  | .local _ .vmem, ⟨8, _⟩ => ⟨S1x32x2048, .bf16⟩
  | .local _ .vmem, ⟨9, _⟩ => ⟨S1x32x2048, .bf16⟩
  | .local _ .vmem, ⟨10, _⟩ => ⟨S256x256, .fp8e4m3⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x32768, .f32⟩
  | .local _ .vmem, ⟨16, _⟩ => ⟨S256x512, .fp8e4m3⟩
  | .local _ .vmem, ⟨17, _⟩ => ⟨S256x256, .f32⟩
  | .local _ .smem, ⟨0, _⟩ => ⟨S2, .i32⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1024], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let c1_i32_228 : BitVec 32 := 1#32
  ⟨c0_i32_226, v588, c1_i32_228⟩

def k0_mult1 (i : grid0.Coords) (v1 : BitVec 32) (k0_t1 : Fin (k0_t1_loop v1).trips) : BitVec 32 :=
  let c0_i32_225 : BitVec 32 := 0#32
  let c0_i32_226 : BitVec 32 := 0#32
  let c1_i32_228 : BitVec 32 := 1#32
  let arg17 : BitVec 32 := Scf.iv c0_i32_226 c1_i32_228 k0_t1
  let c1_i32_224 : BitVec 32 := 1#32
  let v661 : BitVec 32 := Scalar.muli arg17 c1_i32_224
  let v662 : BitVec 32 := Scalar.addi c0_i32_225 v661
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  v669
def k0_mult2 (v1 : BitVec 32) (k0_t1 : Fin (k0_t1_loop v1).trips) : BitVec 32 :=
  let c0_i32_225 : BitVec 32 := 0#32
  let c0_i32_226 : BitVec 32 := 0#32
  let c1_i32_228 : BitVec 32 := 1#32
  let arg17 : BitVec 32 := Scf.iv c0_i32_226 c1_i32_228 k0_t1
  let c1_i32_224 : BitVec 32 := 1#32
  let v661 : BitVec 32 := Scalar.muli arg17 c1_i32_224
  let v662 : BitVec 32 := Scalar.addi c0_i32_225 v661
  let c512_i32_289 : BitVec 32 := 512#32
  let v671 : BitVec 32 := Scalar.muli v662 c512_i32_289
  v671
def k0_off2 (i : grid0.Coords) (v1 : BitVec 32) (k0_t1 : Fin (k0_t1_loop v1).trips) : Fin 3 → Nat :=
  let c0_292 : Index := 0#32
  let c0_i32_225 : BitVec 32 := 0#32
  let c0_i32_226 : BitVec 32 := 0#32
  let c1_i32_228 : BitVec 32 := 1#32
  let arg17 : BitVec 32 := Scf.iv c0_i32_226 c1_i32_228 k0_t1
  let c1_i32_224 : BitVec 32 := 1#32
  let v661 : BitVec 32 := Scalar.muli arg17 c1_i32_224
  let v662 : BitVec 32 := Scalar.addi c0_i32_225 v661
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v674 : Index := Scalar.indexCast v670
  let c0_293 : Index := 0#32
  ![0, v674.toNat, 0]
def k0_off3 (i : grid0.Coords) (v1 : BitVec 32) (k0_t1 : Fin (k0_t1_loop v1).trips) : Fin 3 → Nat :=
  let c0_295 : Index := 0#32
  let c0_296 : Index := 0#32
  let c0_i32_225 : BitVec 32 := 0#32
  let c0_i32_226 : BitVec 32 := 0#32
  let c1_i32_228 : BitVec 32 := 1#32
  let arg17 : BitVec 32 := Scf.iv c0_i32_226 c1_i32_228 k0_t1
  let c1_i32_224 : BitVec 32 := 1#32
  let v661 : BitVec 32 := Scalar.muli arg17 c1_i32_224
  let v662 : BitVec 32 := Scalar.addi c0_i32_225 v661
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v678 : Index := Scalar.indexCast v670
  ![0, 0, v678.toNat]
def k0_off4 (v1 : BitVec 32) (k0_t1 : Fin (k0_t1_loop v1).trips) : Fin 2 → Nat :=
  let c0_297 : Index := 0#32
  let c0_i32_225 : BitVec 32 := 0#32
  let c0_i32_226 : BitVec 32 := 0#32
  let c1_i32_228 : BitVec 32 := 1#32
  let arg17 : BitVec 32 := Scf.iv c0_i32_226 c1_i32_228 k0_t1
  let c1_i32_224 : BitVec 32 := 1#32
  let v661 : BitVec 32 := Scalar.muli arg17 c1_i32_224
  let v662 : BitVec 32 := Scalar.addi c0_i32_225 v661
  let c512_i32_289 : BitVec 32 := 512#32
  let v671 : BitVec 32 := Scalar.muli v662 c512_i32_289
  let v672 : BitVec 32 := v671
  let v683 : Index := Scalar.indexCast v672
  ![0, v683.toNat]
@[reducible] def k0_t2_loop (v1 : BitVec 32) : Scf.Loop 32 :=
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let v585 : BitVec 32 := Scalar.addi c0_i32_226 v584
  let c1_i32_229 : BitVec 32 := 1#32
  ⟨v588, v585, c1_i32_229⟩
def k0_mult3 (i : grid0.Coords) (v1 : BitVec 32) (k0_t2 : Fin (k0_t2_loop v1).trips) : BitVec 32 :=
  let c0_i32_225 : BitVec 32 := 0#32
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let c1_i32_229 : BitVec 32 := 1#32
  let arg17 : BitVec 32 := Scf.iv v588 c1_i32_229 k0_t2
  let c1_i32_224 : BitVec 32 := 1#32
  let v661 : BitVec 32 := Scalar.muli arg17 c1_i32_224
  let v662 : BitVec 32 := Scalar.addi c0_i32_225 v661
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  v669
def k0_mult4 (v1 : BitVec 32) (k0_t2 : Fin (k0_t2_loop v1).trips) : BitVec 32 :=
  let c0_i32_225 : BitVec 32 := 0#32
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let c1_i32_229 : BitVec 32 := 1#32
  let arg17 : BitVec 32 := Scf.iv v588 c1_i32_229 k0_t2
  let c1_i32_224 : BitVec 32 := 1#32
  let v661 : BitVec 32 := Scalar.muli arg17 c1_i32_224
  let v662 : BitVec 32 := Scalar.addi c0_i32_225 v661
  let c512_i32_289 : BitVec 32 := 512#32
  let v671 : BitVec 32 := Scalar.muli v662 c512_i32_289
  v671
def k0_off5 (i : grid0.Coords) (v1 : BitVec 32) (k0_t2 : Fin (k0_t2_loop v1).trips) : Fin 3 → Nat :=
  let c0_292 : Index := 0#32
  let c0_i32_225 : BitVec 32 := 0#32
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let c1_i32_229 : BitVec 32 := 1#32
  let arg17 : BitVec 32 := Scf.iv v588 c1_i32_229 k0_t2
  let c1_i32_224 : BitVec 32 := 1#32
  let v661 : BitVec 32 := Scalar.muli arg17 c1_i32_224
  let v662 : BitVec 32 := Scalar.addi c0_i32_225 v661
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v674 : Index := Scalar.indexCast v670
  let c0_293 : Index := 0#32
  ![0, v674.toNat, 0]
def k0_off6 (i : grid0.Coords) (v1 : BitVec 32) (k0_t2 : Fin (k0_t2_loop v1).trips) : Fin 3 → Nat :=
  let c0_295 : Index := 0#32
  let c0_296 : Index := 0#32
  let c0_i32_225 : BitVec 32 := 0#32
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let c1_i32_229 : BitVec 32 := 1#32
  let arg17 : BitVec 32 := Scf.iv v588 c1_i32_229 k0_t2
  let c1_i32_224 : BitVec 32 := 1#32
  let v661 : BitVec 32 := Scalar.muli arg17 c1_i32_224
  let v662 : BitVec 32 := Scalar.addi c0_i32_225 v661
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v678 : Index := Scalar.indexCast v670
  ![0, 0, v678.toNat]
def k0_off7 (v1 : BitVec 32) (k0_t2 : Fin (k0_t2_loop v1).trips) : Fin 2 → Nat :=
  let c0_297 : Index := 0#32
  let c0_i32_225 : BitVec 32 := 0#32
  let c0_i32_226 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_220 : BitVec 32 := 0#32
  let v580 : BitVec 32 := Scalar.subi v507 c0_i32_220
  let c1_i32_221 : BitVec 32 := 1#32
  let c1_i32_222 : BitVec 32 := 1#32
  let v581 : BitVec 32 := Scalar.subi c1_i32_221 c1_i32_222
  let v582 : BitVec 32 := Scalar.addi v580 v581
  let c1_i32_223 : BitVec 32 := 1#32
  let v583 : BitVec 32 := Scalar.divsi v582 c1_i32_223
  let v584 : BitVec 32 := Scalar.subi v583 c0_i32_226
  let c1_i32_227 : BitVec 32 := 1#32
  let v586 : BitVec 32 := Scalar.divsi v584 c1_i32_227
  let v587 : BitVec 32 := Scalar.muli v586 c1_i32_227
  let v588 : BitVec 32 := Scalar.addi c0_i32_226 v587
  let c1_i32_229 : BitVec 32 := 1#32
  let arg17 : BitVec 32 := Scf.iv v588 c1_i32_229 k0_t2
  let c1_i32_224 : BitVec 32 := 1#32
  let v661 : BitVec 32 := Scalar.muli arg17 c1_i32_224
  let v662 : BitVec 32 := Scalar.addi c0_i32_225 v661
  let c512_i32_289 : BitVec 32 := 512#32
  let v671 : BitVec 32 := Scalar.muli v662 c512_i32_289
  let v672 : BitVec 32 := v671
  let v683 : Index := Scalar.indexCast v672
  ![0, v683.toNat]
@[reducible] def k0_t3_loop (i : grid0.Coords) (v1 : BitVec 32) : Scf.Loop 32 :=
  let c0_i32_234 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let c1_i32_236 : BitVec 32 := 1#32
  ⟨c0_i32_234, v597, c1_i32_236⟩
def k0_mult5 (i : grid0.Coords) (v1 : BitVec 32) (k0_t3 : Fin (k0_t3_loop i v1).trips) : BitVec 32 :=
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c1_i32_236 : BitVec 32 := 1#32
  let arg17 : BitVec 32 := Scf.iv c0_i32_234 c1_i32_236 k0_t3
  let c1_i32_233 : BitVec 32 := 1#32
  let v661 : BitVec 32 := Scalar.muli arg17 c1_i32_233
  let v662 : BitVec 32 := Scalar.addi v507 v661
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  v669
def k0_mult6 (i : grid0.Coords) (v1 : BitVec 32) (k0_t3 : Fin (k0_t3_loop i v1).trips) : BitVec 32 :=
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c1_i32_236 : BitVec 32 := 1#32
  let arg17 : BitVec 32 := Scf.iv c0_i32_234 c1_i32_236 k0_t3
  let c1_i32_233 : BitVec 32 := 1#32
  let v661 : BitVec 32 := Scalar.muli arg17 c1_i32_233
  let v662 : BitVec 32 := Scalar.addi v507 v661
  let c512_i32_289 : BitVec 32 := 512#32
  let v671 : BitVec 32 := Scalar.muli v662 c512_i32_289
  v671
def k0_off8 (i : grid0.Coords) (v1 : BitVec 32) (k0_t3 : Fin (k0_t3_loop i v1).trips) : Fin 3 → Nat :=
  let c0_292 : Index := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c1_i32_236 : BitVec 32 := 1#32
  let arg17 : BitVec 32 := Scf.iv c0_i32_234 c1_i32_236 k0_t3
  let c1_i32_233 : BitVec 32 := 1#32
  let v661 : BitVec 32 := Scalar.muli arg17 c1_i32_233
  let v662 : BitVec 32 := Scalar.addi v507 v661
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v674 : Index := Scalar.indexCast v670
  let c0_293 : Index := 0#32
  ![0, v674.toNat, 0]
def k0_off9 (i : grid0.Coords) (v1 : BitVec 32) (k0_t3 : Fin (k0_t3_loop i v1).trips) : Fin 3 → Nat :=
  let c0_295 : Index := 0#32
  let c0_296 : Index := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c1_i32_236 : BitVec 32 := 1#32
  let arg17 : BitVec 32 := Scf.iv c0_i32_234 c1_i32_236 k0_t3
  let c1_i32_233 : BitVec 32 := 1#32
  let v661 : BitVec 32 := Scalar.muli arg17 c1_i32_233
  let v662 : BitVec 32 := Scalar.addi v507 v661
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v678 : Index := Scalar.indexCast v670
  ![0, 0, v678.toNat]
def k0_off10 (i : grid0.Coords) (v1 : BitVec 32) (k0_t3 : Fin (k0_t3_loop i v1).trips) : Fin 2 → Nat :=
  let c0_304 : Index := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c1_i32_236 : BitVec 32 := 1#32
  let arg17 : BitVec 32 := Scf.iv c0_i32_234 c1_i32_236 k0_t3
  let c1_i32_233 : BitVec 32 := 1#32
  let v661 : BitVec 32 := Scalar.muli arg17 c1_i32_233
  let v662 : BitVec 32 := Scalar.addi v507 v661
  let c512_i32_289 : BitVec 32 := 512#32
  let v671 : BitVec 32 := Scalar.muli v662 c512_i32_289
  let v672 : BitVec 32 := v671
  let v715 : Index := Scalar.indexCast v672
  ![0, v715.toNat]
@[reducible] def k0_t4_loop (i : grid0.Coords) (v1 : BitVec 32) : Scf.Loop 32 :=
  let c0_i32_234 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let v594 : BitVec 32 := Scalar.addi c0_i32_234 v593
  let c1_i32_237 : BitVec 32 := 1#32
  ⟨v597, v594, c1_i32_237⟩
def k0_mult7 (i : grid0.Coords) (v1 : BitVec 32) (k0_t4 : Fin (k0_t4_loop i v1).trips) : BitVec 32 :=
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let c1_i32_237 : BitVec 32 := 1#32
  let arg17 : BitVec 32 := Scf.iv v597 c1_i32_237 k0_t4
  let c1_i32_233 : BitVec 32 := 1#32
  let v661 : BitVec 32 := Scalar.muli arg17 c1_i32_233
  let v662 : BitVec 32 := Scalar.addi v507 v661
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  v669
def k0_mult8 (i : grid0.Coords) (v1 : BitVec 32) (k0_t4 : Fin (k0_t4_loop i v1).trips) : BitVec 32 :=
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let c1_i32_237 : BitVec 32 := 1#32
  let arg17 : BitVec 32 := Scf.iv v597 c1_i32_237 k0_t4
  let c1_i32_233 : BitVec 32 := 1#32
  let v661 : BitVec 32 := Scalar.muli arg17 c1_i32_233
  let v662 : BitVec 32 := Scalar.addi v507 v661
  let c512_i32_289 : BitVec 32 := 512#32
  let v671 : BitVec 32 := Scalar.muli v662 c512_i32_289
  v671
def k0_off11 (i : grid0.Coords) (v1 : BitVec 32) (k0_t4 : Fin (k0_t4_loop i v1).trips) : Fin 3 → Nat :=
  let c0_292 : Index := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let c1_i32_237 : BitVec 32 := 1#32
  let arg17 : BitVec 32 := Scf.iv v597 c1_i32_237 k0_t4
  let c1_i32_233 : BitVec 32 := 1#32
  let v661 : BitVec 32 := Scalar.muli arg17 c1_i32_233
  let v662 : BitVec 32 := Scalar.addi v507 v661
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v674 : Index := Scalar.indexCast v670
  let c0_293 : Index := 0#32
  ![0, v674.toNat, 0]
def k0_off12 (i : grid0.Coords) (v1 : BitVec 32) (k0_t4 : Fin (k0_t4_loop i v1).trips) : Fin 3 → Nat :=
  let c0_295 : Index := 0#32
  let c0_296 : Index := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let c1_i32_237 : BitVec 32 := 1#32
  let arg17 : BitVec 32 := Scf.iv v597 c1_i32_237 k0_t4
  let c1_i32_233 : BitVec 32 := 1#32
  let v661 : BitVec 32 := Scalar.muli arg17 c1_i32_233
  let v662 : BitVec 32 := Scalar.addi v507 v661
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v678 : Index := Scalar.indexCast v670
  ![0, 0, v678.toNat]
def k0_off13 (i : grid0.Coords) (v1 : BitVec 32) (k0_t4 : Fin (k0_t4_loop i v1).trips) : Fin 2 → Nat :=
  let c0_304 : Index := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c0_i32_234 : BitVec 32 := 0#32
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let v589 : BitVec 32 := Scalar.subi v567 v507
  let c1_i32_230 : BitVec 32 := 1#32
  let c1_i32_231 : BitVec 32 := 1#32
  let v590 : BitVec 32 := Scalar.subi c1_i32_230 c1_i32_231
  let v591 : BitVec 32 := Scalar.addi v589 v590
  let c1_i32_232 : BitVec 32 := 1#32
  let v592 : BitVec 32 := Scalar.divsi v591 c1_i32_232
  let v593 : BitVec 32 := Scalar.subi v592 c0_i32_234
  let c1_i32_235 : BitVec 32 := 1#32
  let v595 : BitVec 32 := Scalar.divsi v593 c1_i32_235
  let v596 : BitVec 32 := Scalar.muli v595 c1_i32_235
  let v597 : BitVec 32 := Scalar.addi c0_i32_234 v596
  let c1_i32_237 : BitVec 32 := 1#32
  let arg17 : BitVec 32 := Scf.iv v597 c1_i32_237 k0_t4
  let c1_i32_233 : BitVec 32 := 1#32
  let v661 : BitVec 32 := Scalar.muli arg17 c1_i32_233
  let v662 : BitVec 32 := Scalar.addi v507 v661
  let c512_i32_289 : BitVec 32 := 512#32
  let v671 : BitVec 32 := Scalar.muli v662 c512_i32_289
  let v672 : BitVec 32 := v671
  let v715 : Index := Scalar.indexCast v672
  ![0, v715.toNat]
@[reducible] def k0_t5_loop (i : grid0.Coords) (v1 : BitVec 32) : Scf.Loop 32 :=
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_254 : BitVec 32 := 1#32
  ⟨c0_i32_252, v617, c1_i32_254⟩
def k0_mult9 (i : grid0.Coords) (v1 : BitVec 32) (k0_t5 : Fin (k0_t5_loop i v1).trips) : BitVec 32 :=
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  v669
def k0_mult10 (i : grid0.Coords) (v1 : BitVec 32) (k0_t5 : Fin (k0_t5_loop i v1).trips) : BitVec 32 :=
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  v671
def k0_off14 (i : grid0.Coords) (v1 : BitVec 32) (k0_t5 : Fin (k0_t5_loop i v1).trips) (c0_i32_296 : BitVec 32) : Fin 2 → Nat :=
  let c0_297 : Index := 0#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v676 : BitVec 32 := Scalar.addi v672 c0_i32_296
  let v677 : Index := Scalar.indexCast v676
  ![0, v677.toNat]
def k0_off15 (i : grid0.Coords) (v1 : BitVec 32) (k0_t5 : Fin (k0_t5_loop i v1).trips) (c0_i32_324 : BitVec 32) : Fin 2 → Nat :=
  let c32_325 : Index := 32#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v742 : BitVec 32 := Scalar.addi v672 c0_i32_324
  let v743 : Index := Scalar.indexCast v742
  ![32, v743.toNat]
def k0_off16 (i : grid0.Coords) (v1 : BitVec 32) (k0_t5 : Fin (k0_t5_loop i v1).trips) (c0_i32_356 : BitVec 32) : Fin 2 → Nat :=
  let c64_357 : Index := 64#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v808 : BitVec 32 := Scalar.addi v672 c0_i32_356
  let v809 : Index := Scalar.indexCast v808
  ![64, v809.toNat]
def k0_off17 (i : grid0.Coords) (v1 : BitVec 32) (k0_t5 : Fin (k0_t5_loop i v1).trips) (c0_i32_388 : BitVec 32) : Fin 2 → Nat :=
  let c96_389 : Index := 96#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v874 : BitVec 32 := Scalar.addi v672 c0_i32_388
  let v875 : Index := Scalar.indexCast v874
  ![96, v875.toNat]
def k0_off18 (i : grid0.Coords) (v1 : BitVec 32) (k0_t5 : Fin (k0_t5_loop i v1).trips) (c0_i32_420 : BitVec 32) : Fin 2 → Nat :=
  let c128_421 : Index := 128#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v940 : BitVec 32 := Scalar.addi v672 c0_i32_420
  let v941 : Index := Scalar.indexCast v940
  ![128, v941.toNat]
def k0_off19 (i : grid0.Coords) (v1 : BitVec 32) (k0_t5 : Fin (k0_t5_loop i v1).trips) (c0_i32_452 : BitVec 32) : Fin 2 → Nat :=
  let c160_453 : Index := 160#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v1006 : BitVec 32 := Scalar.addi v672 c0_i32_452
  let v1007 : Index := Scalar.indexCast v1006
  ![160, v1007.toNat]
def k0_off20 (i : grid0.Coords) (v1 : BitVec 32) (k0_t5 : Fin (k0_t5_loop i v1).trips) (c0_i32_484 : BitVec 32) : Fin 2 → Nat :=
  let c192_485 : Index := 192#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v1072 : BitVec 32 := Scalar.addi v672 c0_i32_484
  let v1073 : Index := Scalar.indexCast v1072
  ![192, v1073.toNat]
def k0_off21 (i : grid0.Coords) (v1 : BitVec 32) (k0_t5 : Fin (k0_t5_loop i v1).trips) (c0_i32_516 : BitVec 32) : Fin 2 → Nat :=
  let c224_517 : Index := 224#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v1138 : BitVec 32 := Scalar.addi v672 c0_i32_516
  let v1139 : Index := Scalar.indexCast v1138
  ![224, v1139.toNat]
def k0_off22 (i : grid0.Coords) (v1 : BitVec 32) (k0_t5 : Fin (k0_t5_loop i v1).trips) : Fin 3 → Nat :=
  let c0_546 : Index := 0#32
  let c0_i32_251 : BitVec 32 := 0#32
  let c0_i32_252 : BitVec 32 := 0#32
  let c1_i32_254 : BitVec 32 := 1#32
  let arg17 : BitVec 32 := Scf.iv c0_i32_252 c1_i32_254 k0_t5
  let c1_i32_250 : BitVec 32 := 1#32
  let v661 : BitVec 32 := Scalar.muli arg17 c1_i32_250
  let v662 : BitVec 32 := Scalar.addi c0_i32_251 v661
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v1203 : Index := Scalar.indexCast v670
  let c0_547 : Index := 0#32
  ![0, v1203.toNat, 0]
@[reducible] def k0_t6_loop (i : grid0.Coords) (v1 : BitVec 32) : Scf.Loop 32 :=
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let v614 : BitVec 32 := Scalar.addi c0_i32_252 v613
  let c1_i32_255 : BitVec 32 := 1#32
  ⟨v617, v614, c1_i32_255⟩
def k0_mult11 (i : grid0.Coords) (v1 : BitVec 32) (k0_t6 : Fin (k0_t6_loop i v1).trips) : BitVec 32 :=
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  v669
def k0_mult12 (i : grid0.Coords) (v1 : BitVec 32) (k0_t6 : Fin (k0_t6_loop i v1).trips) : BitVec 32 :=
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  v671
def k0_off23 (i : grid0.Coords) (v1 : BitVec 32) (k0_t6 : Fin (k0_t6_loop i v1).trips) (c0_i32_296 : BitVec 32) : Fin 2 → Nat :=
  let c0_297 : Index := 0#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v676 : BitVec 32 := Scalar.addi v672 c0_i32_296
  let v677 : Index := Scalar.indexCast v676
  ![0, v677.toNat]
def k0_off24 (i : grid0.Coords) (v1 : BitVec 32) (k0_t6 : Fin (k0_t6_loop i v1).trips) (c0_i32_324 : BitVec 32) : Fin 2 → Nat :=
  let c32_325 : Index := 32#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v742 : BitVec 32 := Scalar.addi v672 c0_i32_324
  let v743 : Index := Scalar.indexCast v742
  ![32, v743.toNat]
def k0_off25 (i : grid0.Coords) (v1 : BitVec 32) (k0_t6 : Fin (k0_t6_loop i v1).trips) (c0_i32_356 : BitVec 32) : Fin 2 → Nat :=
  let c64_357 : Index := 64#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v808 : BitVec 32 := Scalar.addi v672 c0_i32_356
  let v809 : Index := Scalar.indexCast v808
  ![64, v809.toNat]
def k0_off26 (i : grid0.Coords) (v1 : BitVec 32) (k0_t6 : Fin (k0_t6_loop i v1).trips) (c0_i32_388 : BitVec 32) : Fin 2 → Nat :=
  let c96_389 : Index := 96#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v874 : BitVec 32 := Scalar.addi v672 c0_i32_388
  let v875 : Index := Scalar.indexCast v874
  ![96, v875.toNat]
def k0_off27 (i : grid0.Coords) (v1 : BitVec 32) (k0_t6 : Fin (k0_t6_loop i v1).trips) (c0_i32_420 : BitVec 32) : Fin 2 → Nat :=
  let c128_421 : Index := 128#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v940 : BitVec 32 := Scalar.addi v672 c0_i32_420
  let v941 : Index := Scalar.indexCast v940
  ![128, v941.toNat]
def k0_off28 (i : grid0.Coords) (v1 : BitVec 32) (k0_t6 : Fin (k0_t6_loop i v1).trips) (c0_i32_452 : BitVec 32) : Fin 2 → Nat :=
  let c160_453 : Index := 160#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v1006 : BitVec 32 := Scalar.addi v672 c0_i32_452
  let v1007 : Index := Scalar.indexCast v1006
  ![160, v1007.toNat]
def k0_off29 (i : grid0.Coords) (v1 : BitVec 32) (k0_t6 : Fin (k0_t6_loop i v1).trips) (c0_i32_484 : BitVec 32) : Fin 2 → Nat :=
  let c192_485 : Index := 192#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v1072 : BitVec 32 := Scalar.addi v672 c0_i32_484
  let v1073 : Index := Scalar.indexCast v1072
  ![192, v1073.toNat]
def k0_off30 (i : grid0.Coords) (v1 : BitVec 32) (k0_t6 : Fin (k0_t6_loop i v1).trips) (c0_i32_516 : BitVec 32) : Fin 2 → Nat :=
  let c224_517 : Index := 224#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let c512_i32_289 : BitVec 32 := 512#32
  let v671 : BitVec 32 := Scalar.muli v662 c512_i32_289
  let v672 : BitVec 32 := v671
  let v1138 : BitVec 32 := Scalar.addi v672 c0_i32_516
  let v1139 : Index := Scalar.indexCast v1138
  ![224, v1139.toNat]
def k0_off31 (i : grid0.Coords) (v1 : BitVec 32) (k0_t6 : Fin (k0_t6_loop i v1).trips) : Fin 3 → Nat :=
  let c0_546 : Index := 0#32
  let c0_i32_251 : BitVec 32 := 0#32
  let c0_i32_252 : BitVec 32 := 0#32
  let c0_i32_179 : BitVec 32 := 0#32
  let v492 : BitVec 1 := Scalar.cmpi .sgt v1 c0_i32_179
  let v493 : BitVec 32 := Scalar.extui v492
  let c0_i32_180 : BitVec 32 := 0#32
  let v494 : BitVec 1 := Scalar.cmpi .slt v1 c0_i32_180
  let v495 : BitVec 32 := Scalar.extui v494
  let v496 : BitVec 32 := Scalar.subi v493 v495
  let c512_i32 : BitVec 32 := 512#32
  let c0_i32_181 : BitVec 32 := 0#32
  let v497 : BitVec 1 := Scalar.cmpi .sgt c512_i32 c0_i32_181
  let v498 : BitVec 32 := Scalar.extui v497
  let c0_i32_182 : BitVec 32 := 0#32
  let v499 : BitVec 1 := Scalar.cmpi .slt c512_i32 c0_i32_182
  let v500 : BitVec 32 := Scalar.extui v499
  let v501 : BitVec 32 := Scalar.subi v498 v500
  let v502 : BitVec 1 := Scalar.cmpi .ne v496 v501
  let v503 : BitVec 32 := Scalar.remsi v1 c512_i32
  let c0_i32_183 : BitVec 32 := 0#32
  let v504 : BitVec 1 := Scalar.cmpi .ne v503 c0_i32_183
  let v505 : BitVec 1 := Scalar.andi v502 v504
  let v491 : BitVec 32 := Scalar.divsi v1 c512_i32
  let c1_i32 : BitVec 32 := 1#32
  let v506 : BitVec 32 := Scalar.subi v491 c1_i32
  let v507 : BitVec 32 := Scalar.select v505 v506 v491
  let c512_i32_203 : BitVec 32 := 512#32
  let c0_i32_204 : BitVec 32 := 0#32
  let v550 : BitVec 1 := Scalar.cmpi .eq c512_i32_203 c0_i32_204
  let c1_i32_205 : BitVec 32 := 1#32
  let v551 : BitVec 32 := Scalar.select v550 c1_i32_205 c512_i32_203
  let v552 : BitVec 32 := Scalar.remsi v1 v551
  let c0_i32_207 : BitVec 32 := 0#32
  let v554 : BitVec 1 := Scalar.cmpi .slt v552 c0_i32_207
  let c0_i32_208 : BitVec 32 := 0#32
  let v555 : BitVec 1 := Scalar.cmpi .slt v551 c0_i32_208
  let v556 : BitVec 1 := Scalar.xori v554 v555
  let c0_i32_206 : BitVec 32 := 0#32
  let v553 : BitVec 1 := Scalar.cmpi .ne v552 c0_i32_206
  let v557 : BitVec 1 := Scalar.andi v556 v553
  let v558 : BitVec 32 := Scalar.addi v552 v551
  let v559 : BitVec 32 := Scalar.select v557 v558 v552
  let c0_i32_209 : BitVec 32 := 0#32
  let v560 : BitVec 1 := Scalar.cmpi .ne v559 c0_i32_209
  let arg1 : BitVec 32 := BitVec.ofNat 32 (i 1).val
  let c32_i32 : BitVec 32 := 32#32
  let v2 : BitVec 32 := Scalar.muli arg1 c32_i32
  let c32_i32_192 : BitVec 32 := 32#32
  let v528 : BitVec 32 := Scalar.addi v2 c32_i32_192
  let c1_i32_193 : BitVec 32 := 1#32
  let v529 : BitVec 32 := Scalar.subi v528 c1_i32_193
  let c0_i32_195 : BitVec 32 := 0#32
  let v531 : BitVec 1 := Scalar.cmpi .sgt v529 c0_i32_195
  let v532 : BitVec 32 := Scalar.extui v531
  let c0_i32_196 : BitVec 32 := 0#32
  let v533 : BitVec 1 := Scalar.cmpi .slt v529 c0_i32_196
  let v534 : BitVec 32 := Scalar.extui v533
  let v535 : BitVec 32 := Scalar.subi v532 v534
  let c512_i32_194 : BitVec 32 := 512#32
  let c0_i32_197 : BitVec 32 := 0#32
  let v536 : BitVec 1 := Scalar.cmpi .sgt c512_i32_194 c0_i32_197
  let v537 : BitVec 32 := Scalar.extui v536
  let c0_i32_198 : BitVec 32 := 0#32
  let v538 : BitVec 1 := Scalar.cmpi .slt c512_i32_194 c0_i32_198
  let v539 : BitVec 32 := Scalar.extui v538
  let v540 : BitVec 32 := Scalar.subi v537 v539
  let v541 : BitVec 1 := Scalar.cmpi .ne v535 v540
  let v542 : BitVec 32 := Scalar.remsi v529 c512_i32_194
  let c0_i32_199 : BitVec 32 := 0#32
  let v543 : BitVec 1 := Scalar.cmpi .ne v542 c0_i32_199
  let v544 : BitVec 1 := Scalar.andi v541 v543
  let v530 : BitVec 32 := Scalar.divsi v529 c512_i32_194
  let c1_i32_200 : BitVec 32 := 1#32
  let v545 : BitVec 32 := Scalar.subi v530 c1_i32_200
  let v546 : BitVec 32 := Scalar.select v544 v545 v530
  let c1_i32_201 : BitVec 32 := 1#32
  let v547 : BitVec 32 := Scalar.addi v546 c1_i32_201
  let c1023_i32 : BitVec 32 := 1023#32
  let v508 : BitVec 32 := Scalar.subi v2 c1023_i32
  let c0_i32_184 : BitVec 32 := 0#32
  let v509 : BitVec 32 := Scalar.maxsi v508 c0_i32_184
  let c0_i32_186 : BitVec 32 := 0#32
  let v511 : BitVec 1 := Scalar.cmpi .sgt v509 c0_i32_186
  let v512 : BitVec 32 := Scalar.extui v511
  let c0_i32_187 : BitVec 32 := 0#32
  let v513 : BitVec 1 := Scalar.cmpi .slt v509 c0_i32_187
  let v514 : BitVec 32 := Scalar.extui v513
  let v515 : BitVec 32 := Scalar.subi v512 v514
  let c512_i32_185 : BitVec 32 := 512#32
  let c0_i32_188 : BitVec 32 := 0#32
  let v516 : BitVec 1 := Scalar.cmpi .sgt c512_i32_185 c0_i32_188
  let v517 : BitVec 32 := Scalar.extui v516
  let c0_i32_189 : BitVec 32 := 0#32
  let v518 : BitVec 1 := Scalar.cmpi .slt c512_i32_185 c0_i32_189
  let v519 : BitVec 32 := Scalar.extui v518
  let v520 : BitVec 32 := Scalar.subi v517 v519
  let v521 : BitVec 1 := Scalar.cmpi .ne v515 v520
  let v522 : BitVec 32 := Scalar.remsi v509 c512_i32_185
  let c0_i32_190 : BitVec 32 := 0#32
  let v523 : BitVec 1 := Scalar.cmpi .ne v522 c0_i32_190
  let v524 : BitVec 1 := Scalar.andi v521 v523
  let v510 : BitVec 32 := Scalar.divsi v509 c512_i32_185
  let c1_i32_191 : BitVec 32 := 1#32
  let v525 : BitVec 32 := Scalar.subi v510 c1_i32_191
  let v526 : BitVec 32 := Scalar.select v524 v525 v510
  let v527 : BitVec 32 := Scalar.maxsi v507 v526
  let v548 : BitVec 32 := Scalar.subi v547 v527
  let c0_i32_202 : BitVec 32 := 0#32
  let v549 : BitVec 32 := Scalar.maxsi v548 c0_i32_202
  let c0_i32_210 : BitVec 32 := 0#32
  let v561 : BitVec 1 := Scalar.cmpi .eq v549 c0_i32_210
  let v562 : BitVec 1 := Scalar.cmpi .sgt v527 v507
  let v563 : BitVec 1 := Scalar.ori v561 v562
  let v564 : BitVec 1 := Scalar.andi v560 v563
  let v565 : BitVec 32 := Scalar.extui v564
  let v566 : BitVec 32 := Scalar.addi v507 v565
  let v567 : BitVec 32 := Scalar.addi v566 v549
  let c0_i32_246 : BitVec 32 := 0#32
  let v609 : BitVec 32 := Scalar.subi v567 c0_i32_246
  let c1_i32_247 : BitVec 32 := 1#32
  let c1_i32_248 : BitVec 32 := 1#32
  let v610 : BitVec 32 := Scalar.subi c1_i32_247 c1_i32_248
  let v611 : BitVec 32 := Scalar.addi v609 v610
  let c1_i32_249 : BitVec 32 := 1#32
  let v612 : BitVec 32 := Scalar.divsi v611 c1_i32_249
  let v613 : BitVec 32 := Scalar.subi v612 c0_i32_252
  let c1_i32_253 : BitVec 32 := 1#32
  let v615 : BitVec 32 := Scalar.divsi v613 c1_i32_253
  let v616 : BitVec 32 := Scalar.muli v615 c1_i32_253
  let v617 : BitVec 32 := Scalar.addi c0_i32_252 v616
  let c1_i32_255 : BitVec 32 := 1#32
  let arg17 : BitVec 32 := Scf.iv v617 c1_i32_255 k0_t6
  let c1_i32_250 : BitVec 32 := 1#32
  let v661 : BitVec 32 := Scalar.muli arg17 c1_i32_250
  let v662 : BitVec 32 := Scalar.addi c0_i32_251 v661
  let v663 : BitVec 32 := Scalar.addi v507 v565
  let v664 : BitVec 1 := Scalar.cmpi .slt v662 v663
  let v665 : BitVec 32 := Scalar.addi v527 v662
  let v666 : BitVec 32 := Scalar.subi v665 v507
  let v667 : BitVec 32 := Scalar.subi v666 v565
  let v668 : BitVec 32 := Scalar.select v664 v662 v667
  let c512_i32_288 : BitVec 32 := 512#32
  let v669 : BitVec 32 := Scalar.muli v668 c512_i32_288
  let v670 : BitVec 32 := v669
  let v1203 : Index := Scalar.indexCast v670
  let c0_547 : Index := 0#32
  ![0, v1203.toNat, 0]

def k0_chk1_0 (i : grid0.Coords) (v1 : BitVec 32) : Prop :=
  ((k0_t1_loop v1).OK) ∧
  (∀ k0_t1 : Fin (k0_t1_loop v1).trips, 512 ∣ (k0_mult1 i v1 k0_t1).toNat) ∧
  (∀ k0_t1 : Fin (k0_t1_loop v1).trips, 512 ∣ (k0_mult2 v1 k0_t1).toNat) ∧
  (∀ k0_t1 : Fin (k0_t1_loop v1).trips, ∀ a, (k0_off2 i v1 k0_t1) a + S1x512x256.size a ≤ S1x32768x256.size a) ∧
  (∀ k0_t1 : Fin (k0_t1_loop v1).trips, ∀ a, (k0_off3 i v1 k0_t1) a + S1x1x512.size a ≤ S1x1x32768.size a) ∧
  (∀ k0_t1 : Fin (k0_t1_loop v1).trips, ∀ a, (k0_off4 v1 k0_t1) a + S256x512.size a ≤ S256x32768.size a) ∧
  ((k0_t2_loop v1).OK) ∧
  (∀ k0_t2 : Fin (k0_t2_loop v1).trips, 512 ∣ (k0_mult3 i v1 k0_t2).toNat) ∧
  (∀ k0_t2 : Fin (k0_t2_loop v1).trips, 512 ∣ (k0_mult4 v1 k0_t2).toNat) ∧
  (∀ k0_t2 : Fin (k0_t2_loop v1).trips, ∀ a, (k0_off5 i v1 k0_t2) a + S1x512x256.size a ≤ S1x32768x256.size a) ∧
  (∀ k0_t2 : Fin (k0_t2_loop v1).trips, ∀ a, (k0_off6 i v1 k0_t2) a + S1x1x512.size a ≤ S1x1x32768.size a) ∧
  (∀ k0_t2 : Fin (k0_t2_loop v1).trips, ∀ a, (k0_off7 v1 k0_t2) a + S256x512.size a ≤ S256x32768.size a) ∧
  ((k0_t3_loop i v1).OK) ∧
  (∀ k0_t3 : Fin (k0_t3_loop i v1).trips, 512 ∣ (k0_mult5 i v1 k0_t3).toNat) ∧
  (∀ k0_t3 : Fin (k0_t3_loop i v1).trips, 512 ∣ (k0_mult6 i v1 k0_t3).toNat) ∧
  (∀ k0_t3 : Fin (k0_t3_loop i v1).trips, ∀ a, (k0_off8 i v1 k0_t3) a + S1x512x256.size a ≤ S1x32768x256.size a) ∧
  (∀ k0_t3 : Fin (k0_t3_loop i v1).trips, ∀ a, (k0_off9 i v1 k0_t3) a + S1x1x512.size a ≤ S1x1x32768.size a) ∧
  (∀ k0_t3 : Fin (k0_t3_loop i v1).trips, ∀ a, (k0_off10 i v1 k0_t3) a + S256x512.size a ≤ S256x32768.size a) ∧
  ((k0_t4_loop i v1).OK) ∧
  (∀ k0_t4 : Fin (k0_t4_loop i v1).trips, 512 ∣ (k0_mult7 i v1 k0_t4).toNat) ∧
  (∀ k0_t4 : Fin (k0_t4_loop i v1).trips, 512 ∣ (k0_mult8 i v1 k0_t4).toNat) ∧
  (∀ k0_t4 : Fin (k0_t4_loop i v1).trips, ∀ a, (k0_off11 i v1 k0_t4) a + S1x512x256.size a ≤ S1x32768x256.size a) ∧
  (∀ k0_t4 : Fin (k0_t4_loop i v1).trips, ∀ a, (k0_off12 i v1 k0_t4) a + S1x1x512.size a ≤ S1x1x32768.size a) ∧
  (∀ k0_t4 : Fin (k0_t4_loop i v1).trips, ∀ a, (k0_off13 i v1 k0_t4) a + S256x512.size a ≤ S256x32768.size a) ∧
  ((k0_t5_loop i v1).OK) ∧
  (∀ k0_t5 : Fin (k0_t5_loop i v1).trips, 512 ∣ (k0_mult9 i v1 k0_t5).toNat) ∧
  (∀ k0_t5 : Fin (k0_t5_loop i v1).trips, 512 ∣ (k0_mult10 i v1 k0_t5).toNat) ∧
  (∀ k0_t5 : Fin (k0_t5_loop i v1).trips, ∀ (r : Fin 4), ∀ a, (k0_off14 i v1 k0_t5 (BitVec.ofNat 32 (128 * r.val))) a + S32x128.size a ≤ S256x32768.size a) ∧
  (∀ k0_t5 : Fin (k0_t5_loop i v1).trips, ∀ (r : Fin 4), ∀ a, (k0_off15 i v1 k0_t5 (BitVec.ofNat 32 (128 * r.val))) a + S32x128.size a ≤ S256x32768.size a) ∧
  (∀ k0_t5 : Fin (k0_t5_loop i v1).trips, ∀ (r : Fin 4), ∀ a, (k0_off16 i v1 k0_t5 (BitVec.ofNat 32 (128 * r.val))) a + S32x128.size a ≤ S256x32768.size a) ∧
  (∀ k0_t5 : Fin (k0_t5_loop i v1).trips, ∀ (r : Fin 4), ∀ a, (k0_off17 i v1 k0_t5 (BitVec.ofNat 32 (128 * r.val))) a + S32x128.size a ≤ S256x32768.size a) ∧
  (∀ k0_t5 : Fin (k0_t5_loop i v1).trips, ∀ (r : Fin 4), ∀ a, (k0_off18 i v1 k0_t5 (BitVec.ofNat 32 (128 * r.val))) a + S32x128.size a ≤ S256x32768.size a)
def k0_chk1_1 (i : grid0.Coords) (v1 : BitVec 32) : Prop :=
  (∀ k0_t5 : Fin (k0_t5_loop i v1).trips, ∀ (r : Fin 4), ∀ a, (k0_off19 i v1 k0_t5 (BitVec.ofNat 32 (128 * r.val))) a + S32x128.size a ≤ S256x32768.size a) ∧
  (∀ k0_t5 : Fin (k0_t5_loop i v1).trips, ∀ (r : Fin 4), ∀ a, (k0_off20 i v1 k0_t5 (BitVec.ofNat 32 (128 * r.val))) a + S32x128.size a ≤ S256x32768.size a) ∧
  (∀ k0_t5 : Fin (k0_t5_loop i v1).trips, ∀ (r : Fin 4), ∀ a, (k0_off21 i v1 k0_t5 (BitVec.ofNat 32 (128 * r.val))) a + S32x128.size a ≤ S256x32768.size a) ∧
  (∀ k0_t5 : Fin (k0_t5_loop i v1).trips, ∀ a, (k0_off22 i v1 k0_t5) a + S1x512x256.size a ≤ S1x32768x256.size a) ∧
  ((k0_t6_loop i v1).OK) ∧
  (∀ k0_t6 : Fin (k0_t6_loop i v1).trips, 512 ∣ (k0_mult11 i v1 k0_t6).toNat) ∧
  (∀ k0_t6 : Fin (k0_t6_loop i v1).trips, 512 ∣ (k0_mult12 i v1 k0_t6).toNat) ∧
  (∀ k0_t6 : Fin (k0_t6_loop i v1).trips, ∀ (r : Fin 4), ∀ a, (k0_off23 i v1 k0_t6 (BitVec.ofNat 32 (128 * r.val))) a + S32x128.size a ≤ S256x32768.size a) ∧
  (∀ k0_t6 : Fin (k0_t6_loop i v1).trips, ∀ (r : Fin 4), ∀ a, (k0_off24 i v1 k0_t6 (BitVec.ofNat 32 (128 * r.val))) a + S32x128.size a ≤ S256x32768.size a) ∧
  (∀ k0_t6 : Fin (k0_t6_loop i v1).trips, ∀ (r : Fin 4), ∀ a, (k0_off25 i v1 k0_t6 (BitVec.ofNat 32 (128 * r.val))) a + S32x128.size a ≤ S256x32768.size a) ∧
  (∀ k0_t6 : Fin (k0_t6_loop i v1).trips, ∀ (r : Fin 4), ∀ a, (k0_off26 i v1 k0_t6 (BitVec.ofNat 32 (128 * r.val))) a + S32x128.size a ≤ S256x32768.size a) ∧
  (∀ k0_t6 : Fin (k0_t6_loop i v1).trips, ∀ (r : Fin 4), ∀ a, (k0_off27 i v1 k0_t6 (BitVec.ofNat 32 (128 * r.val))) a + S32x128.size a ≤ S256x32768.size a) ∧
  (∀ k0_t6 : Fin (k0_t6_loop i v1).trips, ∀ (r : Fin 4), ∀ a, (k0_off28 i v1 k0_t6 (BitVec.ofNat 32 (128 * r.val))) a + S32x128.size a ≤ S256x32768.size a) ∧
  (∀ k0_t6 : Fin (k0_t6_loop i v1).trips, ∀ (r : Fin 4), ∀ a, (k0_off29 i v1 k0_t6 (BitVec.ofNat 32 (128 * r.val))) a + S32x128.size a ≤ S256x32768.size a) ∧
  (∀ k0_t6 : Fin (k0_t6_loop i v1).trips, ∀ (r : Fin 4), ∀ a, (k0_off30 i v1 k0_t6 (BitVec.ofNat 32 (128 * r.val))) a + S32x128.size a ≤ S256x32768.size a) ∧
  (∀ k0_t6 : Fin (k0_t6_loop i v1).trips, ∀ a, (k0_off31 i v1 k0_t6) a + S1x512x256.size a ≤ S1x32768x256.size a)
def k0_chk1 (i : grid0.Coords) (v1 : BitVec 32) : Prop :=
  k0_chk1_0 i v1 ∧
  k0_chk1_1 i v1
theorem k0_t1_ok : ∀ (i : grid0.Coords) (v1 : BitVec 32) (k0_hw1 : k0_chk1 i v1), (k0_t1_loop v1).OK := fun i v1 k0_hw1 => k0_hw1.1.1
theorem k0_mult1_dvd : ∀ (i : grid0.Coords) (v1 : BitVec 32) (k0_hw1 : k0_chk1 i v1) (k0_t1 : Fin (k0_t1_loop v1).trips), 512 ∣ (k0_mult1 i v1 k0_t1).toNat := fun i v1 k0_hw1 k0_t1 => k0_hw1.1.2.1 k0_t1
theorem k0_mult2_dvd : ∀ (i : grid0.Coords) (v1 : BitVec 32) (k0_hw1 : k0_chk1 i v1) (k0_t1 : Fin (k0_t1_loop v1).trips), 512 ∣ (k0_mult2 v1 k0_t1).toNat := fun i v1 k0_hw1 k0_t1 => k0_hw1.1.2.2.1 k0_t1
theorem k0_off2_inb : ∀ (i : grid0.Coords) (v1 : BitVec 32) (k0_hw1 : k0_chk1 i v1) (k0_t1 : Fin (k0_t1_loop v1).trips), ∀ a, (k0_off2 i v1 k0_t1) a + S1x512x256.size a ≤ S1x32768x256.size a := fun i v1 k0_hw1 k0_t1 => k0_hw1.1.2.2.2.1 k0_t1
theorem k0_off3_inb : ∀ (i : grid0.Coords) (v1 : BitVec 32) (k0_hw1 : k0_chk1 i v1) (k0_t1 : Fin (k0_t1_loop v1).trips), ∀ a, (k0_off3 i v1 k0_t1) a + S1x1x512.size a ≤ S1x1x32768.size a := fun i v1 k0_hw1 k0_t1 => k0_hw1.1.2.2.2.2.1 k0_t1
theorem k0_off4_inb : ∀ (i : grid0.Coords) (v1 : BitVec 32) (k0_hw1 : k0_chk1 i v1) (k0_t1 : Fin (k0_t1_loop v1).trips), ∀ a, (k0_off4 v1 k0_t1) a + S256x512.size a ≤ S256x32768.size a := fun i v1 k0_hw1 k0_t1 => k0_hw1.1.2.2.2.2.2.1 k0_t1
theorem k0_t2_ok : ∀ (i : grid0.Coords) (v1 : BitVec 32) (k0_hw1 : k0_chk1 i v1), (k0_t2_loop v1).OK := fun i v1 k0_hw1 => k0_hw1.1.2.2.2.2.2.2.1
theorem k0_mult3_dvd : ∀ (i : grid0.Coords) (v1 : BitVec 32) (k0_hw1 : k0_chk1 i v1) (k0_t2 : Fin (k0_t2_loop v1).trips), 512 ∣ (k0_mult3 i v1 k0_t2).toNat := fun i v1 k0_hw1 k0_t2 => k0_hw1.1.2.2.2.2.2.2.2.1 k0_t2
theorem k0_mult4_dvd : ∀ (i : grid0.Coords) (v1 : BitVec 32) (k0_hw1 : k0_chk1 i v1) (k0_t2 : Fin (k0_t2_loop v1).trips), 512 ∣ (k0_mult4 v1 k0_t2).toNat := fun i v1 k0_hw1 k0_t2 => k0_hw1.1.2.2.2.2.2.2.2.2.1 k0_t2
theorem k0_off5_inb : ∀ (i : grid0.Coords) (v1 : BitVec 32) (k0_hw1 : k0_chk1 i v1) (k0_t2 : Fin (k0_t2_loop v1).trips), ∀ a, (k0_off5 i v1 k0_t2) a + S1x512x256.size a ≤ S1x32768x256.size a := fun i v1 k0_hw1 k0_t2 => k0_hw1.1.2.2.2.2.2.2.2.2.2.1 k0_t2
theorem k0_off6_inb : ∀ (i : grid0.Coords) (v1 : BitVec 32) (k0_hw1 : k0_chk1 i v1) (k0_t2 : Fin (k0_t2_loop v1).trips), ∀ a, (k0_off6 i v1 k0_t2) a + S1x1x512.size a ≤ S1x1x32768.size a := fun i v1 k0_hw1 k0_t2 => k0_hw1.1.2.2.2.2.2.2.2.2.2.2.1 k0_t2
theorem k0_off7_inb : ∀ (i : grid0.Coords) (v1 : BitVec 32) (k0_hw1 : k0_chk1 i v1) (k0_t2 : Fin (k0_t2_loop v1).trips), ∀ a, (k0_off7 v1 k0_t2) a + S256x512.size a ≤ S256x32768.size a := fun i v1 k0_hw1 k0_t2 => k0_hw1.1.2.2.2.2.2.2.2.2.2.2.2.1 k0_t2
theorem k0_t3_ok : ∀ (i : grid0.Coords) (v1 : BitVec 32) (k0_hw1 : k0_chk1 i v1), (k0_t3_loop i v1).OK := fun i v1 k0_hw1 => k0_hw1.1.2.2.2.2.2.2.2.2.2.2.2.2.1
theorem k0_mult5_dvd : ∀ (i : grid0.Coords) (v1 : BitVec 32) (k0_hw1 : k0_chk1 i v1) (k0_t3 : Fin (k0_t3_loop i v1).trips), 512 ∣ (k0_mult5 i v1 k0_t3).toNat := fun i v1 k0_hw1 k0_t3 => k0_hw1.1.2.2.2.2.2.2.2.2.2.2.2.2.2.1 k0_t3
theorem k0_mult6_dvd : ∀ (i : grid0.Coords) (v1 : BitVec 32) (k0_hw1 : k0_chk1 i v1) (k0_t3 : Fin (k0_t3_loop i v1).trips), 512 ∣ (k0_mult6 i v1 k0_t3).toNat := fun i v1 k0_hw1 k0_t3 => k0_hw1.1.2.2.2.2.2.2.2.2.2.2.2.2.2.2.1 k0_t3
theorem k0_off8_inb : ∀ (i : grid0.Coords) (v1 : BitVec 32) (k0_hw1 : k0_chk1 i v1) (k0_t3 : Fin (k0_t3_loop i v1).trips), ∀ a, (k0_off8 i v1 k0_t3) a + S1x512x256.size a ≤ S1x32768x256.size a := fun i v1 k0_hw1 k0_t3 => k0_hw1.1.2.2.2.2.2.2.2.2.2.2.2.2.2.2.2.1 k0_t3
theorem k0_off9_inb : ∀ (i : grid0.Coords) (v1 : BitVec 32) (k0_hw1 : k0_chk1 i v1) (k0_t3 : Fin (k0_t3_loop i v1).trips), ∀ a, (k0_off9 i v1 k0_t3) a + S1x1x512.size a ≤ S1x1x32768.size a := fun i v1 k0_hw1 k0_t3 => k0_hw1.1.2.2.2.2.2.2.2.2.2.2.2.2.2.2.2.2.1 k0_t3
theorem k0_off10_inb : ∀ (i : grid0.Coords) (v1 : BitVec 32) (k0_hw1 : k0_chk1 i v1) (k0_t3 : Fin (k0_t3_loop i v1).trips), ∀ a, (k0_off10 i v1 k0_t3) a + S256x512.size a ≤ S256x32768.size a := fun i v1 k0_hw1 k0_t3 => k0_hw1.1.2.2.2.2.2.2.2.2.2.2.2.2.2.2.2.2.2.1 k0_t3
theorem k0_t4_ok : ∀ (i : grid0.Coords) (v1 : BitVec 32) (k0_hw1 : k0_chk1 i v1), (k0_t4_loop i v1).OK := fun i v1 k0_hw1 => k0_hw1.1.2.2.2.2.2.2.2.2.2.2.2.2.2.2.2.2.2.2.1
theorem k0_mult7_dvd : ∀ (i : grid0.Coords) (v1 : BitVec 32) (k0_hw1 : k0_chk1 i v1) (k0_t4 : Fin (k0_t4_loop i v1).trips), 512 ∣ (k0_mult7 i v1 k0_t4).toNat := fun i v1 k0_hw1 k0_t4 => k0_hw1.1.2.2.2.2.2.2.2.2.2.2.2.2.2.2.2.2.2.2.2.1 k0_t4
theorem k0_mult8_dvd : ∀ (i : grid0.Coords) (v1 : BitVec 32) (k0_hw1 : k0_chk1 i v1) (k0_t4 : Fin (k0_t4_loop i v1).trips), 512 ∣ (k0_mult8 i v1 k0_t4).toNat := fun i v1 k0_hw1 k0_t4 => k0_hw1.1.2.2.2.2.2.2.2.2.2.2.2.2.2.2.2.2.2.2.2.2.1 k0_t4
theorem k0_off11_inb : ∀ (i : grid0.Coords) (v1 : BitVec 32) (k0_hw1 : k0_chk1 i v1) (k0_t4 : Fin (k0_t4_loop i v1).trips), ∀ a, (k0_off11 i v1 k0_t4) a + S1x512x256.size a ≤ S1x32768x256.size a := fun i v1 k0_hw1 k0_t4 => k0_hw1.1.2.2.2.2.2.2.2.2.2.2.2.2.2.2.2.2.2.2.2.2.2.1 k0_t4
theorem k0_off12_inb : ∀ (i : grid0.Coords) (v1 : BitVec 32) (k0_hw1 : k0_chk1 i v1) (k0_t4 : Fin (k0_t4_loop i v1).trips), ∀ a, (k0_off12 i v1 k0_t4) a + S1x1x512.size a ≤ S1x1x32768.size a := fun i v1 k0_hw1 k0_t4 => k0_hw1.1.2.2.2.2.2.2.2.2.2.2.2.2.2.2.2.2.2.2.2.2.2.2.1 k0_t4
theorem k0_off13_inb : ∀ (i : grid0.Coords) (v1 : BitVec 32) (k0_hw1 : k0_chk1 i v1) (k0_t4 : Fin (k0_t4_loop i v1).trips), ∀ a, (k0_off13 i v1 k0_t4) a + S256x512.size a ≤ S256x32768.size a := fun i v1 k0_hw1 k0_t4 => k0_hw1.1.2.2.2.2.2.2.2.2.2.2.2.2.2.2.2.2.2.2.2.2.2.2.2.1 k0_t4
theorem k0_t5_ok : ∀ (i : grid0.Coords) (v1 : BitVec 32) (k0_hw1 : k0_chk1 i v1), (k0_t5_loop i v1).OK := fun i v1 k0_hw1 => k0_hw1.1.2.2.2.2.2.2.2.2.2.2.2.2.2.2.2.2.2.2.2.2.2.2.2.2.1
theorem k0_mult9_dvd : ∀ (i : grid0.Coords) (v1 : BitVec 32) (k0_hw1 : k0_chk1 i v1) (k0_t5 : Fin (k0_t5_loop i v1).trips), 512 ∣ (k0_mult9 i v1 k0_t5).toNat := fun i v1 k0_hw1 k0_t5 => k0_hw1.1.2.2.2.2.2.2.2.2.2.2.2.2.2.2.2.2.2.2.2.2.2.2.2.2.2.1 k0_t5
theorem k0_mult10_dvd : ∀ (i : grid0.Coords) (v1 : BitVec 32) (k0_hw1 : k0_chk1 i v1) (k0_t5 : Fin (k0_t5_loop i v1).trips), 512 ∣ (k0_mult10 i v1 k0_t5).toNat := fun i v1 k0_hw1 k0_t5 => k0_hw1.1.2.2.2.2.2.2.2.2.2.2.2.2.2.2.2.2.2.2.2.2.2.2.2.2.2.2.1 k0_t5
theorem k0_off14_inb : ∀ (i : grid0.Coords) (v1 : BitVec 32) (k0_hw1 : k0_chk1 i v1) (k0_t5 : Fin (k0_t5_loop i v1).trips), ∀ (r : Fin 4), ∀ a, (k0_off14 i v1 k0_t5 (BitVec.ofNat 32 (128 * r.val))) a + S32x128.size a ≤ S256x32768.size a := fun i v1 k0_hw1 k0_t5 r => k0_hw1.1.2.2.2.2.2.2.2.2.2.2.2.2.2.2.2.2.2.2.2.2.2.2.2.2.2.2.2.1 k0_t5 r
theorem k0_off15_inb : ∀ (i : grid0.Coords) (v1 : BitVec 32) (k0_hw1 : k0_chk1 i v1) (k0_t5 : Fin (k0_t5_loop i v1).trips), ∀ (r : Fin 4), ∀ a, (k0_off15 i v1 k0_t5 (BitVec.ofNat 32 (128 * r.val))) a + S32x128.size a ≤ S256x32768.size a := fun i v1 k0_hw1 k0_t5 r => k0_hw1.1.2.2.2.2.2.2.2.2.2.2.2.2.2.2.2.2.2.2.2.2.2.2.2.2.2.2.2.2.1 k0_t5 r
theorem k0_off16_inb : ∀ (i : grid0.Coords) (v1 : BitVec 32) (k0_hw1 : k0_chk1 i v1) (k0_t5 : Fin (k0_t5_loop i v1).trips), ∀ (r : Fin 4), ∀ a, (k0_off16 i v1 k0_t5 (BitVec.ofNat 32 (128 * r.val))) a + S32x128.size a ≤ S256x32768.size a := fun i v1 k0_hw1 k0_t5 r => k0_hw1.1.2.2.2.2.2.2.2.2.2.2.2.2.2.2.2.2.2.2.2.2.2.2.2.2.2.2.2.2.2.1 k0_t5 r
theorem k0_off17_inb : ∀ (i : grid0.Coords) (v1 : BitVec 32) (k0_hw1 : k0_chk1 i v1) (k0_t5 : Fin (k0_t5_loop i v1).trips), ∀ (r : Fin 4), ∀ a, (k0_off17 i v1 k0_t5 (BitVec.ofNat 32 (128 * r.val))) a + S32x128.size a ≤ S256x32768.size a := fun i v1 k0_hw1 k0_t5 r => k0_hw1.1.2.2.2.2.2.2.2.2.2.2.2.2.2.2.2.2.2.2.2.2.2.2.2.2.2.2.2.2.2.2.1 k0_t5 r
theorem k0_off18_inb : ∀ (i : grid0.Coords) (v1 : BitVec 32) (k0_hw1 : k0_chk1 i v1) (k0_t5 : Fin (k0_t5_loop i v1).trips), ∀ (r : Fin 4), ∀ a, (k0_off18 i v1 k0_t5 (BitVec.ofNat 32 (128 * r.val))) a + S32x128.size a ≤ S256x32768.size a := fun i v1 k0_hw1 k0_t5 r => k0_hw1.1.2.2.2.2.2.2.2.2.2.2.2.2.2.2.2.2.2.2.2.2.2.2.2.2.2.2.2.2.2.2.2 k0_t5 r
theorem k0_off19_inb : ∀ (i : grid0.Coords) (v1 : BitVec 32) (k0_hw1 : k0_chk1 i v1) (k0_t5 : Fin (k0_t5_loop i v1).trips), ∀ (r : Fin 4), ∀ a, (k0_off19 i v1 k0_t5 (BitVec.ofNat 32 (128 * r.val))) a + S32x128.size a ≤ S256x32768.size a := fun i v1 k0_hw1 k0_t5 r => k0_hw1.2.1 k0_t5 r
theorem k0_off20_inb : ∀ (i : grid0.Coords) (v1 : BitVec 32) (k0_hw1 : k0_chk1 i v1) (k0_t5 : Fin (k0_t5_loop i v1).trips), ∀ (r : Fin 4), ∀ a, (k0_off20 i v1 k0_t5 (BitVec.ofNat 32 (128 * r.val))) a + S32x128.size a ≤ S256x32768.size a := fun i v1 k0_hw1 k0_t5 r => k0_hw1.2.2.1 k0_t5 r
theorem k0_off21_inb : ∀ (i : grid0.Coords) (v1 : BitVec 32) (k0_hw1 : k0_chk1 i v1) (k0_t5 : Fin (k0_t5_loop i v1).trips), ∀ (r : Fin 4), ∀ a, (k0_off21 i v1 k0_t5 (BitVec.ofNat 32 (128 * r.val))) a + S32x128.size a ≤ S256x32768.size a := fun i v1 k0_hw1 k0_t5 r => k0_hw1.2.2.2.1 k0_t5 r
theorem k0_off22_inb : ∀ (i : grid0.Coords) (v1 : BitVec 32) (k0_hw1 : k0_chk1 i v1) (k0_t5 : Fin (k0_t5_loop i v1).trips), ∀ a, (k0_off22 i v1 k0_t5) a + S1x512x256.size a ≤ S1x32768x256.size a := fun i v1 k0_hw1 k0_t5 => k0_hw1.2.2.2.2.1 k0_t5
theorem k0_t6_ok : ∀ (i : grid0.Coords) (v1 : BitVec 32) (k0_hw1 : k0_chk1 i v1), (k0_t6_loop i v1).OK := fun i v1 k0_hw1 => k0_hw1.2.2.2.2.2.1
theorem k0_mult11_dvd : ∀ (i : grid0.Coords) (v1 : BitVec 32) (k0_hw1 : k0_chk1 i v1) (k0_t6 : Fin (k0_t6_loop i v1).trips), 512 ∣ (k0_mult11 i v1 k0_t6).toNat := fun i v1 k0_hw1 k0_t6 => k0_hw1.2.2.2.2.2.2.1 k0_t6
theorem k0_mult12_dvd : ∀ (i : grid0.Coords) (v1 : BitVec 32) (k0_hw1 : k0_chk1 i v1) (k0_t6 : Fin (k0_t6_loop i v1).trips), 512 ∣ (k0_mult12 i v1 k0_t6).toNat := fun i v1 k0_hw1 k0_t6 => k0_hw1.2.2.2.2.2.2.2.1 k0_t6
theorem k0_off23_inb : ∀ (i : grid0.Coords) (v1 : BitVec 32) (k0_hw1 : k0_chk1 i v1) (k0_t6 : Fin (k0_t6_loop i v1).trips), ∀ (r : Fin 4), ∀ a, (k0_off23 i v1 k0_t6 (BitVec.ofNat 32 (128 * r.val))) a + S32x128.size a ≤ S256x32768.size a := fun i v1 k0_hw1 k0_t6 r => k0_hw1.2.2.2.2.2.2.2.2.1 k0_t6 r
theorem k0_off24_inb : ∀ (i : grid0.Coords) (v1 : BitVec 32) (k0_hw1 : k0_chk1 i v1) (k0_t6 : Fin (k0_t6_loop i v1).trips), ∀ (r : Fin 4), ∀ a, (k0_off24 i v1 k0_t6 (BitVec.ofNat 32 (128 * r.val))) a + S32x128.size a ≤ S256x32768.size a := fun i v1 k0_hw1 k0_t6 r => k0_hw1.2.2.2.2.2.2.2.2.2.1 k0_t6 r
theorem k0_off25_inb : ∀ (i : grid0.Coords) (v1 : BitVec 32) (k0_hw1 : k0_chk1 i v1) (k0_t6 : Fin (k0_t6_loop i v1).trips), ∀ (r : Fin 4), ∀ a, (k0_off25 i v1 k0_t6 (BitVec.ofNat 32 (128 * r.val))) a + S32x128.size a ≤ S256x32768.size a := fun i v1 k0_hw1 k0_t6 r => k0_hw1.2.2.2.2.2.2.2.2.2.2.1 k0_t6 r
theorem k0_off26_inb : ∀ (i : grid0.Coords) (v1 : BitVec 32) (k0_hw1 : k0_chk1 i v1) (k0_t6 : Fin (k0_t6_loop i v1).trips), ∀ (r : Fin 4), ∀ a, (k0_off26 i v1 k0_t6 (BitVec.ofNat 32 (128 * r.val))) a + S32x128.size a ≤ S256x32768.size a := fun i v1 k0_hw1 k0_t6 r => k0_hw1.2.2.2.2.2.2.2.2.2.2.2.1 k0_t6 r
theorem k0_off27_inb : ∀ (i : grid0.Coords) (v1 : BitVec 32) (k0_hw1 : k0_chk1 i v1) (k0_t6 : Fin (k0_t6_loop i v1).trips), ∀ (r : Fin 4), ∀ a, (k0_off27 i v1 k0_t6 (BitVec.ofNat 32 (128 * r.val))) a + S32x128.size a ≤ S256x32768.size a := fun i v1 k0_hw1 k0_t6 r => k0_hw1.2.2.2.2.2.2.2.2.2.2.2.2.1 k0_t6 r
theorem k0_off28_inb : ∀ (i : grid0.Coords) (v1 : BitVec 32) (k0_hw1 : k0_chk1 i v1) (k0_t6 : Fin (k0_t6_loop i v1).trips), ∀ (r : Fin 4), ∀ a, (k0_off28 i v1 k0_t6 (BitVec.ofNat 32 (128 * r.val))) a + S32x128.size a ≤ S256x32768.size a := fun i v1 k0_hw1 k0_t6 r => k0_hw1.2.2.2.2.2.2.2.2.2.2.2.2.2.1 k0_t6 r
theorem k0_off29_inb : ∀ (i : grid0.Coords) (v1 : BitVec 32) (k0_hw1 : k0_chk1 i v1) (k0_t6 : Fin (k0_t6_loop i v1).trips), ∀ (r : Fin 4), ∀ a, (k0_off29 i v1 k0_t6 (BitVec.ofNat 32 (128 * r.val))) a + S32x128.size a ≤ S256x32768.size a := fun i v1 k0_hw1 k0_t6 r => k0_hw1.2.2.2.2.2.2.2.2.2.2.2.2.2.2.1 k0_t6 r
theorem k0_off30_inb : ∀ (i : grid0.Coords) (v1 : BitVec 32) (k0_hw1 : k0_chk1 i v1) (k0_t6 : Fin (k0_t6_loop i v1).trips), ∀ (r : Fin 4), ∀ a, (k0_off30 i v1 k0_t6 (BitVec.ofNat 32 (128 * r.val))) a + S32x128.size a ≤ S256x32768.size a := fun i v1 k0_hw1 k0_t6 r => k0_hw1.2.2.2.2.2.2.2.2.2.2.2.2.2.2.2.1 k0_t6 r
theorem k0_off31_inb : ∀ (i : grid0.Coords) (v1 : BitVec 32) (k0_hw1 : k0_chk1 i v1) (k0_t6 : Fin (k0_t6_loop i v1).trips), ∀ a, (k0_off31 i v1 k0_t6) a + S1x512x256.size a ≤ S1x32768x256.size a := fun i v1 k0_hw1 k0_t6 => k0_hw1.2.2.2.2.2.2.2.2.2.2.2.2.2.2.2.2 k0_t6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32768x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x32768x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x32768x2048 : Shape := ⟨3, ![2, 32768, 2048]⟩
abbrev S2x32768x256 : Shape := ⟨3, ![2, 32768, 256]⟩
abbrev S2x1x32768 : Shape := ⟨3, ![2, 1, 32768]⟩
abbrev S2x1x256 : Shape := ⟨3, ![2, 1, 256]⟩
abbrev S2 : Shape := ⟨1, ![2]⟩
abbrev S2x1x1 : Shape := ⟨3, ![2, 1, 1]⟩
abbrev S2x262144x256 : Shape := ⟨3, ![2, 262144, 256]⟩
abbrev S2x262144 : Shape := ⟨2, ![2, 262144]⟩
abbrev S2x262144x1 : Shape := ⟨3, ![2, 262144, 1]⟩
abbrev S2x262144x32768 : Shape := ⟨3, ![2, 262144, 32768]⟩

abbrev nBuf : Space → Nat
  | .hbm => 8
  | .vmem => 7
  | .smem => 0
  | _ => 0

abbrev bufTy : (tb : Table) → Fin (tcTables nBuf tb) → BufTy
  | .hbm, ⟨0, _⟩ => ⟨S2x32768x2048, .bf16⟩
  | .hbm, ⟨1, _⟩ => ⟨S2x32768x256, .fp8e4m3⟩
  | .hbm, ⟨2, _⟩ => ⟨S2x1x32768, .f32⟩
  | .hbm, ⟨3, _⟩ => ⟨S2x32768x256, .fp8e4m3⟩
  | .hbm, ⟨4, _⟩ => ⟨S2x1x256, .f32⟩
  | .hbm, ⟨5, _⟩ => ⟨S2, .i32⟩
  | .hbm, ⟨6, _⟩ => ⟨S2x1x1, .i32⟩
  | .hbm, ⟨7, _⟩ => ⟨S2x32768x2048, .bf16⟩
  | .local _ .vmem, ⟨0, _⟩ => ⟨S2x32768x2048, .bf16⟩
  | .local _ .vmem, ⟨1, _⟩ => ⟨S2x32768x256, .fp8e4m3⟩
  | .local _ .vmem, ⟨2, _⟩ => ⟨S2x1x32768, .f32⟩
  | .local _ .vmem, ⟨3, _⟩ => ⟨S2x32768x256, .fp8e4m3⟩
  | .local _ .vmem, ⟨4, _⟩ => ⟨S2x1x256, .f32⟩
  | .local _ .vmem, ⟨5, _⟩ => ⟨S2x1x1, .i32⟩
  | .local _ .vmem, ⟨6, _⟩ => ⟨S2x32768x2048, .bf16⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x32768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Words.lean ====
/-
The kernel's integer scalars, by name. One attention tile starts at token `t0` and reads the row's prefix length `p`;
from the two it computes which key chunks of 512 it visits: `nfull` chunks wholly inside the prefix, possibly one chunk
the prefix cuts (`edge`), and the `nwin` chunks of the attention window, from `wlo` on. Chunks are visited by slot
number; `chunk` says which chunk a slot stands for. Here each of these words is written as the program computes it and
read as a natural number.
-/
module

public import Idealize.ShloMosaic.PureOps
public import Idealize.ShloMosaic.Lib.Affine
public import Idealize.ShloMosaic.Lib.LoopRemainder

@[expose] public section

namespace Cert.Attn

open Idealize.ShloMosaic

/-! ## The words as the program computes them -/

/-- The sign of a word: 1, 0 or -1. -/
def sgn (x : BitVec 32) : BitVec 32 :=
  Scalar.subi (Scalar.extui (Scalar.cmpi .sgt x 0#32)) (Scalar.extui (Scalar.cmpi .slt x 0#32))

/-- `x // 512`, rounding down. -/
def fdiv (x : BitVec 32) : BitVec 32 :=
  Scalar.select (Scalar.andi (Scalar.cmpi .ne (sgn x) (sgn 512#32)) (Scalar.cmpi .ne (Scalar.remsi x 512#32) 0#32))
    (Scalar.subi (Scalar.divsi x 512#32) 1#32) (Scalar.divsi x 512#32)

/-- `x % 512`, with the divisor's sign. -/
def fmod (x : BitVec 32) : BitVec 32 :=
  let d := Scalar.select (Scalar.cmpi .eq 512#32 0#32) 1#32 512#32
  let r := Scalar.remsi x d
  Scalar.select (Scalar.andi (Scalar.xori (Scalar.cmpi .slt r 0#32) (Scalar.cmpi .slt d 0#32)) (Scalar.cmpi .ne r 0#32))
    (Scalar.addi r d) r

def wloW (p t0 : BitVec 32) : BitVec 32 := Scalar.maxsi (fdiv p) (fdiv (Scalar.maxsi (Scalar.subi t0 1023#32) 0#32))
def whiW (t0 : BitVec 32) : BitVec 32 := Scalar.addi (fdiv (Scalar.subi (Scalar.addi t0 32#32) 1#32)) 1#32
def nwinW (p t0 : BitVec 32) : BitVec 32 := Scalar.maxsi (Scalar.subi (whiW t0) (wloW p t0)) 0#32
def edgeW (p t0 : BitVec 32) : BitVec 32 :=
  Scalar.extui (Scalar.andi (Scalar.cmpi .ne (fmod p) 0#32)
    (Scalar.ori (Scalar.cmpi .eq (nwinW p t0) 0#32) (Scalar.cmpi .sgt (wloW p t0) (fdiv p))))
def nslotsW (p t0 : BitVec 32) : BitVec 32 := Scalar.addi (Scalar.addi (fdiv p) (edgeW p t0)) (nwinW p t0)
def chunkW (p t0 s : BitVec 32) : BitVec 32 :=
  Scalar.select (Scalar.cmpi .slt s (Scalar.addi (fdiv p) (edgeW p t0))) s
    (Scalar.subi (Scalar.subi (Scalar.addi (wloW p t0) s) (fdiv p)) (edgeW p t0))
/-- The step count of a loop `fori_loop(a, b)`. -/
def stepsW (a b : BitVec 32) : BitVec 32 :=
  Scalar.subi (Scalar.divsi (Scalar.addi (Scalar.subi b a) (Scalar.subi 1#32 1#32)) 1#32) 0#32
/-- The slot a trip of `fori_loop(a, _)` stands for. -/
def slotW (a : BitVec 32) (k : Nat) : BitVec 32 := Scalar.addi a (Scalar.muli (Scf.iv 0#32 1#32 k) 1#32)
/-- The main loop's operands for a step count `x`: no unrolling, so it makes every trip, -/
def mainLoop (x : BitVec 32) : Scf.Loop 32 := ⟨0#32, Scalar.addi 0#32 (Scalar.muli (Scalar.divsi x 1#32) 1#32), 1#32⟩
/-- and the remainder loop's: none. -/
def remLoop (x : BitVec 32) : Scf.Loop 32 :=
  ⟨Scalar.addi 0#32 (Scalar.muli (Scalar.divsi x 1#32) 1#32), Scalar.addi 0#32 x, 1#32⟩

/-! ## The same numbers -/

/-- The first chunk of the window that is not already a full prefix chunk. -/
def wlo (p t0 : ℕ) : ℕ := max (p / 512) ((t0 - 1023) / 512)
/-- How many chunks the window needs from there on. -/
def nwin (p t0 : ℕ) : ℕ := (t0 + 31) / 512 + 1 - wlo p t0
/-- Whether the prefix's cut chunk is visited on its own. -/
def edge (p t0 : ℕ) : ℕ := if p % 512 ≠ 0 ∧ (nwin p t0 = 0 ∨ p / 512 < wlo p t0) then 1 else 0
/-- How many chunks a tile visits, -/
def nslots (p t0 : ℕ) : ℕ := p / 512 + edge p t0 + nwin p t0
/-- and which chunk slot `s` is. -/
def chunk (p t0 s : ℕ) : ℕ := if s < p / 512 + edge p t0 then s else wlo p t0 + s - p / 512 - edge p t0

open Affine in
theorem eq_ofNat_of_isInt {x : BitVec 32} {n : ℕ} (h : IsInt x (n : Int)) : x = BitVec.ofNat 32 n := by
  unfold IsInt at h
  apply BitVec.eq_of_toInt_eq
  have h1 := BitVec.toInt_lt (x := x)
  rw [h, BitVec.toInt_ofNat']
  exact (Int.bmod_eq_of_le (by omega) (by omega)).symm

theorem isInt_ofNat {n : ℕ} (h : n < 2 ^ 31) : Affine.IsInt (BitVec.ofNat 32 n) (n : Int) := Affine.ofNat n ⟨rfl, h⟩

local notation "𝕎" => BitVec.ofNat 32

theorem sgn_isInt {x : BitVec 32} {n : Int} (hx : Affine.IsInt x n) (h : 0 ≤ n) : Affine.IsInt (sgn x) (if 0 < n then 1 else 0) := by
  have h0 := Affine.ofNat (e := 0) 0 ⟨rfl, by decide⟩
  unfold sgn
  split
  · exact Affine.subi (Affine.extui_holds (Affine.sgt_holds hx h0 (by omega)) rfl)
      (Affine.extui_fails (Affine.slt_fails hx h0 (by omega)) rfl) (by omega)
  · exact Affine.subi (Affine.extui_fails (Affine.sgt_fails hx h0 (by omega)) rfl)
      (Affine.extui_fails (Affine.slt_fails hx h0 (by omega)) rfl) (by omega)

theorem fdiv_isInt {x : BitVec 32} {n : Int} (hx : Affine.IsInt x n) (h : 0 ≤ n) : Affine.IsInt (fdiv x) (n / 512) := by
  have h0 := Affine.ofNat (e := 0) 0 ⟨rfl, by decide⟩
  have h1 := Affine.ofNat (e := 1) 1 ⟨rfl, by decide⟩
  have h512 := Affine.ofNat (e := 512) 512 ⟨rfl, by decide⟩
  have hlt : n < 2 ^ 31 := by
    have := BitVec.toInt_lt (x := x); unfold Affine.IsInt at hx; omega
  have hq : Affine.IsInt (Scalar.divsi x 512#32) (n / 512) := Affine.divsi hx h512 ⟨rfl, h, by decide⟩
  have hs : Affine.Fails (Scalar.andi (Scalar.cmpi .ne (sgn x) (sgn 512#32)) (Scalar.cmpi .ne (Scalar.remsi x 512#32) 0#32)) := by
    have hr : Affine.IsInt (Scalar.remsi x 512#32) (n % 512) := Affine.remsi hx h512 ⟨rfl, h, by decide⟩
    by_cases hp : 0 < n
    · refine Affine.andi_fails_left (Affine.ne_fails (sgn_isInt hx h) (sgn_isInt h512 (by decide)) ?_) trivial
      simp [hp]
    · refine Affine.andi_fails_right trivial (Affine.ne_fails hr h0 (by omega))
  exact Affine.select_fails hs (Affine.subi hq h1 ⟨rfl, by omega, by omega⟩) hq rfl

theorem fmod_isInt {x : BitVec 32} {n : Int} (hx : Affine.IsInt x n) (h : 0 ≤ n) : Affine.IsInt (fmod x) (n % 512) := by
  have h0 := Affine.ofNat (e := 0) 0 ⟨rfl, by decide⟩
  have h1 := Affine.ofNat (e := 1) 1 ⟨rfl, by decide⟩
  have h512 := Affine.ofNat (e := 512) 512 ⟨rfl, by decide⟩
  unfold fmod
  have hd : Affine.IsInt (Scalar.select (Scalar.cmpi .eq 512#32 0#32) 1#32 512#32) 512 :=
    Affine.select_fails (Affine.eq_fails h512 h0 (by decide)) h1 h512 rfl
  have hr := Affine.remsi (e := n % 512) hx hd ⟨rfl, h, by decide⟩
  refine Affine.select_fails (Affine.andi_fails_left (Affine.xori_ff (Affine.slt_fails hr h0 (by omega))
    (Affine.slt_fails hd h0 (by omega))) trivial) (Affine.addi hr hd ⟨rfl, by omega, by omega⟩) hr rfl

section
variable {p t0 : ℕ} (hp : p ≤ 32768) (ht : t0 ≤ 32736)
include hp in
theorem nfull_eq : Affine.IsInt (fdiv (𝕎 p)) ((p / 512 : ℕ) : Int) := by
  have := fdiv_isInt (isInt_ofNat (n := p) (by omega)) (by omega)
  rwa [Int.natCast_div]
include hp ht
theorem wlo_eq : Affine.IsInt (wloW (𝕎 p) (𝕎 t0)) ((wlo p t0 : ℕ) : Int) := by
  have h0 := Affine.ofNat (e := 0) 0 ⟨rfl, by decide⟩
  refine Affine.maxsi (nfull_eq hp) (fdiv_isInt (Affine.maxsi (Affine.subi (isInt_ofNat (n := t0) (by omega))
    (Affine.ofNat (e := 1023) 1023 ⟨rfl, by decide⟩) ⟨rfl, by omega, by omega⟩) h0 rfl) (by omega)) ?_
  unfold wlo; omega
omit hp in
theorem whi_eq : Affine.IsInt (whiW (𝕎 t0)) (((t0 + 31) / 512 + 1 : ℕ) : Int) := by
  have h1 := Affine.ofNat (e := 1) 1 ⟨rfl, by decide⟩
  refine Affine.addi (fdiv_isInt (Affine.subi (Affine.addi (isInt_ofNat (n := t0) (by omega))
    (Affine.ofNat (e := 32) 32 ⟨rfl, by decide⟩) ⟨rfl, by omega, by omega⟩) h1 ⟨rfl, by omega, by omega⟩) (by omega)) h1 ?_
  omega
omit hp ht in
theorem wlo_le (hp : p ≤ 32768) (ht : t0 ≤ 32736) : wlo p t0 ≤ 64 := by unfold wlo; omega
theorem nwin_eq : Affine.IsInt (nwinW (𝕎 p) (𝕎 t0)) ((nwin p t0 : ℕ) : Int) := by
  have h0 := Affine.ofNat (e := 0) 0 ⟨rfl, by decide⟩
  have := wlo_le hp ht
  refine Affine.maxsi (Affine.subi (whi_eq ht) (wlo_eq hp ht) ⟨rfl, by omega, by omega⟩) h0 ?_
  unfold nwin; omega
theorem edge_eq : Affine.IsInt (edgeW (𝕎 p) (𝕎 t0)) ((edge p t0 : ℕ) : Int) := by
  have h0 := Affine.ofNat (e := 0) 0 ⟨rfl, by decide⟩
  have hm := fmod_isInt (isInt_ofNat (n := p) (by omega)) (by omega)
  unfold edgeW edge
  by_cases h1 : p % 512 = 0
  · rw [if_neg (by tauto)]
    exact Affine.extui_fails (Affine.andi_fails_left (Affine.ne_fails hm h0 (by omega)) trivial) rfl
  · have a1 := Affine.ne_holds hm h0 (by omega)
    by_cases h2 : nwin p t0 = 0
    · rw [if_pos ⟨h1, .inl h2⟩]
      exact Affine.extui_holds (Affine.andi_holds a1 (Affine.ori_holds_left (Affine.eq_holds (nwin_eq hp ht) h0 (by omega)) trivial)) rfl
    · by_cases h3 : p / 512 < wlo p t0
      · rw [if_pos ⟨h1, .inr h3⟩]
        exact Affine.extui_holds (Affine.andi_holds a1 (Affine.ori_holds_right trivial (Affine.sgt_holds (wlo_eq hp ht) (nfull_eq hp) (by omega)))) rfl
      · rw [if_neg (by tauto)]
        exact Affine.extui_fails (Affine.andi_fails_right trivial (Affine.ori_fails (Affine.eq_fails (nwin_eq hp ht) h0 (by omega))
          (Affine.sgt_fails (wlo_eq hp ht) (nfull_eq hp) (by omega)))) rfl

omit hp ht in
theorem edge_le (p t0 : ℕ) : edge p t0 ≤ 1 := by unfold edge; split <;> omega

/-- A tile visits at most the 64 chunks there are. -/
theorem nslots_le : nslots p t0 ≤ 64 := by
  unfold nslots edge
  split
  · rename_i h; obtain ⟨h1, h2⟩ := h
    unfold nwin wlo at *; omega
  · unfold nwin wlo at *; omega

theorem nslots_eq : Affine.IsInt (nslotsW (𝕎 p) (𝕎 t0)) ((nslots p t0 : ℕ) : Int) := by
  have h1 := edge_le p t0
  have h2 := nslots_le hp ht
  unfold nslots at *
  exact Affine.addi (Affine.addi (nfull_eq hp) (edge_eq hp ht) ⟨rfl, by omega, by omega⟩) (nwin_eq hp ht) (by omega)

/-- Every slot stands for a chunk of the array. -/
theorem chunk_lt {s : ℕ} (hs : s < nslots p t0) : chunk p t0 s < 64 := by
  have h2 := nslots_le hp ht
  unfold chunk
  split
  · omega
  · unfold nslots nwin wlo at *; omega

theorem chunk_eq {s : ℕ} (hs : s < nslots p t0) : Affine.IsInt (chunkW (𝕎 p) (𝕎 t0) (𝕎 s)) ((chunk p t0 s : ℕ) : Int) := by
  have h1 := edge_le p t0
  have h2 := nslots_le hp ht
  have h3 := wlo_le hp ht
  have hs' := isInt_ofNat (n := s) (by omega)
  have hn : Affine.IsInt (Scalar.addi (fdiv (𝕎 p)) (edgeW (𝕎 p) (𝕎 t0))) ((p / 512 + edge p t0 : ℕ) : Int) :=
    Affine.addi (nfull_eq hp) (edge_eq hp ht) ⟨by push_cast; rfl, by omega, by omega⟩
  have hw : Affine.IsInt (Scalar.subi (Scalar.subi (Scalar.addi (wloW (𝕎 p) (𝕎 t0)) (𝕎 s)) (fdiv (𝕎 p))) (edgeW (𝕎 p) (𝕎 t0)))
      ((wlo p t0 : Int) + s - (p / 512 : ℕ) - edge p t0) :=
    Affine.subi (Affine.subi (Affine.addi (wlo_eq hp ht) hs' ⟨rfl, by omega, by omega⟩) (nfull_eq hp) ⟨rfl, by omega, by omega⟩)
      (edge_eq hp ht) ⟨rfl, by omega, by omega⟩
  unfold chunkW chunk
  split
  · exact Affine.select_holds (Affine.slt_holds hs' hn (by omega)) hs' hw rfl
  · refine Affine.select_fails (Affine.slt_fails hs' hn (by omega)) hs' hw ?_
    have : p / 512 ≤ wlo p t0 := by unfold wlo; omega
    omega
end

/-! ## Loops -/

theorem steps_eq {a b : BitVec 32} {m n : ℕ} (ha : Affine.IsInt a (m : Int)) (hb : Affine.IsInt b (n : Int)) (h : m ≤ n) :
    Affine.IsInt (stepsW a b) ((n - m : ℕ) : Int) := by
  have hlt : (n : Int) < 2 ^ 31 := by have := BitVec.toInt_lt (x := b); unfold Affine.IsInt at hb; omega
  have h0 := Affine.ofNat (e := 0) 0 ⟨rfl, by decide⟩
  have h1 := Affine.ofNat (e := 1) 1 ⟨rfl, by decide⟩
  refine Affine.subi (Affine.divsi_one (Affine.addi (Affine.subi hb ha ⟨rfl, by omega, by omega⟩)
    (Affine.subi h1 h1 (e := 0) (by omega)) ⟨rfl, by omega, by omega⟩) h1 ⟨rfl, rfl⟩) h0 ?_
  omega

theorem slot_eq {a : BitVec 32} {m k : ℕ} (ha : Affine.IsInt a (m : Int)) (h : m + k < 2 ^ 31) : slotW a k = 𝕎 (m + k) := by
  have h0 := Affine.ofNat (e := 0) 0 ⟨rfl, by decide⟩
  have h1 := Affine.ofNat (e := 1) 1 ⟨rfl, by decide⟩
  apply eq_ofNat_of_isInt
  refine Affine.addi ha (Affine.muli (e := k) (Affine.relit (Affine.iv h0 h1 k (e := k) (by omega)) rfl) h1 (by omega)) ?_
  omega

theorem mainLoop_trips {x : BitVec 32} {n : ℕ} (hx : Affine.IsInt x (n : Int)) : (mainLoop x).trips = n := by
  unfold mainLoop
  have e : Scalar.addi 0#32 (Scalar.muli (Scalar.divsi x 1#32) 1#32) = x := by
    rw [Scalar.muli_divsi_one]; simp [Scalar.addi, IntOp.addi]
  show Scf.trips _ _ _ = n
  rw [e]; unfold Affine.IsInt at hx; unfold Scf.trips; rw [hx]
  have h1 : (1#32 : BitVec 32).toInt = 1 := by decide
  have h0 : (0#32 : BitVec 32).toInt = 0 := by decide
  rw [h0, h1]; omega

theorem mainLoop_ok {x : BitVec 32} {n : ℕ} (hx : Affine.IsInt x (n : Int)) : (mainLoop x).OK := by
  have ht := mainLoop_trips hx
  have hlt : (n : Int) < 2 ^ 31 := by have := BitVec.toInt_lt (x := x); unfold Affine.IsInt at hx; omega
  have h1 : (1#32 : BitVec 32).toInt = 1 := by decide
  have h0 : (0#32 : BitVec 32).toInt = 0 := by decide
  have ht' : Scf.trips (mainLoop x).lb (mainLoop x).ub (mainLoop x).st = n := ht
  refine ⟨by show 0 < (1#32 : BitVec 32).toInt; rw [h1]; decide, ?_⟩
  rw [ht']; show (0#32 : BitVec 32).toInt + n * (1#32 : BitVec 32).toInt < _; rw [h0, h1]; omega

theorem remLoop_ok (x : BitVec 32) : (remLoop x).OK := Scf.rem_ok 0#32 x
theorem remLoop_trips (x : BitVec 32) : (remLoop x).trips = 0 := Scf.rem_trips 0#32 x

/-! ## Offsets -/

/-- The word `512 * n` of a chunk or slot number. -/
theorem mul512_eq {x : BitVec 32} {n : ℕ} (hx : Affine.IsInt x (n : Int)) (h : n ≤ 64) : (Scalar.muli x 512#32) = 𝕎 (n * 512) :=
  eq_ofNat_of_isInt (Affine.muli hx (Affine.ofNat (e := 512) 512 ⟨rfl, by decide⟩) (by omega))

end Cert.Attn

end
-- ==== Proof.KernelWords.lean ====
/-
The printed index chains of `Kernel`'s attention body, read: every loop's trip count, every offset a trip loads or stores
at, and from them the side condition the body assumes (`k0_chk1`), for a prefix length between 0 and the sequence length.
-/
module

public import proofs.«01_k».proof.Proof.Gen.Kernel
public import proofs.«01_k».proof.Proof.Words

@[expose] public section

set_option maxRecDepth 16384

namespace Cert.Kernel.Words

open Idealize.ShloMosaic Idealize.ShloMosaic.TcCoe Cert.Attn Cert.Kernel

local notation "𝕎" => BitVec.ofNat 32

/-- The tile's first token, as the program computes it. -/
abbrev t0W (i : grid0.Coords) : BitVec 32 := Scalar.muli (BitVec.ofNat 32 (i 1).val) 32#32
/-- The tile's first token. -/
abbrev t0 (i : grid0.Coords) : ℕ := (i 1).val * 32

theorem t0_le (i : grid0.Coords) : t0 i ≤ 32736 := by
  have h : (i 1).val < 1024 := (i 1).isLt
  unfold t0; omega

theorem t0W_eq (i : grid0.Coords) : t0W i = 𝕎 (t0 i) := by
  have h := t0_le i
  unfold t0 at h
  exact eq_ofNat_of_isInt (Affine.muli (isInt_ofNat (by omega)) (Affine.ofNat (e := 32) 32 ⟨rfl, by decide⟩) (by unfold t0; omega))

/-! ## The printed chains are the named words -/

theorem t1_loop (v1 : BitVec 32) : k0_t1_loop v1 = mainLoop (stepsW 0#32 (fdiv v1)) := rfl
theorem t2_loop (v1 : BitVec 32) : k0_t2_loop v1 = remLoop (stepsW 0#32 (fdiv v1)) := rfl
theorem t3_loop (i : grid0.Coords) (v1 : BitVec 32) : k0_t3_loop i v1 = mainLoop (stepsW (fdiv v1) (nslotsW v1 (t0W i))) := rfl
theorem t4_loop (i : grid0.Coords) (v1 : BitVec 32) : k0_t4_loop i v1 = remLoop (stepsW (fdiv v1) (nslotsW v1 (t0W i))) := rfl
theorem t5_loop (i : grid0.Coords) (v1 : BitVec 32) : k0_t5_loop i v1 = mainLoop (stepsW 0#32 (nslotsW v1 (t0W i))) := rfl
theorem t6_loop (i : grid0.Coords) (v1 : BitVec 32) : k0_t6_loop i v1 = remLoop (stepsW 0#32 (nslotsW v1 (t0W i))) := rfl

theorem mult1 (i : grid0.Coords) (v1 : BitVec 32) (k : Fin (k0_t1_loop v1).trips) :
    k0_mult1 i v1 k = Scalar.muli (chunkW v1 (t0W i) (slotW 0#32 k.val)) 512#32 := rfl
theorem mult2 (i : grid0.Coords) (v1 : BitVec 32) (k : Fin (k0_t1_loop v1).trips) :
    k0_mult2 v1 k = Scalar.muli (slotW 0#32 k.val) 512#32 := rfl
theorem mult5 (i : grid0.Coords) (v1 : BitVec 32) (k : Fin (k0_t3_loop i v1).trips) :
    k0_mult5 i v1 k = Scalar.muli (chunkW v1 (t0W i) (slotW (fdiv v1) k.val)) 512#32 := rfl
theorem mult6 (i : grid0.Coords) (v1 : BitVec 32) (k : Fin (k0_t3_loop i v1).trips) :
    k0_mult6 i v1 k = Scalar.muli (slotW (fdiv v1) k.val) 512#32 := rfl
theorem mult9 (i : grid0.Coords) (v1 : BitVec 32) (k : Fin (k0_t5_loop i v1).trips) :
    k0_mult9 i v1 k = Scalar.muli (chunkW v1 (t0W i) (slotW 0#32 k.val)) 512#32 := rfl
theorem mult10 (i : grid0.Coords) (v1 : BitVec 32) (k : Fin (k0_t5_loop i v1).trips) :
    k0_mult10 i v1 k = Scalar.muli (slotW 0#32 k.val) 512#32 := rfl
theorem off2 (i : grid0.Coords) (v1 : BitVec 32) (k : Fin (k0_t1_loop v1).trips) :
    k0_off2 i v1 k = ![0, (Scalar.muli (chunkW v1 (t0W i) (slotW 0#32 k.val)) 512#32).toNat, 0] := rfl
theorem off3 (i : grid0.Coords) (v1 : BitVec 32) (k : Fin (k0_t1_loop v1).trips) :
    k0_off3 i v1 k = ![0, 0, (Scalar.muli (chunkW v1 (t0W i) (slotW 0#32 k.val)) 512#32).toNat] := rfl
theorem off4 (i : grid0.Coords) (v1 : BitVec 32) (k : Fin (k0_t1_loop v1).trips) :
    k0_off4 v1 k = ![0, (Scalar.muli (slotW 0#32 k.val) 512#32).toNat] := rfl
theorem off8 (i : grid0.Coords) (v1 : BitVec 32) (k : Fin (k0_t3_loop i v1).trips) :
    k0_off8 i v1 k = ![0, (Scalar.muli (chunkW v1 (t0W i) (slotW (fdiv v1) k.val)) 512#32).toNat, 0] := rfl
theorem off9 (i : grid0.Coords) (v1 : BitVec 32) (k : Fin (k0_t3_loop i v1).trips) :
    k0_off9 i v1 k = ![0, 0, (Scalar.muli (chunkW v1 (t0W i) (slotW (fdiv v1) k.val)) 512#32).toNat] := rfl
theorem off10 (i : grid0.Coords) (v1 : BitVec 32) (k : Fin (k0_t3_loop i v1).trips) :
    k0_off10 i v1 k = ![0, (Scalar.muli (slotW (fdiv v1) k.val) 512#32).toNat] := rfl
theorem off22 (i : grid0.Coords) (v1 : BitVec 32) (k : Fin (k0_t5_loop i v1).trips) :
    k0_off22 i v1 k = ![0, (Scalar.muli (chunkW v1 (t0W i) (slotW 0#32 k.val)) 512#32).toNat, 0] := rfl
theorem off14 (i : grid0.Coords) (v1 : BitVec 32) (k : Fin (k0_t5_loop i v1).trips) (c : BitVec 32) :
    k0_off14 i v1 k c = ![0, (Scalar.addi (Scalar.muli (slotW 0#32 k.val) 512#32) c).toNat] := rfl
theorem off15 (i : grid0.Coords) (v1 : BitVec 32) (k : Fin (k0_t5_loop i v1).trips) (c : BitVec 32) :
    k0_off15 i v1 k c = ![32, (Scalar.addi (Scalar.muli (slotW 0#32 k.val) 512#32) c).toNat] := rfl
theorem off16 (i : grid0.Coords) (v1 : BitVec 32) (k : Fin (k0_t5_loop i v1).trips) (c : BitVec 32) :
    k0_off16 i v1 k c = ![64, (Scalar.addi (Scalar.muli (slotW 0#32 k.val) 512#32) c).toNat] := rfl
theorem off17 (i : grid0.Coords) (v1 : BitVec 32) (k : Fin (k0_t5_loop i v1).trips) (c : BitVec 32) :
    k0_off17 i v1 k c = ![96, (Scalar.addi (Scalar.muli (slotW 0#32 k.val) 512#32) c).toNat] := rfl
theorem off18 (i : grid0.Coords) (v1 : BitVec 32) (k : Fin (k0_t5_loop i v1).trips) (c : BitVec 32) :
    k0_off18 i v1 k c = ![128, (Scalar.addi (Scalar.muli (slotW 0#32 k.val) 512#32) c).toNat] := rfl
theorem off19 (i : grid0.Coords) (v1 : BitVec 32) (k : Fin (k0_t5_loop i v1).trips) (c : BitVec 32) :
    k0_off19 i v1 k c = ![160, (Scalar.addi (Scalar.muli (slotW 0#32 k.val) 512#32) c).toNat] := rfl
theorem off20 (i : grid0.Coords) (v1 : BitVec 32) (k : Fin (k0_t5_loop i v1).trips) (c : BitVec 32) :
    k0_off20 i v1 k c = ![192, (Scalar.addi (Scalar.muli (slotW 0#32 k.val) 512#32) c).toNat] := rfl
theorem off21 (i : grid0.Coords) (v1 : BitVec 32) (k : Fin (k0_t5_loop i v1).trips) (c : BitVec 32) :
    k0_off21 i v1 k c = ![224, (Scalar.addi (Scalar.muli (slotW 0#32 k.val) 512#32) c).toNat] := rfl

/-! ## Their values, for a prefix length `p` in range -/

section
variable {p : ℕ} (hp : p ≤ 32768) (i : grid0.Coords)

theorem zero_isInt : Affine.IsInt (0#32 : BitVec 32) ((0 : ℕ) : Int) := Affine.ofNat 0 ⟨rfl, by decide⟩

include hp
theorem nslotsW_eq : Affine.IsInt (nslotsW (𝕎 p) (t0W i)) ((nslots p (t0 i) : ℕ) : Int) := by
  rw [t0W_eq]; exact nslots_eq hp (t0_le i)

theorem nfull_le : p / 512 ≤ nslots p (t0 i) := by unfold nslots; omega

theorem steps1 : Affine.IsInt (stepsW 0#32 (fdiv (𝕎 p))) ((p / 512 : ℕ) : Int) := by
  simpa using steps_eq zero_isInt (nfull_eq hp) (Nat.zero_le _)
theorem steps3 : Affine.IsInt (stepsW (fdiv (𝕎 p)) (nslotsW (𝕎 p) (t0W i))) ((nslots p (t0 i) - p / 512 : ℕ) : Int) :=
  steps_eq (nfull_eq hp) (nslotsW_eq hp i) (nfull_le hp i)
theorem steps5 : Affine.IsInt (stepsW 0#32 (nslotsW (𝕎 p) (t0W i))) ((nslots p (t0 i) : ℕ) : Int) := by
  simpa using steps_eq zero_isInt (nslotsW_eq hp i) (Nat.zero_le _)

theorem trips1 : (k0_t1_loop (𝕎 p)).trips = p / 512 := mainLoop_trips (steps1 hp)
theorem trips3 : (k0_t3_loop i (𝕎 p)).trips = nslots p (t0 i) - p / 512 := mainLoop_trips (steps3 hp i)
theorem trips5 : (k0_t5_loop i (𝕎 p)).trips = nslots p (t0 i) := mainLoop_trips (steps5 hp i)
omit hp in
theorem trips2 (v1 : BitVec 32) : (k0_t2_loop v1).trips = 0 := remLoop_trips _
omit hp in
theorem trips4 (v1 : BitVec 32) : (k0_t4_loop i v1).trips = 0 := remLoop_trips _
omit hp in
theorem trips6 (v1 : BitVec 32) : (k0_t6_loop i v1).trips = 0 := remLoop_trips _

/-- Slot `s`'s chunk, as the offset word `512 * chunk`. -/
theorem chunk512 {s : ℕ} (hs : s < nslots p (t0 i)) :
    Scalar.muli (chunkW (𝕎 p) (t0W i) (𝕎 s)) 512#32 = 𝕎 (chunk p (t0 i) s * 512) := by
  rw [t0W_eq]
  exact mul512_eq (chunk_eq hp (t0_le i) hs) (chunk_lt hp (t0_le i) hs).le

omit hp in
theorem toNat_512 {n : ℕ} (h : n ≤ 64) : (𝕎 (n * 512)).toNat = n * 512 := by
  rw [BitVec.toNat_ofNat]; omega

theorem chunk512_toNat {s : ℕ} (hs : s < nslots p (t0 i)) :
    (Scalar.muli (chunkW (𝕎 p) (t0W i) (𝕎 s)) 512#32).toNat = chunk p (t0 i) s * 512 := by
  rw [chunk512 hp i hs, toNat_512 (chunk_lt hp (t0_le i) hs).le]

theorem slot512_toNat {s : ℕ} (hs : s < nslots p (t0 i)) : (Scalar.muli (𝕎 s) 512#32).toNat = s * 512 := by
  have := nslots_le hp (t0_le i)
  rw [mul512_eq (isInt_ofNat (by omega)) (by omega), toNat_512 (by omega)]

theorem slot512_add_toNat {s : ℕ} (hs : s < nslots p (t0 i)) (r : Fin 4) :
    (Scalar.addi (Scalar.muli (𝕎 s) 512#32) (𝕎 (128 * r.val))).toNat = s * 512 + 128 * r.val := by
  have := nslots_le hp (t0_le i)
  have hr := r.isLt
  rw [mul512_eq (isInt_ofNat (by omega)) (by omega),
    eq_ofNat_of_isInt (n := s * 512 + 128 * r.val) (Affine.addi (isInt_ofNat (by omega)) (isInt_ofNat (by omega)) (by omega)),
    BitVec.toNat_ofNat]
  omega

theorem slot0 {s : ℕ} (hs : s < nslots p (t0 i)) : slotW 0#32 s = 𝕎 s := by
  have := nslots_le hp (t0_le i)
  rw [slot_eq zero_isInt (by omega), Nat.zero_add]
theorem slot3 {k : ℕ} (hs : p / 512 + k < nslots p (t0 i)) : slotW (fdiv (𝕎 p)) k = 𝕎 (p / 512 + k) := by
  have := nslots_le hp (t0_le i)
  rw [slot_eq (nfull_eq hp) (by omega)]

theorem lt1 (k : Fin (k0_t1_loop (𝕎 p)).trips) : k.val < nslots p (t0 i) :=
  lt_of_lt_of_le (lt_of_lt_of_eq k.isLt (trips1 hp)) (nfull_le hp i)
theorem lt3 (k : Fin (k0_t3_loop i (𝕎 p)).trips) : p / 512 + k.val < nslots p (t0 i) := by
  have := lt_of_lt_of_eq k.isLt (trips3 hp i); omega
theorem lt5 (k : Fin (k0_t5_loop i (𝕎 p)).trips) : k.val < nslots p (t0 i) := lt_of_lt_of_eq k.isLt (trips5 hp i)

theorem off2_eq (k : Fin (k0_t1_loop (𝕎 p)).trips) : k0_off2 i (𝕎 p) k = ![0, chunk p (t0 i) k.val * 512, 0] := by
  rw [off2 i, slot0 hp i (lt1 hp i k), chunk512_toNat hp i (lt1 hp i k)]
theorem off3_eq (k : Fin (k0_t1_loop (𝕎 p)).trips) : k0_off3 i (𝕎 p) k = ![0, 0, chunk p (t0 i) k.val * 512] := by
  rw [off3 i, slot0 hp i (lt1 hp i k), chunk512_toNat hp i (lt1 hp i k)]
include i in
theorem off4_eq (k : Fin (k0_t1_loop (𝕎 p)).trips) : k0_off4 (𝕎 p) k = ![0, k.val * 512] := by
  rw [off4 i, slot0 hp i (lt1 hp i k), slot512_toNat hp i (lt1 hp i k)]
theorem off8_eq (k : Fin (k0_t3_loop i (𝕎 p)).trips) : k0_off8 i (𝕎 p) k = ![0, chunk p (t0 i) (p / 512 + k.val) * 512, 0] := by
  rw [off8 i, slot3 hp i (lt3 hp i k), chunk512_toNat hp i (lt3 hp i k)]
theorem off9_eq (k : Fin (k0_t3_loop i (𝕎 p)).trips) : k0_off9 i (𝕎 p) k = ![0, 0, chunk p (t0 i) (p / 512 + k.val) * 512] := by
  rw [off9 i, slot3 hp i (lt3 hp i k), chunk512_toNat hp i (lt3 hp i k)]
theorem off10_eq (k : Fin (k0_t3_loop i (𝕎 p)).trips) : k0_off10 i (𝕎 p) k = ![0, (p / 512 + k.val) * 512] := by
  rw [off10 i, slot3 hp i (lt3 hp i k), slot512_toNat hp i (lt3 hp i k)]
theorem off22_eq (k : Fin (k0_t5_loop i (𝕎 p)).trips) : k0_off22 i (𝕎 p) k = ![0, chunk p (t0 i) k.val * 512, 0] := by
  rw [off22 i, slot0 hp i (lt5 hp i k), chunk512_toNat hp i (lt5 hp i k)]
theorem off14_eq (k : Fin (k0_t5_loop i (𝕎 p)).trips) (r : Fin 4) :
    k0_off14 i (𝕎 p) k (BitVec.ofNat 32 (128 * r.val)) = ![0, k.val * 512 + 128 * r.val] := by
  rw [off14, slot0 hp i (lt5 hp i k), slot512_add_toNat hp i (lt5 hp i k)]
theorem off15_eq (k : Fin (k0_t5_loop i (𝕎 p)).trips) (r : Fin 4) :
    k0_off15 i (𝕎 p) k (BitVec.ofNat 32 (128 * r.val)) = ![32, k.val * 512 + 128 * r.val] := by
  rw [off15, slot0 hp i (lt5 hp i k), slot512_add_toNat hp i (lt5 hp i k)]
theorem off16_eq (k : Fin (k0_t5_loop i (𝕎 p)).trips) (r : Fin 4) :
    k0_off16 i (𝕎 p) k (BitVec.ofNat 32 (128 * r.val)) = ![64, k.val * 512 + 128 * r.val] := by
  rw [off16, slot0 hp i (lt5 hp i k), slot512_add_toNat hp i (lt5 hp i k)]
theorem off17_eq (k : Fin (k0_t5_loop i (𝕎 p)).trips) (r : Fin 4) :
    k0_off17 i (𝕎 p) k (BitVec.ofNat 32 (128 * r.val)) = ![96, k.val * 512 + 128 * r.val] := by
  rw [off17, slot0 hp i (lt5 hp i k), slot512_add_toNat hp i (lt5 hp i k)]
theorem off18_eq (k : Fin (k0_t5_loop i (𝕎 p)).trips) (r : Fin 4) :
    k0_off18 i (𝕎 p) k (BitVec.ofNat 32 (128 * r.val)) = ![128, k.val * 512 + 128 * r.val] := by
  rw [off18, slot0 hp i (lt5 hp i k), slot512_add_toNat hp i (lt5 hp i k)]
theorem off19_eq (k : Fin (k0_t5_loop i (𝕎 p)).trips) (r : Fin 4) :
    k0_off19 i (𝕎 p) k (BitVec.ofNat 32 (128 * r.val)) = ![160, k.val * 512 + 128 * r.val] := by
  rw [off19, slot0 hp i (lt5 hp i k), slot512_add_toNat hp i (lt5 hp i k)]
theorem off20_eq (k : Fin (k0_t5_loop i (𝕎 p)).trips) (r : Fin 4) :
    k0_off20 i (𝕎 p) k (BitVec.ofNat 32 (128 * r.val)) = ![192, k.val * 512 + 128 * r.val] := by
  rw [off20, slot0 hp i (lt5 hp i k), slot512_add_toNat hp i (lt5 hp i k)]
theorem off21_eq (k : Fin (k0_t5_loop i (𝕎 p)).trips) (r : Fin 4) :
    k0_off21 i (𝕎 p) k (BitVec.ofNat 32 (128 * r.val)) = ![224, k.val * 512 + 128 * r.val] := by
  rw [off21, slot0 hp i (lt5 hp i k), slot512_add_toNat hp i (lt5 hp i k)]

omit hp in
theorem dvd512 {n : ℕ} (h : n ≤ 64) : 512 ∣ (𝕎 (n * 512)).toNat := by rw [toNat_512 h]; exact Dvd.intro_left n rfl

/-- The side condition the body assumes holds of every prefix length in range. -/
theorem chk : k0_chk1 i (𝕎 p) := by
  have hns := nslots_le hp (t0_le i)
  have nob {n : ℕ} {P : Fin n → Prop} (h : n = 0) (k : Fin n) : P k := absurd k.isLt (by omega)
  unfold k0_chk1 k0_chk1_0 k0_chk1_1

  exact ⟨⟨mainLoop_ok (steps1 hp),
    fun k => by rw [mult1, slot0 hp i (lt1 hp i k), chunk512 hp i (lt1 hp i k)]; exact dvd512 (chunk_lt hp (t0_le i) (lt1 hp i k)).le,
    fun k => by have := lt1 hp i k; rw [mult2 i, slot0 hp i (lt1 hp i k), slot512_toNat hp i (lt1 hp i k)]; exact Dvd.intro_left _ rfl,
    fun k a => by have := chunk_lt hp (t0_le i) (lt1 hp i k); rw [off2_eq hp i k]; fin_cases a <;> simp [Shape.size] <;> omega,
    fun k a => by have := chunk_lt hp (t0_le i) (lt1 hp i k); rw [off3_eq hp i k]; fin_cases a <;> simp [Shape.size] <;> omega,
    fun k a => by have := lt1 hp i k; rw [off4_eq hp i k]; fin_cases a <;> simp [Shape.size] <;> omega,
    remLoop_ok _,
    nob (trips2 _),
    nob (trips2 _),
    nob (trips2 _),
    nob (trips2 _),
    nob (trips2 _),
    mainLoop_ok (steps3 hp i),
    fun k => by rw [mult5, slot3 hp i (lt3 hp i k), chunk512 hp i (lt3 hp i k)]; exact dvd512 (chunk_lt hp (t0_le i) (lt3 hp i k)).le,
    fun k => by have := lt3 hp i k; rw [mult6 i, slot3 hp i (lt3 hp i k), slot512_toNat hp i (lt3 hp i k)]; exact Dvd.intro_left _ rfl,
    fun k a => by have := chunk_lt hp (t0_le i) (lt3 hp i k); rw [off8_eq hp i k]; fin_cases a <;> simp [Shape.size] <;> omega,
    fun k a => by have := chunk_lt hp (t0_le i) (lt3 hp i k); rw [off9_eq hp i k]; fin_cases a <;> simp [Shape.size] <;> omega,
    fun k a => by have := lt3 hp i k; rw [off10_eq hp i k]; fin_cases a <;> simp [Shape.size] <;> omega,
    remLoop_ok _,
    nob (trips4 i _),
    nob (trips4 i _),
    nob (trips4 i _),
    nob (trips4 i _),
    nob (trips4 i _),
    mainLoop_ok (steps5 hp i),
    fun k => by rw [mult9, slot0 hp i (lt5 hp i k), chunk512 hp i (lt5 hp i k)]; exact dvd512 (chunk_lt hp (t0_le i) (lt5 hp i k)).le,
    fun k => by have := lt5 hp i k; rw [mult10, slot0 hp i (lt5 hp i k), slot512_toNat hp i (lt5 hp i k)]; exact Dvd.intro_left _ rfl,
    fun k r a => by have := lt5 hp i k; have := r.isLt; rw [off14_eq hp i k r]; fin_cases a <;> simp [Shape.size] <;> omega,
    fun k r a => by have := lt5 hp i k; have := r.isLt; rw [off15_eq hp i k r]; fin_cases a <;> simp [Shape.size] <;> omega,
    fun k r a => by have := lt5 hp i k; have := r.isLt; rw [off16_eq hp i k r]; fin_cases a <;> simp [Shape.size] <;> omega,
    fun k r a => by have := lt5 hp i k; have := r.isLt; rw [off17_eq hp i k r]; fin_cases a <;> simp [Shape.size] <;> omega,
    fun k r a => by have := lt5 hp i k; have := r.isLt; rw [off18_eq hp i k r]; fin_cases a <;> simp [Shape.size] <;> omega⟩,
   ⟨fun k r a => by have := lt5 hp i k; have := r.isLt; rw [off19_eq hp i k r]; fin_cases a <;> simp [Shape.size] <;> omega,
    fun k r a => by have := lt5 hp i k; have := r.isLt; rw [off20_eq hp i k r]; fin_cases a <;> simp [Shape.size] <;> omega,
    fun k r a => by have := lt5 hp i k; have := r.isLt; rw [off21_eq hp i k r]; fin_cases a <;> simp [Shape.size] <;> omega,
    fun k a => by have := chunk_lt hp (t0_le i) (lt5 hp i k); rw [off22_eq hp i k]; fin_cases a <;> simp [Shape.size] <;> omega,
    remLoop_ok _,
    nob (trips6 i _),
    nob (trips6 i _),
    nob (trips6 i _),
    nob (trips6 i _),
    nob (trips6 i _),
    nob (trips6 i _),
    nob (trips6 i _),
    nob (trips6 i _),
    nob (trips6 i _),
    nob (trips6 i _),
    nob (trips6 i _)⟩⟩
end

end Cert.Kernel.Words

end
-- ==== Proof.KernelPoints.lean ====
/-
The grid of `Kernel`'s attention call in closed form: how a point's two coordinates come out of its number, and when each
window fetches or flushes.
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 1024), at any contents of the tables (its index map reads none). -/
theorem fetch0_1 (a : (pcfg0 (F := F)).Adm) : ∀ t : Fin (cfg0 a).N, ((cfg0 a).win 1).fetch t = true ↔ t.val % 1024 = 0 :=
  (fun t => Pipeline.Window.fetchOf_reads cc0_transform_1 reads0_1 hreads0_1 0 (by decide) (by decide) (Pipeline.Window.sep_of_coord cc0_transform_1 0 0 (fun _ => rfl) (by decide)) (P := 1024) (by decide) t : ∀ t : Fin grid0.N, Pipeline.Window.fetchOf grid0 false cc0_transform_1 t = true ↔ t.val % 1024 = 0)
/-- Window 2 (operand 3 (%arg2)) is fetched at the points ≡ 0 (mod 1024), at any contents of the tables (its index map reads none). -/
theorem fetch0_2 (a : (pcfg0 (F := F)).Adm) : ∀ t : Fin (cfg0 a).N, ((cfg0 a).win 2).fetch t = true ↔ t.val % 1024 = 0 :=
  (fun t => Pipeline.Window.fetchOf_reads cc0_transform_2 reads0_2 hreads0_2 0 (by decide) (by decide) (Pipeline.Window.sep_of_coord cc0_transform_2 0 0 (fun _ => rfl) (by decide)) (P := 1024) (by decide) t : ∀ t : Fin grid0.N, Pipeline.Window.fetchOf grid0 false cc0_transform_2 t = true ↔ t.val % 1024 = 0)
/-- Window 3 (operand 4 (%arg3)) is fetched at the points ≡ 0 (mod 1024), at any contents of the tables (its index map reads none). -/
theorem fetch0_3 (a : (pcfg0 (F := F)).Adm) : ∀ t : Fin (cfg0 a).N, ((cfg0 a).win 3).fetch t = true ↔ t.val % 1024 = 0 :=
  (fun t => Pipeline.Window.fetchOf_reads cc0_transform_3 reads0_3 hreads0_3 0 (by decide) (by decide) (Pipeline.Window.sep_of_coord cc0_transform_3 0 0 (fun _ => rfl) (by decide)) (P := 1024) (by decide) t : ∀ t : Fin grid0.N, Pipeline.Window.fetchOf grid0 false cc0_transform_3 t = true ↔ t.val % 1024 = 0)
/-- Window 4 (operand 5 (%arg4)) is fetched at the points ≡ 0 (mod 1024), at any contents of the tables (its index map reads none). -/
theorem fetch0_4 (a : (pcfg0 (F := F)).Adm) : ∀ t : Fin (cfg0 a).N, ((cfg0 a).win 4).fetch t = true ↔ t.val % 1024 = 0 :=
  (fun t => Pipeline.Window.fetchOf_reads cc0_transform_4 reads0_4 hreads0_4 0 (by decide) (by decide) (Pipeline.Window.sep_of_coord cc0_transform_4 0 0 (fun _ => rfl) (by decide)) (P := 1024) (by decide) t : ∀ t : Fin grid0.N, Pipeline.Window.fetchOf grid0 false cc0_transform_4 t = true ↔ t.val % 1024 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.Kernel.Gen

end
-- ==== Proof.KernelKit.lean ====
/-
What the runs of `Kernel`'s attention call are stated over: the arrays as the call finds them, the prefetched table
(`prefix_len`), each window's block, the staging and scratch memrefs, and the side condition the body assumes of the
table's word at every grid point (`Hyps`).
-/
module

public import proofs.«01_k».proof.Proof.Gen.Kernel.Launch
public import proofs.«01_k».proof.Proof.Gen.Kernel.Skeleton
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32768x256 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x32768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x32768x256 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x32x2048 .bf16 := spec0_5.stage ((cfgM m hO).slots t 5)
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S2) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S2) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S2) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S256x256 .fp8e4m3 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x32768 .f32 := Memref.whole cc0_scratch5
abbrev scM0_6 : Memref sig .tc .vmem S256x512 .fp8e4m3 := Memref.whole cc0_scratch6
abbrev scM0_7 : Memref sig .tc .vmem S256x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.KernelPre.lean ====
/-
The side conditions of `Kernel`'s attention body, from the certificate's precondition: every word of `prefix_len` lies
between 0 and the sequence length, so the body's assumed facts hold at every grid point.
-/
module

public import proofs.«01_k».proof.Defs
public import proofs.«01_k».proof.Proof.Gen.Pre_prefix_in_sequence
public import proofs.«01_k».proof.Proof.Gen.Pre_x_finite
public import proofs.«01_k».proof.Proof.KernelWords
public import proofs.«01_k».proof.Proof.KernelKit

@[expose] public section

set_option maxRecDepth 16384

noncomputable section

namespace Cert.Kernel.Attn

open Idealize.ShloMosaic Idealize.ShloMosaic.TcCoe Idealize.SL.Sem
open Cert.Kernel.Gen

/-- A word that passes both comparisons of the precondition is a number between 0 and the sequence length. -/
theorem toNat_le_of_pre (v : BitVec 32)
    (e : IntOp.andi (IntOp.cmpi .sge v 0#32) (IntOp.cmpi .sle v 32768#32) = 1#1) : v.toNat ≤ 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

variable (m : (ℓ : Loc nD τ sig) → Buf (Elt Bits) ℓ)

/-- No window's index map reads the table: the pipeline's own side condition says nothing. -/
theorem ok : Gen.Ok m := by
  unfold Gen.Ok ok0; trivial

/-- Every word of `prefix_len`, under the precondition. -/
theorem prefix_le (h : Cert.Pre_Kernel m) (c : Dev nD) (y : S2.Idx) :
    (m ((c.tc : Thread nD τ).loc main_arg5) y).toNat ≤ 32768 := by
  have e := congrFun (h c) y
  simp only [Pre_prefix_in_sequence.fn, andi, cmpi, broadcastInDim, constantI] at e
  exact toNat_le_of_pre _ e

/-- The body's assumed facts at every point, of tables whose words are in range. -/
theorem hyps_of_le (h : ∀ (c : Dev nD) (y : S2.Idx), (m ((c.tc : Thread nD τ).loc main_arg5) y).toNat ≤ 32768) :
    Gen.Hyps m (ok m) := by
  refine Gen.Hyps.of fun c t => ?_
  unfold Gen.Hyps.p0
  have key (v : BitVec 32) (hv : v.toNat ≤ 32768) : k0_chk1 (grid0.coords t) v := by
    have := Words.chk hv (grid0.coords t)
    rwa [BitVec.ofNat_toNat, BitVec.setWidth_eq] at this
  exact key _ (h 0 _)

theorem hyps_of_pre (h : Cert.Pre_Kernel m) : Gen.Hyps m (ok m) := hyps_of_le m (prefix_le m h)

end Cert.Kernel.Attn

end
-- ==== Proof.KernelRun.lean ====
/-
The whole-body run of `Kernel`'s attention call, over the printed program's parts and loops.
-/
module

public import proofs.«01_k».proof.Proof.KernelKit
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 0 in
/-- The body's run on whole staging memrefs: the inputs at their blocks, the table at its words, and the output's and
    the scratch buffers at the contents `d·` they are found with (named, because the body's second pass reads chunks
    of the score buffer whose coverage is not affine in a trip number). The witness is the list of pieces the stores
    leave in the output's staging buffer, last first. -/
noncomputable def kernelRun (c : Dev nD) (i : grid0.Coords) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
    (x0 : Vec F S1x32x2048 .bf16) (x1 : Vec F S1x32768x256 .fp8e4m3) (x2 : Vec F S1x1x32768 .f32) (x3 : Vec F S1x32768x256 .fp8e4m3) (x4 : Vec F S1x1x256 .f32) (d8 : Vec F S1x32x2048 .bf16) (d9 : Vec F S256x256 .fp8e4m3) (d10 : Vec F S256x128 .f32) (d11 : Vec F S256x128 .f32) (d12 : Vec F S256x128 .f32) (d13 : Vec F S256x128 .f32) (d14 : Vec F S256x32768 .f32) (d15 : Vec F S256x512 .fp8e4m3) (d16 : Vec F S256x256 .f32) (xt0 : TbBuf0 (F := F) c tbM0_0) (k0_hw1 : k0_chk1 i (tbM0_0.view.readAt (Elt F) (Rect.unit (s := S2) (k0_off1 i) S1.size (k0_off1_inb i)).toLoadRect xt0 (Shape.Idx.first (numel1_S1.symm ▸ Nat.one_pos)))) :
    { L5 : List (View.Piece (Elt F) S1x32x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} arg8.view.writes (Elt F) (harg8.unread d8) L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.Kernel.Gen

end
-- ==== Proof.KernelFrame.lean ====
/-
The frame of `Kernel`'s attention call, for every table: nothing faults, every run ends, every counter ends at zero and
the arguments end as they were, given the side condition the body assumes of the table's words (`Hyps`). What the output
window holds is not named here.
-/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ (∃ d, owns (c : Thread nD τ) (ms0_5 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4]
  rw [show (dats m hO hH 0 c).Φ t.castSucc = iprop(Pipeline.ΦA spec0 c ∗ Pipeline.ΦT pre0 (tbl m) c) from rfl, PhiT0_eq, PhiA0_eq]
  iintro ⟨⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, HT0⟩, Ho, ⟨%d0, H0⟩, ⟨%d1, H1⟩, ⟨%d2, H2⟩, ⟨%d3, H3⟩, ⟨%d4, H4⟩, ⟨%d5, H5⟩⟩
  iapply ((kernelRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) d5 e0 e1 e2 e3 e4 e5 e6 e7 (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  iintro ⟨H0, H1, H2, H3, H4, H5, HS0, HS1, HS2, HS3, HS4, HS5, HS6, HS7, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      iexact Hg
    iexact HT0
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.KernelIdealWords.lean ====
/-
The printed index chains of `KernelIdeal`'s attention body, read: every loop's trip count, every offset a trip loads or stores
at, and from them the side condition the body assumes (`k0_chk1`), for a prefix length between 0 and the sequence length.
-/
module

public import proofs.«01_k».proof.Proof.Gen.KernelIdeal
public import proofs.«01_k».proof.Proof.Words

@[expose] public section

set_option maxRecDepth 16384

namespace Cert.KernelIdeal.Words

open Idealize.ShloMosaic Idealize.ShloMosaic.TcCoe Cert.Attn Cert.KernelIdeal

local notation "𝕎" => BitVec.ofNat 32

/-- The tile's first token, as the program computes it. -/
abbrev t0W (i : grid0.Coords) : BitVec 32 := Scalar.muli (BitVec.ofNat 32 (i 1).val) 32#32
/-- The tile's first token. -/
abbrev t0 (i : grid0.Coords) : ℕ := (i 1).val * 32

theorem t0_le (i : grid0.Coords) : t0 i ≤ 32736 := by
  have h : (i 1).val < 1024 := (i 1).isLt
  unfold t0; omega

theorem t0W_eq (i : grid0.Coords) : t0W i = 𝕎 (t0 i) := by
  have h := t0_le i
  unfold t0 at h
  exact eq_ofNat_of_isInt (Affine.muli (isInt_ofNat (by omega)) (Affine.ofNat (e := 32) 32 ⟨rfl, by decide⟩) (by unfold t0; omega))

/-! ## The printed chains are the named words -/

theorem t1_loop (v1 : BitVec 32) : k0_t1_loop v1 = mainLoop (stepsW 0#32 (fdiv v1)) := rfl
theorem t2_loop (v1 : BitVec 32) : k0_t2_loop v1 = remLoop (stepsW 0#32 (fdiv v1)) := rfl
theorem t3_loop (i : grid0.Coords) (v1 : BitVec 32) : k0_t3_loop i v1 = mainLoop (stepsW (fdiv v1) (nslotsW v1 (t0W i))) := rfl
theorem t4_loop (i : grid0.Coords) (v1 : BitVec 32) : k0_t4_loop i v1 = remLoop (stepsW (fdiv v1) (nslotsW v1 (t0W i))) := rfl
theorem t5_loop (i : grid0.Coords) (v1 : BitVec 32) : k0_t5_loop i v1 = mainLoop (stepsW 0#32 (nslotsW v1 (t0W i))) := rfl
theorem t6_loop (i : grid0.Coords) (v1 : BitVec 32) : k0_t6_loop i v1 = remLoop (stepsW 0#32 (nslotsW v1 (t0W i))) := rfl

theorem mult1 (i : grid0.Coords) (v1 : BitVec 32) (k : Fin (k0_t1_loop v1).trips) :
    k0_mult1 i v1 k = Scalar.muli (chunkW v1 (t0W i) (slotW 0#32 k.val)) 512#32 := rfl
theorem mult2 (i : grid0.Coords) (v1 : BitVec 32) (k : Fin (k0_t1_loop v1).trips) :
    k0_mult2 v1 k = Scalar.muli (slotW 0#32 k.val) 512#32 := rfl
theorem mult5 (i : grid0.Coords) (v1 : BitVec 32) (k : Fin (k0_t3_loop i v1).trips) :
    k0_mult5 i v1 k = Scalar.muli (chunkW v1 (t0W i) (slotW (fdiv v1) k.val)) 512#32 := rfl
theorem mult6 (i : grid0.Coords) (v1 : BitVec 32) (k : Fin (k0_t3_loop i v1).trips) :
    k0_mult6 i v1 k = Scalar.muli (slotW (fdiv v1) k.val) 512#32 := rfl
theorem mult9 (i : grid0.Coords) (v1 : BitVec 32) (k : Fin (k0_t5_loop i v1).trips) :
    k0_mult9 i v1 k = Scalar.muli (chunkW v1 (t0W i) (slotW 0#32 k.val)) 512#32 := rfl
theorem mult10 (i : grid0.Coords) (v1 : BitVec 32) (k : Fin (k0_t5_loop i v1).trips) :
    k0_mult10 i v1 k = Scalar.muli (slotW 0#32 k.val) 512#32 := rfl
theorem off2 (i : grid0.Coords) (v1 : BitVec 32) (k : Fin (k0_t1_loop v1).trips) :
    k0_off2 i v1 k = ![0, (Scalar.muli (chunkW v1 (t0W i) (slotW 0#32 k.val)) 512#32).toNat, 0] := rfl
theorem off3 (i : grid0.Coords) (v1 : BitVec 32) (k : Fin (k0_t1_loop v1).trips) :
    k0_off3 i v1 k = ![0, 0, (Scalar.muli (chunkW v1 (t0W i) (slotW 0#32 k.val)) 512#32).toNat] := rfl
theorem off4 (i : grid0.Coords) (v1 : BitVec 32) (k : Fin (k0_t1_loop v1).trips) :
    k0_off4 v1 k = ![0, (Scalar.muli (slotW 0#32 k.val) 512#32).toNat] := rfl
theorem off8 (i : grid0.Coords) (v1 : BitVec 32) (k : Fin (k0_t3_loop i v1).trips) :
    k0_off8 i v1 k = ![0, (Scalar.muli (chunkW v1 (t0W i) (slotW (fdiv v1) k.val)) 512#32).toNat, 0] := rfl
theorem off9 (i : grid0.Coords) (v1 : BitVec 32) (k : Fin (k0_t3_loop i v1).trips) :
    k0_off9 i v1 k = ![0, 0, (Scalar.muli (chunkW v1 (t0W i) (slotW (fdiv v1) k.val)) 512#32).toNat] := rfl
theorem off10 (i : grid0.Coords) (v1 : BitVec 32) (k : Fin (k0_t3_loop i v1).trips) :
    k0_off10 i v1 k = ![0, (Scalar.muli (slotW (fdiv v1) k.val) 512#32).toNat] := rfl
theorem off22 (i : grid0.Coords) (v1 : BitVec 32) (k : Fin (k0_t5_loop i v1).trips) :
    k0_off22 i v1 k = ![0, (Scalar.muli (chunkW v1 (t0W i) (slotW 0#32 k.val)) 512#32).toNat, 0] := rfl
theorem off14 (i : grid0.Coords) (v1 : BitVec 32) (k : Fin (k0_t5_loop i v1).trips) (c : BitVec 32) :
    k0_off14 i v1 k c = ![0, (Scalar.addi (Scalar.muli (slotW 0#32 k.val) 512#32) c).toNat] := rfl
theorem off15 (i : grid0.Coords) (v1 : BitVec 32) (k : Fin (k0_t5_loop i v1).trips) (c : BitVec 32) :
    k0_off15 i v1 k c = ![32, (Scalar.addi (Scalar.muli (slotW 0#32 k.val) 512#32) c).toNat] := rfl
theorem off16 (i : grid0.Coords) (v1 : BitVec 32) (k : Fin (k0_t5_loop i v1).trips) (c : BitVec 32) :
    k0_off16 i v1 k c = ![64, (Scalar.addi (Scalar.muli (slotW 0#32 k.val) 512#32) c).toNat] := rfl
theorem off17 (i : grid0.Coords) (v1 : BitVec 32) (k : Fin (k0_t5_loop i v1).trips) (c : BitVec 32) :
    k0_off17 i v1 k c = ![96, (Scalar.addi (Scalar.muli (slotW 0#32 k.val) 512#32) c).toNat] := rfl
theorem off18 (i : grid0.Coords) (v1 : BitVec 32) (k : Fin (k0_t5_loop i v1).trips) (c : BitVec 32) :
    k0_off18 i v1 k c = ![128, (Scalar.addi (Scalar.muli (slotW 0#32 k.val) 512#32) c).toNat] := rfl
theorem off19 (i : grid0.Coords) (v1 : BitVec 32) (k : Fin (k0_t5_loop i v1).trips) (c : BitVec 32) :
    k0_off19 i v1 k c = ![160, (Scalar.addi (Scalar.muli (slotW 0#32 k.val) 512#32) c).toNat] := rfl
theorem off20 (i : grid0.Coords) (v1 : BitVec 32) (k : Fin (k0_t5_loop i v1).trips) (c : BitVec 32) :
    k0_off20 i v1 k c = ![192, (Scalar.addi (Scalar.muli (slotW 0#32 k.val) 512#32) c).toNat] := rfl
theorem off21 (i : grid0.Coords) (v1 : BitVec 32) (k : Fin (k0_t5_loop i v1).trips) (c : BitVec 32) :
    k0_off21 i v1 k c = ![224, (Scalar.addi (Scalar.muli (slotW 0#32 k.val) 512#32) c).toNat] := rfl

/-! ## Their values, for a prefix length `p` in range -/

section
variable {p : ℕ} (hp : p ≤ 32768) (i : grid0.Coords)

theorem zero_isInt : Affine.IsInt (0#32 : BitVec 32) ((0 : ℕ) : Int) := Affine.ofNat 0 ⟨rfl, by decide⟩

include hp
theorem nslotsW_eq : Affine.IsInt (nslotsW (𝕎 p) (t0W i)) ((nslots p (t0 i) : ℕ) : Int) := by
  rw [t0W_eq]; exact nslots_eq hp (t0_le i)

theorem nfull_le : p / 512 ≤ nslots p (t0 i) := by unfold nslots; omega

theorem steps1 : Affine.IsInt (stepsW 0#32 (fdiv (𝕎 p))) ((p / 512 : ℕ) : Int) := by
  simpa using steps_eq zero_isInt (nfull_eq hp) (Nat.zero_le _)
theorem steps3 : Affine.IsInt (stepsW (fdiv (𝕎 p)) (nslotsW (𝕎 p) (t0W i))) ((nslots p (t0 i) - p / 512 : ℕ) : Int) :=
  steps_eq (nfull_eq hp) (nslotsW_eq hp i) (nfull_le hp i)
theorem steps5 : Affine.IsInt (stepsW 0#32 (nslotsW (𝕎 p) (t0W i))) ((nslots p (t0 i) : ℕ) : Int) := by
  simpa using steps_eq zero_isInt (nslotsW_eq hp i) (Nat.zero_le _)

theorem trips1 : (k0_t1_loop (𝕎 p)).trips = p / 512 := mainLoop_trips (steps1 hp)
theorem trips3 : (k0_t3_loop i (𝕎 p)).trips = nslots p (t0 i) - p / 512 := mainLoop_trips (steps3 hp i)
theorem trips5 : (k0_t5_loop i (𝕎 p)).trips = nslots p (t0 i) := mainLoop_trips (steps5 hp i)
omit hp in
theorem trips2 (v1 : BitVec 32) : (k0_t2_loop v1).trips = 0 := remLoop_trips _
omit hp in
theorem trips4 (v1 : BitVec 32) : (k0_t4_loop i v1).trips = 0 := remLoop_trips _
omit hp in
theorem trips6 (v1 : BitVec 32) : (k0_t6_loop i v1).trips = 0 := remLoop_trips _

/-- Slot `s`'s chunk, as the offset word `512 * chunk`. -/
theorem chunk512 {s : ℕ} (hs : s < nslots p (t0 i)) :
    Scalar.muli (chunkW (𝕎 p) (t0W i) (𝕎 s)) 512#32 = 𝕎 (chunk p (t0 i) s * 512) := by
  rw [t0W_eq]
  exact mul512_eq (chunk_eq hp (t0_le i) hs) (chunk_lt hp (t0_le i) hs).le

omit hp in
theorem toNat_512 {n : ℕ} (h : n ≤ 64) : (𝕎 (n * 512)).toNat = n * 512 := by
  rw [BitVec.toNat_ofNat]; omega

theorem chunk512_toNat {s : ℕ} (hs : s < nslots p (t0 i)) :
    (Scalar.muli (chunkW (𝕎 p) (t0W i) (𝕎 s)) 512#32).toNat = chunk p (t0 i) s * 512 := by
  rw [chunk512 hp i hs, toNat_512 (chunk_lt hp (t0_le i) hs).le]

theorem slot512_toNat {s : ℕ} (hs : s < nslots p (t0 i)) : (Scalar.muli (𝕎 s) 512#32).toNat = s * 512 := by
  have := nslots_le hp (t0_le i)
  rw [mul512_eq (isInt_ofNat (by omega)) (by omega), toNat_512 (by omega)]

theorem slot512_add_toNat {s : ℕ} (hs : s < nslots p (t0 i)) (r : Fin 4) :
    (Scalar.addi (Scalar.muli (𝕎 s) 512#32) (𝕎 (128 * r.val))).toNat = s * 512 + 128 * r.val := by
  have := nslots_le hp (t0_le i)
  have hr := r.isLt
  rw [mul512_eq (isInt_ofNat (by omega)) (by omega),
    eq_ofNat_of_isInt (n := s * 512 + 128 * r.val) (Affine.addi (isInt_ofNat (by omega)) (isInt_ofNat (by omega)) (by omega)),
    BitVec.toNat_ofNat]
  omega

theorem slot0 {s : ℕ} (hs : s < nslots p (t0 i)) : slotW 0#32 s = 𝕎 s := by
  have := nslots_le hp (t0_le i)
  rw [slot_eq zero_isInt (by omega), Nat.zero_add]
theorem slot3 {k : ℕ} (hs : p / 512 + k < nslots p (t0 i)) : slotW (fdiv (𝕎 p)) k = 𝕎 (p / 512 + k) := by
  have := nslots_le hp (t0_le i)
  rw [slot_eq (nfull_eq hp) (by omega)]

theorem lt1 (k : Fin (k0_t1_loop (𝕎 p)).trips) : k.val < nslots p (t0 i) :=
  lt_of_lt_of_le (lt_of_lt_of_eq k.isLt (trips1 hp)) (nfull_le hp i)
theorem lt3 (k : Fin (k0_t3_loop i (𝕎 p)).trips) : p / 512 + k.val < nslots p (t0 i) := by
  have := lt_of_lt_of_eq k.isLt (trips3 hp i); omega
theorem lt5 (k : Fin (k0_t5_loop i (𝕎 p)).trips) : k.val < nslots p (t0 i) := lt_of_lt_of_eq k.isLt (trips5 hp i)

theorem off2_eq (k : Fin (k0_t1_loop (𝕎 p)).trips) : k0_off2 i (𝕎 p) k = ![0, chunk p (t0 i) k.val * 512, 0] := by
  rw [off2 i, slot0 hp i (lt1 hp i k), chunk512_toNat hp i (lt1 hp i k)]
theorem off3_eq (k : Fin (k0_t1_loop (𝕎 p)).trips) : k0_off3 i (𝕎 p) k = ![0, 0, chunk p (t0 i) k.val * 512] := by
  rw [off3 i, slot0 hp i (lt1 hp i k), chunk512_toNat hp i (lt1 hp i k)]
include i in
theorem off4_eq (k : Fin (k0_t1_loop (𝕎 p)).trips) : k0_off4 (𝕎 p) k = ![0, k.val * 512] := by
  rw [off4 i, slot0 hp i (lt1 hp i k), slot512_toNat hp i (lt1 hp i k)]
theorem off8_eq (k : Fin (k0_t3_loop i (𝕎 p)).trips) : k0_off8 i (𝕎 p) k = ![0, chunk p (t0 i) (p / 512 + k.val) * 512, 0] := by
  rw [off8 i, slot3 hp i (lt3 hp i k), chunk512_toNat hp i (lt3 hp i k)]
theorem off9_eq (k : Fin (k0_t3_loop i (𝕎 p)).trips) : k0_off9 i (𝕎 p) k = ![0, 0, chunk p (t0 i) (p / 512 + k.val) * 512] := by
  rw [off9 i, slot3 hp i (lt3 hp i k), chunk512_toNat hp i (lt3 hp i k)]
theorem off10_eq (k : Fin (k0_t3_loop i (𝕎 p)).trips) : k0_off10 i (𝕎 p) k = ![0, (p / 512 + k.val) * 512] := by
  rw [off10 i, slot3 hp i (lt3 hp i k), slot512_toNat hp i (lt3 hp i k)]
theorem off22_eq (k : Fin (k0_t5_loop i (𝕎 p)).trips) : k0_off22 i (𝕎 p) k = ![0, chunk p (t0 i) k.val * 512, 0] := by
  rw [off22 i, slot0 hp i (lt5 hp i k), chunk512_toNat hp i (lt5 hp i k)]
theorem off14_eq (k : Fin (k0_t5_loop i (𝕎 p)).trips) (r : Fin 4) :
    k0_off14 i (𝕎 p) k (BitVec.ofNat 32 (128 * r.val)) = ![0, k.val * 512 + 128 * r.val] := by
  rw [off14, slot0 hp i (lt5 hp i k), slot512_add_toNat hp i (lt5 hp i k)]
theorem off15_eq (k : Fin (k0_t5_loop i (𝕎 p)).trips) (r : Fin 4) :
    k0_off15 i (𝕎 p) k (BitVec.ofNat 32 (128 * r.val)) = ![32, k.val * 512 + 128 * r.val] := by
  rw [off15, slot0 hp i (lt5 hp i k), slot512_add_toNat hp i (lt5 hp i k)]
theorem off16_eq (k : Fin (k0_t5_loop i (𝕎 p)).trips) (r : Fin 4) :
    k0_off16 i (𝕎 p) k (BitVec.ofNat 32 (128 * r.val)) = ![64, k.val * 512 + 128 * r.val] := by
  rw [off16, slot0 hp i (lt5 hp i k), slot512_add_toNat hp i (lt5 hp i k)]
theorem off17_eq (k : Fin (k0_t5_loop i (𝕎 p)).trips) (r : Fin 4) :
    k0_off17 i (𝕎 p) k (BitVec.ofNat 32 (128 * r.val)) = ![96, k.val * 512 + 128 * r.val] := by
  rw [off17, slot0 hp i (lt5 hp i k), slot512_add_toNat hp i (lt5 hp i k)]
theorem off18_eq (k : Fin (k0_t5_loop i (𝕎 p)).trips) (r : Fin 4) :
    k0_off18 i (𝕎 p) k (BitVec.ofNat 32 (128 * r.val)) = ![128, k.val * 512 + 128 * r.val] := by
  rw [off18, slot0 hp i (lt5 hp i k), slot512_add_toNat hp i (lt5 hp i k)]
theorem off19_eq (k : Fin (k0_t5_loop i (𝕎 p)).trips) (r : Fin 4) :
    k0_off19 i (𝕎 p) k (BitVec.ofNat 32 (128 * r.val)) = ![160, k.val * 512 + 128 * r.val] := by
  rw [off19, slot0 hp i (lt5 hp i k), slot512_add_toNat hp i (lt5 hp i k)]
theorem off20_eq (k : Fin (k0_t5_loop i (𝕎 p)).trips) (r : Fin 4) :
    k0_off20 i (𝕎 p) k (BitVec.ofNat 32 (128 * r.val)) = ![192, k.val * 512 + 128 * r.val] := by
  rw [off20, slot0 hp i (lt5 hp i k), slot512_add_toNat hp i (lt5 hp i k)]
theorem off21_eq (k : Fin (k0_t5_loop i (𝕎 p)).trips) (r : Fin 4) :
    k0_off21 i (𝕎 p) k (BitVec.ofNat 32 (128 * r.val)) = ![224, k.val * 512 + 128 * r.val] := by
  rw [off21, slot0 hp i (lt5 hp i k), slot512_add_toNat hp i (lt5 hp i k)]

omit hp in
theorem dvd512 {n : ℕ} (h : n ≤ 64) : 512 ∣ (𝕎 (n * 512)).toNat := by rw [toNat_512 h]; exact Dvd.intro_left n rfl

/-- The side condition the body assumes holds of every prefix length in range. -/
theorem chk : k0_chk1 i (𝕎 p) := by
  have hns := nslots_le hp (t0_le i)
  have nob {n : ℕ} {P : Fin n → Prop} (h : n = 0) (k : Fin n) : P k := absurd k.isLt (by omega)
  unfold k0_chk1 k0_chk1_0 k0_chk1_1

  exact ⟨⟨mainLoop_ok (steps1 hp),
    fun k => by rw [mult1, slot0 hp i (lt1 hp i k), chunk512 hp i (lt1 hp i k)]; exact dvd512 (chunk_lt hp (t0_le i) (lt1 hp i k)).le,
    fun k => by have := lt1 hp i k; rw [mult2 i, slot0 hp i (lt1 hp i k), slot512_toNat hp i (lt1 hp i k)]; exact Dvd.intro_left _ rfl,
    fun k a => by have := chunk_lt hp (t0_le i) (lt1 hp i k); rw [off2_eq hp i k]; fin_cases a <;> simp [Shape.size] <;> omega,
    fun k a => by have := chunk_lt hp (t0_le i) (lt1 hp i k); rw [off3_eq hp i k]; fin_cases a <;> simp [Shape.size] <;> omega,
    fun k a => by have := lt1 hp i k; rw [off4_eq hp i k]; fin_cases a <;> simp [Shape.size] <;> omega,
    remLoop_ok _,
    nob (trips2 _),
    nob (trips2 _),
    nob (trips2 _),
    nob (trips2 _),
    nob (trips2 _),
    mainLoop_ok (steps3 hp i),
    fun k => by rw [mult5, slot3 hp i (lt3 hp i k), chunk512 hp i (lt3 hp i k)]; exact dvd512 (chunk_lt hp (t0_le i) (lt3 hp i k)).le,
    fun k => by have := lt3 hp i k; rw [mult6 i, slot3 hp i (lt3 hp i k), slot512_toNat hp i (lt3 hp i k)]; exact Dvd.intro_left _ rfl,
    fun k a => by have := chunk_lt hp (t0_le i) (lt3 hp i k); rw [off8_eq hp i k]; fin_cases a <;> simp [Shape.size] <;> omega,
    fun k a => by have := chunk_lt hp (t0_le i) (lt3 hp i k); rw [off9_eq hp i k]; fin_cases a <;> simp [Shape.size] <;> omega,
    fun k a => by have := lt3 hp i k; rw [off10_eq hp i k]; fin_cases a <;> simp [Shape.size] <;> omega,
    remLoop_ok _,
    nob (trips4 i _),
    nob (trips4 i _),
    nob (trips4 i _),
    nob (trips4 i _),
    nob (trips4 i _),
    mainLoop_ok (steps5 hp i),
    fun k => by rw [mult9, slot0 hp i (lt5 hp i k), chunk512 hp i (lt5 hp i k)]; exact dvd512 (chunk_lt hp (t0_le i) (lt5 hp i k)).le,
    fun k => by have := lt5 hp i k; rw [mult10, slot0 hp i (lt5 hp i k), slot512_toNat hp i (lt5 hp i k)]; exact Dvd.intro_left _ rfl,
    fun k r a => by have := lt5 hp i k; have := r.isLt; rw [off14_eq hp i k r]; fin_cases a <;> simp [Shape.size] <;> omega,
    fun k r a => by have := lt5 hp i k; have := r.isLt; rw [off15_eq hp i k r]; fin_cases a <;> simp [Shape.size] <;> omega,
    fun k r a => by have := lt5 hp i k; have := r.isLt; rw [off16_eq hp i k r]; fin_cases a <;> simp [Shape.size] <;> omega,
    fun k r a => by have := lt5 hp i k; have := r.isLt; rw [off17_eq hp i k r]; fin_cases a <;> simp [Shape.size] <;> omega,
    fun k r a => by have := lt5 hp i k; have := r.isLt; rw [off18_eq hp i k r]; fin_cases a <;> simp [Shape.size] <;> omega⟩,
   ⟨fun k r a => by have := lt5 hp i k; have := r.isLt; rw [off19_eq hp i k r]; fin_cases a <;> simp [Shape.size] <;> omega,
    fun k r a => by have := lt5 hp i k; have := r.isLt; rw [off20_eq hp i k r]; fin_cases a <;> simp [Shape.size] <;> omega,
    fun k r a => by have := lt5 hp i k; have := r.isLt; rw [off21_eq hp i k r]; fin_cases a <;> simp [Shape.size] <;> omega,
    fun k a => by have := chunk_lt hp (t0_le i) (lt5 hp i k); rw [off22_eq hp i k]; fin_cases a <;> simp [Shape.size] <;> omega,
    remLoop_ok _,
    nob (trips6 i _),
    nob (trips6 i _),
    nob (trips6 i _),
    nob (trips6 i _),
    nob (trips6 i _),
    nob (trips6 i _),
    nob (trips6 i _),
    nob (trips6 i _),
    nob (trips6 i _),
    nob (trips6 i _),
    nob (trips6 i _)⟩⟩
end

end Cert.KernelIdeal.Words

end
-- ==== Proof.KernelIdealPoints.lean ====
/-
The grid of `KernelIdeal`'s attention call in closed form: how a point's two coordinates come out of its number, and when each
window fetches or flushes.
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 1024), at any contents of the tables (its index map reads none). -/
theorem fetch0_1 (a : (pcfg0 (F := F)).Adm) : ∀ t : Fin (cfg0 a).N, ((cfg0 a).win 1).fetch t = true ↔ t.val % 1024 = 0 :=
  (fun t => Pipeline.Window.fetchOf_reads cc0_transform_1 reads0_1 hreads0_1 0 (by decide) (by decide) (Pipeline.Window.sep_of_coord cc0_transform_1 0 0 (fun _ => rfl) (by decide)) (P := 1024) (by decide) t : ∀ t : Fin grid0.N, Pipeline.Window.fetchOf grid0 false cc0_transform_1 t = true ↔ t.val % 1024 = 0)
/-- Window 2 (operand 3 (%arg2)) is fetched at the points ≡ 0 (mod 1024), at any contents of the tables (its index map reads none). -/
theorem fetch0_2 (a : (pcfg0 (F := F)).Adm) : ∀ t : Fin (cfg0 a).N, ((cfg0 a).win 2).fetch t = true ↔ t.val % 1024 = 0 :=
  (fun t => Pipeline.Window.fetchOf_reads cc0_transform_2 reads0_2 hreads0_2 0 (by decide) (by decide) (Pipeline.Window.sep_of_coord cc0_transform_2 0 0 (fun _ => rfl) (by decide)) (P := 1024) (by decide) t : ∀ t : Fin grid0.N, Pipeline.Window.fetchOf grid0 false cc0_transform_2 t = true ↔ t.val % 1024 = 0)
/-- Window 3 (operand 4 (%arg3)) is fetched at the points ≡ 0 (mod 1024), at any contents of the tables (its index map reads none). -/
theorem fetch0_3 (a : (pcfg0 (F := F)).Adm) : ∀ t : Fin (cfg0 a).N, ((cfg0 a).win 3).fetch t = true ↔ t.val % 1024 = 0 :=
  (fun t => Pipeline.Window.fetchOf_reads cc0_transform_3 reads0_3 hreads0_3 0 (by decide) (by decide) (Pipeline.Window.sep_of_coord cc0_transform_3 0 0 (fun _ => rfl) (by decide)) (P := 1024) (by decide) t : ∀ t : Fin grid0.N, Pipeline.Window.fetchOf grid0 false cc0_transform_3 t = true ↔ t.val % 1024 = 0)
/-- Window 4 (operand 5 (%arg4)) is fetched at the points ≡ 0 (mod 1024), at any contents of the tables (its index map reads none). -/
theorem fetch0_4 (a : (pcfg0 (F := F)).Adm) : ∀ t : Fin (cfg0 a).N, ((cfg0 a).win 4).fetch t = true ↔ t.val % 1024 = 0 :=
  (fun t => Pipeline.Window.fetchOf_reads cc0_transform_4 reads0_4 hreads0_4 0 (by decide) (by decide) (Pipeline.Window.sep_of_coord cc0_transform_4 0 0 (fun _ => rfl) (by decide)) (P := 1024) (by decide) t : ∀ t : Fin grid0.N, Pipeline.Window.fetchOf grid0 false cc0_transform_4 t = true ↔ t.val % 1024 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.KernelIdeal.Gen

end
-- ==== Proof.KernelIdealKit.lean ====
/-
What the runs of `KernelIdeal`'s attention call are stated over: the arrays as the call finds them, the prefetched table
(`prefix_len`), each window's block, the staging and scratch memrefs, and the side condition the body assumes of the
table's word at every grid point (`Hyps`).
-/
module

public import proofs.«01_k».proof.Proof.Gen.KernelIdeal.Launch
public import proofs.«01_k».proof.Proof.Gen.KernelIdeal.Skeleton
public import proofs.«01_k».proof.Proof.KernelIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32768x256 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x32768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x32768x256 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x32x2048 .bf16 := spec0_5.stage ((cfgM m hO).slots t 5)
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S2) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S2) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S2) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S256x256 .fp8e4m3 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x32768 .f32 := Memref.whole cc0_scratch5
abbrev scM0_6 : Memref sig .tc .vmem S256x512 .fp8e4m3 := Memref.whole cc0_scratch6
abbrev scM0_7 : Memref sig .tc .vmem S256x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.KernelIdealPre.lean ====
/-
The side conditions of `KernelIdeal`'s attention body, from the certificate's precondition: every word of `prefix_len` lies
between 0 and the sequence length, so the body's assumed facts hold at every grid point.
-/
module

public import proofs.«01_k».proof.Defs
public import proofs.«01_k».proof.Proof.Gen.Pre_prefix_in_sequence
public import proofs.«01_k».proof.Proof.Gen.Pre_x_finite
public import proofs.«01_k».proof.Proof.KernelIdealWords
public import proofs.«01_k».proof.Proof.KernelIdealKit

@[expose] public section

set_option maxRecDepth 16384

noncomputable section

namespace Cert.KernelIdeal.Attn

open Idealize.ShloMosaic Idealize.ShloMosaic.TcCoe Idealize.SL.Sem
open Cert.KernelIdeal.Gen

/-- A word that passes both comparisons of the precondition is a number between 0 and the sequence length. -/
theorem toNat_le_of_pre (v : BitVec 32)
    (e : IntOp.andi (IntOp.cmpi .sge v 0#32) (IntOp.cmpi .sle v 32768#32) = 1#1) : v.toNat ≤ 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

variable (m : (ℓ : Loc nD τ sig) → Buf (Elt Ideal) ℓ)

/-- No window's index map reads the table: the pipeline's own side condition says nothing. -/
theorem ok : Gen.Ok m := by
  unfold Gen.Ok ok0; trivial

/-- Every word of `prefix_len`, under the precondition. -/
theorem prefix_le (h : Cert.Pre_KernelIdeal m) (c : Dev nD) (y : S2.Idx) :
    (m ((c.tc : Thread nD τ).loc main_arg5) y).toNat ≤ 32768 := by
  have e := congrFun (h c) y
  simp only [Pre_prefix_in_sequence.fn, andi, cmpi, broadcastInDim, constantI] at e
  exact toNat_le_of_pre _ e

/-- The body's assumed facts at every point, of tables whose words are in range. -/
theorem hyps_of_le (h : ∀ (c : Dev nD) (y : S2.Idx), (m ((c.tc : Thread nD τ).loc main_arg5) y).toNat ≤ 32768) :
    Gen.Hyps m (ok m) := by
  refine Gen.Hyps.of fun c t => ?_
  unfold Gen.Hyps.p0
  have key (v : BitVec 32) (hv : v.toNat ≤ 32768) : k0_chk1 (grid0.coords t) v := by
    have := Words.chk hv (grid0.coords t)
    rwa [BitVec.ofNat_toNat, BitVec.setWidth_eq] at this
  exact key _ (h 0 _)

theorem hyps_of_pre (h : Cert.Pre_KernelIdeal m) : Gen.Hyps m (ok m) := hyps_of_le m (prefix_le m h)

/-- The same of the precondition that also bounds `x`. -/
theorem prefix_le_x (h : Cert.Pre_KernelIdeal_x_finite m) (c : Dev nD) (y : S2.Idx) :
    (m ((c.tc : Thread nD τ).loc main_arg5) y).toNat ≤ 32768 := by
  have e := congrFun (h c).1 y
  simp only [Pre_x_finite.fn, andi, cmpi, broadcastInDim, constantI] at e
  exact toNat_le_of_pre _ e

theorem hyps_of_pre_x (h : Cert.Pre_KernelIdeal_x_finite m) : Gen.Hyps m (ok m) := hyps_of_le m (prefix_le_x m h)

end Cert.KernelIdeal.Attn

end
-- ==== Proof.KernelIdealParts.lean ====
/-
The printed parts that use no named constant, each equal to its skeleton at any float instance.
-/
module

public import proofs.«01_k».proof.Proof.Gen.KernelIdeal.Skeleton

@[expose] public section

set_option maxRecDepth 65536

noncomputable section

namespace Cert.KernelIdeal

open Idealize.ShloMosaic Cert.KernelIdeal.Gen

variable {F : FTy → Type} [FloatOps F]

theorem k0_part1_eq_skeleton : k0_part1 (F := F) = k0_part1_skel (F := F) := rfl
theorem k0_part2_eq_skeleton : k0_part2 (F := F) = k0_part2_skel (F := F) := rfl
theorem k0_part3_eq_skeleton : k0_part3 (F := F) = k0_part3_skel (F := F) := rfl
theorem k0_part4_eq_skeleton : k0_part4 (F := F) = k0_part4_skel (F := F) := rfl
theorem k0_part5_eq_skeleton : k0_part5 (F := F) = k0_part5_skel (F := F) := rfl
theorem k0_part6_eq_skeleton : k0_part6 (F := F) = k0_part6_skel (F := F) := rfl
theorem k0_part7_eq_skeleton : k0_part7 (F := F) = k0_part7_skel (F := F) := rfl
theorem k0_part8_eq_skeleton : k0_part8 (F := F) = k0_part8_skel (F := F) := rfl
theorem k0_part9_eq_skeleton : k0_part9 (F := F) = k0_part9_skel (F := F) := rfl
theorem k0_part10_eq_skeleton : k0_part10 (F := F) = k0_part10_skel (F := F) := rfl
theorem k0_part11_eq_skeleton : k0_part11 (F := F) = k0_part11_skel (F := F) := rfl
theorem k0_part12_eq_skeleton : k0_part12 (F := F) = k0_part12_skel (F := F) := rfl
theorem k0_part13_eq_skeleton : k0_part13 (F := F) = k0_part13_skel (F := F) := rfl
theorem k0_part14_eq_skeleton : k0_part14 (F := F) = k0_part14_skel (F := F) := rfl
theorem k0_part15_eq_skeleton : k0_part15 (F := F) = k0_part15_skel (F := F) := rfl
theorem k0_part16_eq_skeleton : k0_part16 (F := F) = k0_part16_skel (F := F) := rfl
theorem k0_part17_eq_skeleton : k0_part17 (F := F) = k0_part17_skel (F := F) := rfl
theorem k0_part18_eq_skeleton : k0_part18 (F := F) = k0_part18_skel (F := F) := rfl
theorem k0_part19_eq_skeleton : k0_part19 (F := F) = k0_part19_skel (F := F) := rfl
theorem k0_part20_eq_skeleton : k0_part20 (F := F) = k0_part20_skel (F := F) := rfl
theorem k0_part21_eq_skeleton : k0_part21 (F := F) = k0_part21_skel (F := F) := rfl
theorem k0_part22_eq_skeleton : k0_part22 (F := F) = k0_part22_skel (F := F) := rfl
theorem k0_part23_eq_skeleton : k0_part23 (F := F) = k0_part23_skel (F := F) := rfl
theorem k0_part24_eq_skeleton : k0_part24 (F := F) = k0_part24_skel (F := F) := rfl
theorem k0_part25_eq_skeleton : k0_part25 (F := F) = k0_part25_skel (F := F) := rfl
theorem k0_part26_eq_skeleton : k0_part26 (F := F) = k0_part26_skel (F := F) := rfl
theorem k0_part27_eq_skeleton : k0_part27 (F := F) = k0_part27_skel (F := F) := rfl
theorem k0_part28_eq_skeleton : k0_part28 (F := F) = k0_part28_skel (F := F) := rfl
theorem k0_part29_eq_skeleton : k0_part29 (F := F) = k0_part29_skel (F := F) := rfl
theorem k0_part30_eq_skeleton : k0_part30 (F := F) = k0_part30_skel (F := F) := rfl
theorem k0_part31_eq_skeleton : k0_part31 (F := F) = k0_part31_skel (F := F) := rfl
theorem k0_part34_eq_skeleton : k0_part34 (F := F) = k0_part34_skel (F := F) := rfl
theorem k0_part37_eq_skeleton : k0_part37 (F := F) = k0_part37_skel (F := F) := rfl
theorem k0_part40_eq_skeleton : k0_part40 (F := F) = k0_part40_skel (F := F) := rfl
theorem k0_part43_eq_skeleton : k0_part43 (F := F) = k0_part43_skel (F := F) := rfl
theorem k0_part44_eq_skeleton : k0_part44 (F := F) = k0_part44_skel (F := F) := rfl
theorem k0_part45_eq_skeleton : k0_part45 (F := F) = k0_part45_skel (F := F) := rfl
theorem k0_part46_eq_skeleton : k0_part46 (F := F) = k0_part46_skel (F := F) := rfl

end Cert.KernelIdeal

end
-- ==== Proof.KernelIdealRun.lean ====
/-
The whole-body run of `KernelIdeal`'s attention call, over the printed program's parts and loops.
-/
module

public import proofs.«01_k».proof.Proof.KernelIdealKit
public import proofs.«01_k».proof.Proof.KernelIdealParts
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 0 in
/-- The body's run on whole staging memrefs: the inputs at their blocks, the table at its words, and the output's and
    the scratch buffers at the contents `d·` they are found with (named, because the body's second pass reads chunks
    of the score buffer whose coverage is not affine in a trip number). The witness is the list of pieces the stores
    leave in the output's staging buffer, last first. -/
noncomputable def kernelRun (c : Dev nD) (i : grid0.Coords) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
    (x0 : Vec F S1x32x2048 .bf16) (x1 : Vec F S1x32768x256 .fp8e4m3) (x2 : Vec F S1x1x32768 .f32) (x3 : Vec F S1x32768x256 .fp8e4m3) (x4 : Vec F S1x1x256 .f32) (d8 : Vec F S1x32x2048 .bf16) (d9 : Vec F S256x256 .fp8e4m3) (d10 : Vec F S256x128 .f32) (d11 : Vec F S256x128 .f32) (d12 : Vec F S256x128 .f32) (d13 : Vec F S256x128 .f32) (d14 : Vec F S256x32768 .f32) (d15 : Vec F S256x512 .fp8e4m3) (d16 : Vec F S256x256 .f32) (xt0 : TbBuf0 (F := F) c tbM0_0) (k0_hw1 : k0_chk1 i (tbM0_0.view.readAt (Elt F) (Rect.unit (s := S2) (k0_off1 i) S1.size (k0_off1_inb i)).toLoadRect xt0 (Shape.Idx.first (numel1_S1.symm ▸ Nat.one_pos)))) :
    { L5 : List (View.Piece (Elt F) S1x32x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} arg8.view.writes (Elt F) (harg8.unread d8) L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.KernelIdeal.Gen

end
-- ==== Proof.KernelIdealFrame.lean ====
/-
The frame of `KernelIdeal`'s attention call, for every table: nothing faults, every run ends, every counter ends at zero and
the arguments end as they were, given the side condition the body assumes of the table's words (`Hyps`). What the output
window holds is not named here.
-/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ (∃ d, owns (c : Thread nD τ) (ms0_5 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4]
  rw [show (dats m hO hH 0 c).Φ t.castSucc = iprop(Pipeline.ΦA spec0 c ∗ Pipeline.ΦT pre0 (tbl m) c) from rfl, PhiT0_eq, PhiA0_eq]
  iintro ⟨⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, HT0⟩, Ho, ⟨%d0, H0⟩, ⟨%d1, H1⟩, ⟨%d2, H2⟩, ⟨%d3, H3⟩, ⟨%d4, H4⟩, ⟨%d5, H5⟩⟩
  iapply ((kernelRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) d5 e0 e1 e2 e3 e4 e5 e6 e7 (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  iintro ⟨H0, H1, H2, H3, H4, H5, HS0, HS1, HS2, HS3, HS4, HS5, HS6, HS7, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      iexact Hg
    iexact HT0
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.KernelIdeal.Gen

end
-- ==== Proof.Model.lean ====
/-
The attention of one tile as plain functions of natural-number positions: masked scores, the running maximum, the running
sum and the running product over the slots that a tile visits.
-/
module

public import proofs.«01_k».proof.Proof.Words
public import Idealize.ShloMosaic.PureOps.Ideal

@[expose] public section

noncomputable section

namespace Cert.Attn

open Idealize.ShloMosaic

/-- The score of row `R` and key `κ` before the query's scale: codes against codes, times the key's scale. -/
def sc (Q : ℕ → ℕ → EReal) (K : ℕ → ℕ → EReal) (ks : ℕ → EReal) (R κ : ℕ) : EReal :=
  (∑ d : Fin 256, Q R d.val * K κ d.val) * ks κ

/-- Whether the token `t` sees key `κ`: in the prefix, or in the window ending at the token. -/
def vis (p t κ : ℕ) : Prop := κ < p ∨ (κ ≤ t ∧ t < κ + 1024)

instance (p t κ : ℕ) : Decidable (vis p t κ) := by unfold vis; infer_instance

/-- The masked score: `⊥` where the token does not see the key. -/
def sm (p t0 : ℕ) (Q : ℕ → ℕ → EReal) (K : ℕ → ℕ → EReal) (ks : ℕ → EReal) (R κ : ℕ) : EReal :=
  if vis p (t0 + R % 32) κ then sc Q K ks R κ else ⊥

/-- The maximum of one lane over the first slots, in the order in which it is taken. -/
def mfold (f : ℕ → EReal) (ch : ℕ → ℕ) (lane : ℕ) : ℕ → EReal
  | 0 => ⊥
  | k + 1 => max (max (max (max (mfold f ch lane k) (f (ch k * 512 + lane))) (f (ch k * 512 + (128 + lane))))
      (f (ch k * 512 + (256 + lane)))) (f (ch k * 512 + (384 + lane)))

/-- The sum of one lane over the first slots. -/
def lfold (f : ℕ → EReal) (ch : ℕ → ℕ) (lane : ℕ) : ℕ → EReal
  | 0 => 0
  | k + 1 => lfold f ch lane k + f (ch k * 512 + lane) + f (ch k * 512 + (128 + lane))
      + f (ch k * 512 + (256 + lane)) + f (ch k * 512 + (384 + lane))

/-- The weighted sum of `v` over the first slots. -/
def afold (f v : ℕ → EReal) (ch : ℕ → ℕ) : ℕ → EReal
  | 0 => 0
  | k + 1 => afold f v ch k + ∑ j : Fin 512, f (ch k * 512 + j.val) * v (ch k * 512 + j.val)

/-- The largest and the smallest code are the codes' bounds. -/
def clip (x : EReal) : EReal := min (Ideal.ofBits .f32 0x43E00000#32) (max (Ideal.ofBits .f32 0x00000000#32) x)

/-- The exponential of one score, at base two. -/
def pk (a b s : EReal) : EReal := Ideal.exp2 (s * a - b)

end Cert.Attn

end
-- ==== Proof.Reads.lean ====
/-
Loads and stores of unit stride, read at an index: coordinates as natural numbers.
-/
module

public import Idealize.ShloMosaic.Lib.VecWindow
public import Idealize.ShloMosaic.Lib.Pipeline.FrameBody

@[expose] public section

noncomputable section

namespace Cert.Attn

open Idealize.ShloMosaic

variable {Val : EltTy → Type} {sig : RefSig} {κ : Kind} {sp : Space} {s : Shape} {e : EltTy}

/-- A load reads the view at the place its rectangle gives the index. -/
theorem readAt_emb (v : View sig κ sp s e) (f : v.ty.Contents Val) {off size : Fin s.rank → ℕ} (inb : ∀ a, off a + size a ≤ s.size a)
    (y : (Rect.unit off size inb).shape.Idx) :
    v.readAt Val (Rect.unit off size inb).toLoadRect f y = v.read Val f ((Rect.unit off size inb).emb y) := rfl

/-- That place: the offset plus the index. -/
theorem emb_val {off off' size : Fin s.rank → ℕ} (inb : ∀ a, off a + size a ≤ s.size a) (h : off = off')
    (y : (Rect.unit off size inb).shape.Idx) (a : Fin s.rank) :
    ((Rect.unit off size inb).emb y a).val = off' a + (y a).val := by
  subst h
  show off a + 1 * (y a).val = _
  omega

open View in
/-- Where the last pieces written cover an index and each of them agrees with `W`, the view reads `W` there. -/
theorem read_writes_of_agree (v : View sig κ sp s e) (f : v.ty.Contents Val) (W : s.Idx → Val e) (y : s.Idx) (L' : List (Piece Val s e)) :
    ∀ L : List (Piece Val s e), (∀ q ∈ L, ∀ x, q.2 x = W (q.1.emb x)) → (∃ q ∈ L, y ∈ q.1.set) →
      v.read Val (v.writes Val f (L ++ L')) y = W y
  | [], _, h => by obtain ⟨_, hm, _⟩ := h; exact absurd hm List.not_mem_nil
  | q :: L, hW, h => by
    by_cases hy : y ∈ q.1.set
    · have hq := hW q List.mem_cons_self
      obtain ⟨r, w⟩ := q
      obtain ⟨x, rfl⟩ : ∃ x, r.emb x = y := r.exists_idx_of_mem hy
      rw [List.cons_append, read_writes_cons_emb]
      exact hq x
    · have hL : ∃ q' ∈ L, y ∈ q'.1.set := by
        obtain ⟨q', hm, hy'⟩ := h
        rcases List.mem_cons.mp hm with rfl | hm
        · exact absurd hy' hy
        · exact ⟨q', hm, hy'⟩
      have hy' : y ∉ Finset.univ.map q.1.emb := by rwa [Rect.map_emb_univ]
      rw [List.cons_append, writes_cons, read_slice_write_of_not_mem q.1 _ _ _ hy']
      exact read_writes_of_agree v f W y L' L (fun q' hm => hW q' (List.mem_cons_of_mem _ hm)) hL

/-- An index within the box is in its rectangle. -/
theorem mem_unit {off size : Fin s.rank → ℕ} (inb : ∀ a, off a + size a ≤ s.size a) (y : s.Idx)
    (h : ∀ a, off a ≤ (y a).val ∧ (y a).val < off a + size a) : y ∈ (Rect.unit off size inb).set := by
  have hy : (Rect.unit off size inb).emb (Rect.unitLocal (s := s) (off := off) (size := size) y h) = y := funext fun a => Fin.ext (by
    show off a + 1 * ((y a).val - off a) = (y a).val
    have := (h a).1
    omega)
  rw [← Rect.map_emb_univ]
  exact Finset.mem_map.2 ⟨_, Finset.mem_univ _, hy⟩

theorem exists_here {q : View.Piece Val s e} {L : List (View.Piece Val s e)} {y : s.Idx} (h : y ∈ q.1.set) : ∃ q' ∈ q :: L, y ∈ q'.1.set :=
  ⟨q, List.mem_cons_self, h⟩

theorem exists_there {q : View.Piece Val s e} {L : List (View.Piece Val s e)} {y : s.Idx} (h : ∃ q' ∈ L, y ∈ q'.1.set) :
    ∃ q' ∈ q :: L, y ∈ q'.1.set :=
  let ⟨q', hm, hy⟩ := h; ⟨q', List.mem_cons_of_mem _ hm, hy⟩

end Cert.Attn

end
-- ==== Proof.Loop1.lean ====
/-
The first loop of the attention body: the scores of the chunks that lie wholly in the prefix, and their running maximum.
-/
module

public import proofs.«01_k».proof.Proof.Model
public import proofs.«01_k».proof.Proof.Reads
public import proofs.«01_k».proof.Proof.KernelIdealWords
public import proofs.«01_k».proof.Proof.Gen.KernelIdeal.Loops
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (hw1 : k0_chk1 i (𝕎 p)) (w2 w507 w527 w565 w567 : BitVec 32) (z : Ideal .f32)
  (X4 : BufTy.Contents (Elt Ideal) arg4.view.ty) (X5 : BufTy.Contents (Elt Ideal) arg5.view.ty) (X9 : BufTy.Contents (Elt Ideal) arg9.view.ty)
  (G12 : BufTy.Contents (Elt Ideal) arg12.view.ty) (G14 : BufTy.Contents (Elt Ideal) arg14.view.ty)
  (Q K : ℕ → ℕ → EReal) (ks : ℕ → EReal)

/-- The score of one chunk, from the codes and scales read. -/
theorem pay237_at (v673 : Vec Ideal S256x256 .fp8e4m3) (v675 : Vec Ideal S1x512x256 .fp8e4m3) (v679 : Vec Ideal S1x1x512 .f32) (κ0 : ℕ)
    (hQ : ∀ y : S256x256.Idx, v673 y = Q (y 0).val (y 1).val) (hK : ∀ y : S1x512x256.Idx, v675 y = K (κ0 + (y 1).val) (y 2).val)
    (hs : ∀ y : S1x1x512.Idx, v679 y = ks (κ0 + (y 2).val)) (y : S256x512.Idx) :
    k0_pay237 v673 v675 v679 y = sc Q K ks (y 0).val (κ0 + (y 1).val) := by
  pointwise [k0_pay237, k0_pay236]
  simp only [hQ, hK, hs]
  rfl

/-- The running maximum of one chunk. -/
theorem pay238_at (v673 : Vec Ideal S256x256 .fp8e4m3) (v675 : Vec Ideal S1x512x256 .fp8e4m3) (v679 : Vec Ideal S1x1x512 .f32) (M : Vec Ideal S256x128 .f32) (κ0 : ℕ)
    (hQ : ∀ y : S256x256.Idx, v673 y = Q (y 0).val (y 1).val) (hK : ∀ y : S1x512x256.Idx, v675 y = K (κ0 + (y 1).val) (y 2).val)
    (hs : ∀ y : S1x1x512.Idx, v679 y = ks (κ0 + (y 2).val)) (y : S256x128.Idx) :
    k0_pay238 v673 v675 v679 M y = max (max (max (max (M y) (sc Q K ks (y 0).val (κ0 + (y 1).val)))
      (sc Q K ks (y 0).val (κ0 + (128 + (y 1).val)))) (sc Q K ks (y 0).val (κ0 + (256 + (y 1).val))))
      (sc Q K ks (y 0).val (κ0 + (384 + (y 1).val))) := by
  pointwise [k0_pay238, k0_pay236]
  simp only [hQ, hK, hs]
  rfl

include hp in
/-- In a chunk wholly in the prefix nothing is masked. -/
theorem sm_full (k : ℕ) (hk : k < p / 512) (R j : ℕ) (hj : j < 512) :
    sm p (t0 i) Q K ks R (chunk p (t0 i) k * 512 + j) = sc Q K ks R (chunk p (t0 i) k * 512 + j) := by
  have : chunk p (t0 i) k = k := by unfold chunk; rw [if_pos (by omega)]
  unfold sm
  rw [this]; exact if_pos (Or.inl (by omega))

include hp in
set_option maxHeartbeats 1000000 in
/-- After `k` trips: the scores of the first `k` slots, and their maximum. -/
theorem t1_state (hQ : ∀ y, arg9.view.read (Elt Ideal) X9 y = Q (y 0).val (y 1).val)
    (hK : ∀ y, arg4.view.read (Elt Ideal) X4 y = K (y 1).val (y 2).val)
    (hs : ∀ y, arg5.view.read (Elt Ideal) X5 y = ks (y 2).val)
    (hM : ∀ y, arg12.view.read (Elt Ideal) G12 y = ⊥) (k : ℕ) (hk : k ≤ p / 512) :
    (∀ y, arg12.view.read (Elt Ideal) (arg12.view.writes (Elt Ideal) G12 ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w2 w507 w527 w565 w567 z X4 X5 X9 G12 G14 k)).1) y
      = mfold (sm p (t0 i) Q K ks (y 0).val) (chunk p (t0 i)) (y 1).val k)
    ∧ (∀ y, (y 1).val < k * 512 → arg14.view.read (Elt Ideal) (arg14.view.writes (Elt Ideal) G14 ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w2 w507 w527 w565 w567 z X4 X5 X9 G12 G14 k)).2) y
      = sm p (t0 i) Q K ks (y 0).val (chunk p (t0 i) ((y 1).val / 512) * 512 + (y 1).val % 512)) := by
  induction k with
  | zero =>
    refine ⟨fun y => ?_, fun y h => absurd h (by omega)⟩
    rw [pb_k0_t1.eq_1]; exact hM y
  | succ k ih =>
    obtain ⟨ih1, ih2⟩ := ih (by omega)
    have hkt : k < (k0_t1_loop (𝕎 p)).trips := by rw [trips1 hp]; omega
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w2 w507 w527 w565 w567 z X4 X5 X9 G12 G14 ⟨k, hkt⟩]
    generalize (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w2 w507 w527 w565 w567 z X4 X5 X9 G12 G14 k) = P at ih1 ih2 ⊢
    have hlt := lt1 hp i ⟨k, hkt⟩
    have hns := nslots_le hp (t0_le i)
    have hch : chunk p (t0 i) k = k := by unfold chunk; rw [if_pos (by omega)]
    have e2 := off2_eq hp i ⟨k, hkt⟩
    have e3 := off3_eq hp i ⟨k, hkt⟩
    have e4 := off4_eq hp i ⟨k, hkt⟩
    have kQ : ∀ y : S256x256.Idx, arg9.view.readAt (Elt Ideal) (Rect.unit (s := S256x256) ![0, 0] S256x256.size inb_S256x256_S256x256_0_0).toLoadRect X9 y
        = Q (y 0).val (y 1).val := fun y => by
      rw [View.readAt_full]; exact hQ y
    have kK : ∀ (inb : ∀ a, k0_off2 i (𝕎 p) ⟨k, hkt⟩ a + S1x512x256.size a ≤ S1x32768x256.size a) (y : S1x512x256.Idx),
        arg4.view.readAt (Elt Ideal) (Rect.unit (s := S1x32768x256) (k0_off2 i (𝕎 p) ⟨k, hkt⟩) S1x512x256.size inb).toLoadRect X4 y
        = K (chunk p (t0 i) k * 512 + (y 1).val) (y 2).val := fun inb y => by
      refine (readAt_emb _ _ _ _).trans ((hK _).trans ?_)
      rw [emb_val inb e2, emb_val inb e2]
      congr 1; exact Nat.zero_add _
    have kS : ∀ (inb : ∀ a, k0_off3 i (𝕎 p) ⟨k, hkt⟩ a + S1x1x512.size a ≤ S1x1x32768.size a) (y : S1x1x512.Idx),
        arg5.view.readAt (Elt Ideal) (Rect.unit (s := S1x1x32768) (k0_off3 i (𝕎 p) ⟨k, hkt⟩) S1x1x512.size inb).toLoadRect X5 y
        = ks (chunk p (t0 i) k * 512 + (y 2).val) := fun inb y => by
      refine (readAt_emb _ _ _ _).trans ((hs _).trans ?_)
      rw [emb_val inb e3]; rfl
    unfold tripL_k0_t1 trip_k0_t1
    dsimp only [List.cons_append, List.nil_append]
    refine ⟨fun y => ?_, fun y hy => ?_⟩
    · rw [View.read_writes_full]
      refine (pay238_at Q K ks _ _ _ _ _ kQ (kK _) (kS _) y).trans ?_
      rw [View.readAt_full, ih1]
      simp only [mfold, sm_full i p hp Q K ks k (by omega) (y 0).val _ (show (y 1).val < 512 from lt_trans (y 1).isLt (by decide)),
        sm_full i p hp Q K ks k (by omega) (y 0).val _ (show 128 + (y 1).val < 512 from by have := (y 1).isLt; change (y 1).val < 128 at this; omega),
        sm_full i p hp Q K ks k (by omega) (y 0).val _ (show 256 + (y 1).val < 512 from by have := (y 1).isLt; change (y 1).val < 128 at this; omega),
        sm_full i p hp Q K ks k (by omega) (y 0).val _ (show 384 + (y 1).val < 512 from by have := (y 1).isLt; change (y 1).val < 128 at this; omega)]
    · rw [View.read_writes_cons_unit _ _ _ _ _ y e4]
      split
      · rename_i h
        refine (pay237_at Q K ks _ _ _ _ kQ (kK _) (kS _) _).trans ?_
        have h1 := h 1
        change k * 512 ≤ (y 1).val ∧ (y 1).val < k * 512 + 512 at h1
        have e : (y 1).val / 512 = k := by omega
        rw [e, sm_full i p hp Q K ks k (by omega) _ _ (by omega)]
        have a0 : (Rect.unitLocal (s := S256x32768) (off := ![0, k * 512]) (size := S256x512.size) y h 0).val = (y 0).val := Nat.sub_zero _
        have a1 : (Rect.unitLocal (s := S256x32768) (off := ![0, k * 512]) (size := S256x512.size) y h 1).val = (y 1).val % 512 := by
          refine (Rect.unitLocal_val _ _ _).trans ?_
          change (y 1).val - k * 512 = _; omega
        rw [a0, a1]
      · rename_i h
        refine ih2 y ?_
        by_contra hc
        refine h fun a => ?_
        match a with
        | ⟨0, _⟩ => exact ⟨Nat.zero_le _, lt_of_lt_of_eq (y 0).isLt (Nat.zero_add _).symm⟩
        | ⟨1, _⟩ => change k * 512 ≤ (y 1).val ∧ (y 1).val < k * 512 + 512; omega

end Cert.KernelIdeal.Val

end
-- ==== Proof.Mask.lean ====
/-
The mask as the program computes it on words, against `vis`; and the row's token within its tile.
-/
module

public import proofs.«01_k».proof.Proof.Model
public import Idealize.ShloMosaic.Lib.WordCmp

@[expose] public section

namespace Cert.Attn

open Idealize.ShloMosaic

local notation "𝕎" => BitVec.ofNat 32

theorem toInt_ofNat_small {n : ℕ} (h : n < 2 ^ 31) : (𝕎 n).toInt = n := by
  rw [BitVec.toInt_ofNat']
  exact Int.bmod_eq_of_le (by omega) (by omega)

/-- The selected score: the score where the key is visible, `⊥` elsewhere. -/
theorem mask_sel {α : Type} (p T κ : ℕ) (hp : p ≤ 32768) (hT : T < 32768) (hκ : κ < 32768) (a b : α) :
    Scalar.select (IntOp.ori (IntOp.cmpi .slt (𝕎 κ) (𝕎 p))
      (IntOp.andi (IntOp.cmpi .sle (𝕎 κ) (𝕎 T)) (IntOp.cmpi .sgt (𝕎 κ) (IntOp.subi (𝕎 T) 1024#32)))) a b
      = if vis p T κ then a else b := by
  have h1 : (IntOp.subi (𝕎 T) 1024#32).toInt = (T : Int) - 1024 := by
    show ((𝕎 T) - 1024#32).toInt = _
    rw [BitVec.toInt_sub, toInt_ofNat_small (by omega), show (1024#32 : BitVec 32).toInt = 1024 from by decide]
    exact Int.bmod_eq_of_le (by omega) (by omega)
  rw [WordCmp.cmpi_slt_eq, WordCmp.cmpi_sle_eq, WordCmp.cmpi_sgt_eq, h1, toInt_ofNat_small (show κ < _ by omega), toInt_ofNat_small (show p < _ by omega),
    toInt_ofNat_small (show T < _ by omega)]
  have h2 : ∀ x y z : Bool, (IntOp.ori (BitVec.ofBool x) (IntOp.andi (BitVec.ofBool y) (BitVec.ofBool z)) = 1) ↔ (x = true ∨ (y = true ∧ z = true)) := by
    decide
  unfold Scalar.select
  refine if_congr ((h2 _ _ _).trans ?_) rfl rfl
  simp only [decide_eq_true_eq]
  unfold vis
  omega

/-- `R % 32` as the program computes it, for a row number below 256. -/
def rowMod (x : BitVec 32) : BitVec 32 :=
  let r := IntOp.remsi .vector x 32#32
  Scalar.select (IntOp.andi (IntOp.xori (IntOp.cmpi .slt r 0#32) 0#1) (IntOp.cmpi .ne r 0#32)) (IntOp.addi r 32#32) r

theorem rowMod_eq : ∀ R : Fin 256, rowMod (𝕎 R.val) = 𝕎 (R.val % 32) := by decide +kernel

end Cert.Attn

end
-- ==== Proof.Loop3.lean ====
/-
The second loop of the attention body: the scores of the remaining chunks, masked, and their running maximum.
-/
module

public import proofs.«01_k».proof.Proof.Model
public import proofs.«01_k».proof.Proof.Reads
public import proofs.«01_k».proof.Proof.KernelIdealWords
public import proofs.«01_k».proof.Proof.Gen.KernelIdeal.Loops
public import proofs.«01_k».proof.Proof.Mask
public import proofs.«01_k».proof.Proof.Loop1
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (hw1 : k0_chk1 i (𝕎 p)) (w567 : BitVec 32) (z : Ideal .f32)
  (X4 : BufTy.Contents (Elt Ideal) arg4.view.ty) (X5 : BufTy.Contents (Elt Ideal) arg5.view.ty) (X9 : BufTy.Contents (Elt Ideal) arg9.view.ty)
  (G12 : BufTy.Contents (Elt Ideal) arg12.view.ty) (G14 : BufTy.Contents (Elt Ideal) arg14.view.ty)
  (Q K : ℕ → ℕ → EReal) (ks : ℕ → EReal)

/-- An index outside a chunk's columns. -/
theorem not_cols (q : ℕ) (y : S256x32768.Idx) (h : ¬∀ a, (![0, q * 512] : Fin 2 → ℕ) a ≤ (y a).val ∧ (y a).val < (![0, q * 512] : Fin 2 → ℕ) a + S256x512.size a) :
    ¬(q * 512 ≤ (y 1).val ∧ (y 1).val < q * 512 + 512) := fun hc => h fun a => by
  match a with
  | ⟨0, _⟩ => exact ⟨Nat.zero_le _, lt_of_lt_of_eq (y 0).isLt (Nat.zero_add _).symm⟩
  | ⟨1, _⟩ => exact hc

include hp in
/-- The masked score of one chunk, from the score, the key's number and the token's. -/
theorem pay242_at (v682 : FVec Ideal S256x512 .f32) (v685 v704 : IVec S256x512 32) (κc : ℕ) (hc : κc < 64)
    (hs : ∀ y, v682 y = sc Q K ks (y 0).val (κc * 512 + (y 1).val)) (h5 : ∀ y : S256x512.Idx, v685 y = 𝕎 (κc * 512 + (y 1).val))
    (h4 : ∀ y : S256x512.Idx, v704 y = 𝕎 (t0 i + (y 0).val % 32)) (y : S256x512.Idx) :
    k0_pay242 (F := Ideal) (𝕎 p) v682 v685 v704 y = sm p (t0 i) Q K ks (y 0).val (κc * 512 + (y 1).val) := by
  have h1 : (y 1).val < 512 := (y 1).isLt
  have h0 := t0_le i
  have hb : Ideal.ofBits .f32 0xFF800000#32 = (⊥ : EReal) := by simp [Ideal.ofBits, Ideal.ieee]
  pointwise [k0_pay242]
  rw [h5, h4, hs, mask_sel p _ _ hp (by omega) (by omega), hb]
  rfl

include hp in
theorem pay243_at (v682 : FVec Ideal S256x512 .f32) (v685 v704 : IVec S256x512 32) (κc : ℕ) (hc : κc < 64)
    (hs : ∀ y, v682 y = sc Q K ks (y 0).val (κc * 512 + (y 1).val)) (h5 : ∀ y : S256x512.Idx, v685 y = 𝕎 (κc * 512 + (y 1).val))
    (h4 : ∀ y : S256x512.Idx, v704 y = 𝕎 (t0 i + (y 0).val % 32)) (y : S256x512.Idx) :
    k0_pay243 (F := Ideal) (𝕎 p) v682 v685 v704 y = sm p (t0 i) Q K ks (y 0).val (κc * 512 + (y 1).val) := by
  unfold k0_pay243
  refine (congrFun (shapeCast_self _ _) _).trans ?_
  exact pay242_at i p hp Q K ks _ _ _ κc hc hs h5 h4 y

include hp in
/-- The running maximum of one masked chunk. -/
theorem pay244_at (v682 : FVec Ideal S256x512 .f32) (v685 v704 : IVec S256x512 32) (M : Vec Ideal S256x128 .f32) (κc : ℕ) (hc : κc < 64)
    (hs : ∀ y, v682 y = sc Q K ks (y 0).val (κc * 512 + (y 1).val)) (h5 : ∀ y : S256x512.Idx, v685 y = 𝕎 (κc * 512 + (y 1).val))
    (h4 : ∀ y : S256x512.Idx, v704 y = 𝕎 (t0 i + (y 0).val % 32)) (y : S256x128.Idx) :
    k0_pay244 (F := Ideal) (𝕎 p) v682 v685 v704 M y = max (max (max (max (M y) (sm p (t0 i) Q K ks (y 0).val (κc * 512 + (y 1).val)))
      (sm p (t0 i) Q K ks (y 0).val (κc * 512 + (128 + (y 1).val)))) (sm p (t0 i) Q K ks (y 0).val (κc * 512 + (256 + (y 1).val))))
      (sm p (t0 i) Q K ks (y 0).val (κc * 512 + (384 + (y 1).val))) := by
  have h := pay242_at i p hp Q K ks v682 v685 v704 κc hc hs h5 h4
  pointwise [k0_pay244]
  simp only [h]
  rfl

include hp in
/-- The key's number, from its chunk and its place in the chunk. -/
theorem v685_at (k : ℕ) (hk : k < (k0_t3_loop i (𝕎 p)).trips) (y : S256x512.Idx) :
    trip_k0_t3.sl.v685 (F := Ideal) i (𝕎 p) (fdiv (𝕎 p)) (wloW (𝕎 p) (t0W i)) (edgeW (𝕎 p) (t0W i)) ⟨k, hk⟩ y
      = 𝕎 (chunk p (t0 i) (p / 512 + k) * 512 + (y 1).val) := by
  have hlt := lt3 hp i ⟨k, hk⟩
  unfold trip_k0_t3.sl.v685 trip_k0_t3.sl.v684 trip_k0_t3.sl.v683
  pointwise []
  have e : trip_k0_t3.sl.v669 (F := Ideal) i (𝕎 p) (fdiv (𝕎 p)) (wloW (𝕎 p) (t0W i)) (edgeW (𝕎 p) (t0W i)) ⟨k, hk⟩
    = Scalar.muli (chunkW (𝕎 p) (t0W i) (slotW (fdiv (𝕎 p)) k)) 512#32 := rfl
  rw [e, slot3 hp i hlt, chunk512 hp i hlt]
  exact (BitVec.ofNat_add ..).symm

/-- The token's number, from its tile and its place in the tile. -/
theorem v704_at (y : S256x512.Idx) : trip_k0_t3.sl.v704 (t0W i) y = 𝕎 (t0 i + (y 0).val % 32) := by
  unfold trip_k0_t3.sl.v704 trip_k0_t3.sl.v703 trip_k0_t3.sl.v702 trip_k0_t3.sl.v701
  sl_unfold_words
  pointwise []
  refine (congrArg (IntOp.addi (t0W i)) (rowMod_eq (y 0))).trans ?_
  rw [t0W_eq]
  exact (BitVec.ofNat_add ..).symm

/-- The score of one chunk before masking. -/
theorem v682_at (k : ℕ) (hkt : k < (k0_t3_loop i (𝕎 p)).trips)
    (kQ : ∀ y : S256x256.Idx, arg9.view.readAt (Elt Ideal) (Rect.unit (s := S256x256) ![0, 0] S256x256.size inb_S256x256_S256x256_0_0).toLoadRect X9 y
        = Q (y 0).val (y 1).val)
    (kK : ∀ (inb : ∀ a, k0_off8 i (𝕎 p) ⟨k, hkt⟩ a + S1x512x256.size a ≤ S1x32768x256.size a) (y : S1x512x256.Idx),
        arg4.view.readAt (Elt Ideal) (Rect.unit (s := S1x32768x256) (k0_off8 i (𝕎 p) ⟨k, hkt⟩) S1x512x256.size inb).toLoadRect X4 y
        = K (chunk p (t0 i) (p / 512 + k) * 512 + (y 1).val) (y 2).val)
    (kS : ∀ (inb : ∀ a, k0_off9 i (𝕎 p) ⟨k, hkt⟩ a + S1x1x512.size a ≤ S1x1x32768.size a) (y : S1x1x512.Idx),
        arg5.view.readAt (Elt Ideal) (Rect.unit (s := S1x1x32768) (k0_off9 i (𝕎 p) ⟨k, hkt⟩) S1x1x512.size inb).toLoadRect X5 y
        = ks (chunk p (t0 i) (p / 512 + k) * 512 + (y 2).val)) (y : S256x512.Idx) :
    trip_k0_t3.sl.v682 i arg4 arg5 arg9 (𝕎 p) hw1 X4 X5 X9 ⟨k, hkt⟩ y = sc Q K ks (y 0).val (chunk p (t0 i) (p / 512 + k) * 512 + (y 1).val) := by
  have e : trip_k0_t3.sl.v682 i arg4 arg5 arg9 (𝕎 p) hw1 X4 X5 X9 ⟨k, hkt⟩ = k0_pay239 (F := Ideal)
    (arg9.view.readAt (Elt Ideal) (Rect.unit (s := S256x256) ![0, 0] S256x256.size inb_S256x256_S256x256_0_0).toLoadRect X9)
    (arg4.view.readAt (Elt Ideal) (Rect.unit (s := S1x32768x256) (k0_off8 i (𝕎 p) ⟨k, hkt⟩) S1x512x256.size (k0_off8_inb i (𝕎 p) hw1 ⟨k, hkt⟩)).toLoadRect X4)
    (arg5.view.readAt (Elt Ideal) (Rect.unit (s := S1x1x32768) (k0_off9 i (𝕎 p) ⟨k, hkt⟩) S1x1x512.size (k0_off9_inb i (𝕎 p) hw1 ⟨k, hkt⟩)).toLoadRect X5) := rfl
  rw [e]
  pointwise [k0_pay239]
  simp only [kQ, kK, kS]
  rfl

include hp in
set_option maxHeartbeats 1000000 in
/-- After `k` trips: the masked scores of the first `p / 512 + k` slots, and their maximum. -/
theorem t3_state (hQ : ∀ y, arg9.view.read (Elt Ideal) X9 y = Q (y 0).val (y 1).val)
    (hK : ∀ y, arg4.view.read (Elt Ideal) X4 y = K (y 1).val (y 2).val)
    (hs : ∀ y, arg5.view.read (Elt Ideal) X5 y = ks (y 2).val)
    (hM : ∀ y, arg12.view.read (Elt Ideal) G12 y = mfold (sm p (t0 i) Q K ks (y 0).val) (chunk p (t0 i)) (y 1).val (p / 512))
    (hS : ∀ y, (y 1).val < p / 512 * 512 → arg14.view.read (Elt Ideal) G14 y = sm p (t0 i) Q K ks (y 0).val (chunk p (t0 i) ((y 1).val / 512) * 512 + (y 1).val % 512))
    (k : ℕ) (hk : p / 512 + k ≤ nslots p (t0 i)) :
    (∀ y, arg12.view.read (Elt Ideal) (arg12.view.writes (Elt Ideal) G12 ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 (t0W i) (fdiv (𝕎 p)) (wloW (𝕎 p) (t0W i)) (edgeW (𝕎 p) (t0W i)) w567 z X4 X5 X9 G12 G14 k)).1) y
      = mfold (sm p (t0 i) Q K ks (y 0).val) (chunk p (t0 i)) (y 1).val (p / 512 + k))
    ∧ (∀ y, (y 1).val < (p / 512 + k) * 512 → arg14.view.read (Elt Ideal) (arg14.view.writes (Elt Ideal) G14 ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 (t0W i) (fdiv (𝕎 p)) (wloW (𝕎 p) (t0W i)) (edgeW (𝕎 p) (t0W i)) w567 z X4 X5 X9 G12 G14 k)).2) y
      = sm p (t0 i) Q K ks (y 0).val (chunk p (t0 i) ((y 1).val / 512) * 512 + (y 1).val % 512)) := by
  induction k with
  | zero =>
    rw [pb_k0_t3.eq_1]; exact ⟨hM, hS⟩
  | succ k ih =>
    obtain ⟨ih1, ih2⟩ := ih (by omega)
    have hkt : k < (k0_t3_loop i (𝕎 p)).trips := by rw [trips3 hp i]; omega
    rw [pb_k0_t3_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 (t0W i) (fdiv (𝕎 p)) (wloW (𝕎 p) (t0W i)) (edgeW (𝕎 p) (t0W i)) w567 z X4 X5 X9 G12 G14 ⟨k, hkt⟩]
    generalize (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 (t0W i) (fdiv (𝕎 p)) (wloW (𝕎 p) (t0W i)) (edgeW (𝕎 p) (t0W i)) w567 z X4 X5 X9 G12 G14 k) = P at ih1 ih2 ⊢
    have hlt := lt3 hp i ⟨k, hkt⟩
    have hns := nslots_le hp (t0_le i)
    have hcl := chunk_lt hp (t0_le i) hlt
    change p / 512 + k < nslots p (t0 i) at hlt
    have e2 := off8_eq hp i ⟨k, hkt⟩
    have e3 := off9_eq hp i ⟨k, hkt⟩
    have e4 := off10_eq hp i ⟨k, hkt⟩
    have kQ : ∀ y : S256x256.Idx, arg9.view.readAt (Elt Ideal) (Rect.unit (s := S256x256) ![0, 0] S256x256.size inb_S256x256_S256x256_0_0).toLoadRect X9 y
        = Q (y 0).val (y 1).val := fun y => by
      rw [View.readAt_full]; exact hQ y
    have kK : ∀ (inb : ∀ a, k0_off8 i (𝕎 p) ⟨k, hkt⟩ a + S1x512x256.size a ≤ S1x32768x256.size a) (y : S1x512x256.Idx),
        arg4.view.readAt (Elt Ideal) (Rect.unit (s := S1x32768x256) (k0_off8 i (𝕎 p) ⟨k, hkt⟩) S1x512x256.size inb).toLoadRect X4 y
        = K (chunk p (t0 i) (p / 512 + k) * 512 + (y 1).val) (y 2).val := fun inb y => by
      refine (readAt_emb _ _ _ _).trans ((hK _).trans ?_)
      rw [emb_val inb e2, emb_val inb e2]
      congr 1; exact Nat.zero_add _
    have kS : ∀ (inb : ∀ a, k0_off9 i (𝕎 p) ⟨k, hkt⟩ a + S1x1x512.size a ≤ S1x1x32768.size a) (y : S1x1x512.Idx),
        arg5.view.readAt (Elt Ideal) (Rect.unit (s := S1x1x32768) (k0_off9 i (𝕎 p) ⟨k, hkt⟩) S1x1x512.size inb).toLoadRect X5 y
        = ks (chunk p (t0 i) (p / 512 + k) * 512 + (y 2).val) := fun inb y => by
      refine (readAt_emb _ _ _ _).trans ((hs _).trans ?_)
      rw [emb_val inb e3]; rfl
    unfold tripL_k0_t3 trip_k0_t3
    dsimp only [List.cons_append, List.nil_append]
    refine ⟨fun y => ?_, fun y hy => ?_⟩
    · rw [View.read_writes_full]
      have hl : (y 1).val < 128 := (y 1).isLt
      refine (pay244_at i p hp Q K ks _ _ _ _ _ hcl (v682_at i arg4 arg5 arg9 p hw1 X4 X5 X9 Q K ks k hkt kQ kK kS) (v685_at i p hp k hkt) (v704_at i) y).trans ?_
      rw [View.readAt_full, ih1]; rfl
    · rw [View.read_writes_cons_unit _ _ _ _ _ y e4]
      split
      · rename_i h
        refine (pay243_at i p hp Q K ks _ _ _ _ hcl (v682_at i arg4 arg5 arg9 p hw1 X4 X5 X9 Q K ks k hkt kQ kK kS) (v685_at i p hp k hkt) (v704_at i) _).trans ?_
        have h1 := h 1
        change (p / 512 + k) * 512 ≤ (y 1).val ∧ (y 1).val < (p / 512 + k) * 512 + 512 at h1
        have e : (y 1).val / 512 = p / 512 + k := by omega
        have a0 : (Rect.unitLocal (s := S256x32768) (off := ![0, (p / 512 + k) * 512]) (size := S256x512.size) y h 0).val = (y 0).val := Nat.sub_zero _
        have a1 : (Rect.unitLocal (s := S256x32768) (off := ![0, (p / 512 + k) * 512]) (size := S256x512.size) y h 1).val = (y 1).val % 512 := by
          refine (Rect.unitLocal_val _ _ _).trans ?_
          change (y 1).val - (p / 512 + k) * 512 = _; omega
        rw [e, a0, a1]
      · rename_i h
        refine ih2 y ?_
        have := not_cols (p / 512 + k) y h
        omega

end Cert.KernelIdeal.Val

end
-- ==== Proof.Loop5.lean ====
/-
The third loop of the attention body: the exponentials of the scores, their sum by lanes, and their product with the values.
-/
module

public import proofs.«01_k».proof.Proof.Model
public import proofs.«01_k».proof.Proof.Reads
public import proofs.«01_k».proof.Proof.KernelIdealWords
public import proofs.«01_k».proof.Proof.Gen.KernelIdeal.Loops
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (hw1 : k0_chk1 i (𝕎 p)) (w507 w527 w565 w567 : BitVec 32) (z3 z4 : FVec Ideal S256x128 .f32)
  (X6 : BufTy.Contents (Elt Ideal) arg6.view.ty) (X10 : BufTy.Contents (Elt Ideal) arg10.view.ty) (X11 : BufTy.Contents (Elt Ideal) arg11.view.ty)
  (X14 : BufTy.Contents (Elt Ideal) arg14.view.ty)
  (G13 : BufTy.Contents (Elt Ideal) arg13.view.ty) (G15 : BufTy.Contents (Elt Ideal) arg15.view.ty) (G16 : BufTy.Contents (Elt Ideal) arg16.view.ty)
  (A B : ℕ → EReal) (f V : ℕ → ℕ → EReal)

/-- The stored code of a block of scores. -/
theorem code_at (a b s : FVec Ideal S32x128 .f32) (x : S32x128.Idx) :
    shapeCast S32x128 (truncf .fp8e4m3 (minimumf (broadcast S32x128 (Scalar.ofBits .f32 0x43E00000#32))
      (maximumf (broadcast S32x128 (Scalar.ofBits .f32 0x00000000#32)) (exp2 (subf (mulf s a) b)))) bitsLt_fp8e4m3_f32) shapeCasts_S32x128_S32x128 x
      = clip (pk (a x) (b x) (s x)) := by
  rw [shapeCast_self]
  rfl

/-- The sums of a block of scores, four lanes further. -/
theorem sum_at (g a b s0 s1 s2 s3 : FVec Ideal S32x128 .f32) (x : S32x128.Idx) :
    shapeCast S32x128 (addf (addf (addf (addf g (exp2 (subf (mulf s0 a) b))) (exp2 (subf (mulf s1 a) b))) (exp2 (subf (mulf s2 a) b)))
      (exp2 (subf (mulf s3 a) b))) shapeCasts_S32x128_S32x128 x
      = g x + pk (a x) (b x) (s0 x) + pk (a x) (b x) (s1 x) + pk (a x) (b x) (s2 x) + pk (a x) (b x) (s3 x) := by
  rw [shapeCast_self]
  rfl

/-- The product of one chunk's codes with its values, added to what was there. -/
theorem pay251_at (G : Vec Ideal S256x256 .f32) (w : Vec Ideal S256x512 .fp8e4m3) (v : Vec Ideal S1x512x256 .fp8e4m3) (y : S256x256.Idx) :
    k0_pay251 G w v y = G y + ∑ j : Fin 512, w (ix2 (y 0) j) * v (ix3 0 j (y 1)) := by
  pointwise [k0_pay251]

variable {arg10 arg11 arg14 X10 X11 X14 A B f p i} in
/-- A block of the lane-constant row values. -/
theorem rowRead {M : Memref sig .tc .vmem S256x128 .f32} {X : BufTy.Contents (Elt Ideal) M.view.ty} {A : ℕ → EReal}
    (hA : ∀ y, M.view.read (Elt Ideal) X y = A (y 0).val) {o : ℕ} (inb : ∀ a, (![o, 0] : Fin 2 → ℕ) a + S32x128.size a ≤ S256x128.size a) (x : S32x128.Idx) :
    M.view.readAt (Elt Ideal) (Rect.unit (s := S256x128) ![o, 0] S32x128.size inb).toLoadRect X x = A (o + (x 0).val) :=
  (readAt_emb _ _ _ _).trans ((hA _).trans (congrArg A (emb_val (s := S256x128) inb rfl x 0)))

/-- A block of the scores of the chunk in hand. -/
theorem scoreRead {k : ℕ} (hk : k < nslots p (t0 i))
    (hS : ∀ y, (y 1).val < nslots p (t0 i) * 512 → arg14.view.read (Elt Ideal) X14 y = f (y 0).val (chunk p (t0 i) ((y 1).val / 512) * 512 + (y 1).val % 512))
    {off : Fin 2 → ℕ} {o r : ℕ} (hr : r ≤ 384) (e : off = ![o, k * 512 + r]) (inb : ∀ a, off a + S32x128.size a ≤ S256x32768.size a) (x : S32x128.Idx) :
    arg14.view.readAt (Elt Ideal) (Rect.unit (s := S256x32768) off S32x128.size inb).toLoadRect X14 x
      = f (o + (x 0).val) (chunk p (t0 i) k * 512 + (r + (x 1).val)) := by
  have hx : (x 1).val < 128 := (x 1).isLt
  have e1 := emb_val (s := S256x32768) inb e x 1
  change _ = k * 512 + r + (x 1).val at e1
  refine (readAt_emb _ _ _ _).trans ((hS _ (by rw [e1]; omega)).trans ?_)
  rw [e1, emb_val (s := S256x32768) inb e x 0]
  have h1 : (k * 512 + r + (x 1).val) / 512 = k := by omega
  have h2 : (k * 512 + r + (x 1).val) % 512 = r + (x 1).val := by omega
  rw [h1, h2]; rfl

/-- The codes of one chunk, as one function of row and place. -/
def codeFn (k : ℕ) (y : S256x512.Idx) : EReal := clip (pk (A (y 0).val) (B (y 0).val) (f (y 0).val (chunk p (t0 i) k * 512 + (y 1).val)))

/-- The lanes' sums after one more chunk. -/
def sumFn (k : ℕ) (y : S256x128.Idx) : EReal :=
  arg13.view.read (Elt Ideal) G13 y + pk (A (y 0).val) (B (y 0).val) (f (y 0).val (chunk p (t0 i) k * 512 + (y 1).val))
    + pk (A (y 0).val) (B (y 0).val) (f (y 0).val (chunk p (t0 i) k * 512 + (128 + (y 1).val)))
    + pk (A (y 0).val) (B (y 0).val) (f (y 0).val (chunk p (t0 i) k * 512 + (256 + (y 1).val)))
    + pk (A (y 0).val) (B (y 0).val) (f (y 0).val (chunk p (t0 i) k * 512 + (384 + (y 1).val)))

section
variable {arg10 arg11 arg13 arg14 X10 X11 X14 G13 A B f p i}

theorem code_of {k : ℕ} (hk : k < nslots p (t0 i)) (hA : ∀ y, arg10.view.read (Elt Ideal) X10 y = A (y 0).val) (hB : ∀ y, arg11.view.read (Elt Ideal) X11 y = B (y 0).val)
    (hS : ∀ y, (y 1).val < nslots p (t0 i) * 512 → arg14.view.read (Elt Ideal) X14 y = f (y 0).val (chunk p (t0 i) ((y 1).val / 512) * 512 + (y 1).val % 512)) {off : Fin 2 → ℕ} {o r : ℕ} (hr : r ≤ 384) (e : off = ![o, k * 512 + r])
    {inb : ∀ a, off a + S32x128.size a ≤ S256x32768.size a} {inbA : ∀ a, (![o, 0] : Fin 2 → ℕ) a + S32x128.size a ≤ S256x128.size a}
    (inbC : ∀ a, (![o, r] : Fin 2 → ℕ) a + S32x128.size a ≤ S256x512.size a) (x : S32x128.Idx) :
    shapeCast S32x128 (truncf (F := Ideal) .fp8e4m3 (minimumf (broadcast S32x128 (Scalar.ofBits .f32 0x43E00000#32))
      (maximumf (broadcast S32x128 (Scalar.ofBits .f32 0x00000000#32)) (exp2 (subf (mulf
        (arg14.view.readAt (Elt Ideal) (Rect.unit (s := S256x32768) off S32x128.size inb).toLoadRect X14)
        (arg10.view.readAt (Elt Ideal) (Rect.unit (s := S256x128) ![o, 0] S32x128.size inbA).toLoadRect X10))
        (arg11.view.readAt (Elt Ideal) (Rect.unit (s := S256x128) ![o, 0] S32x128.size inbA).toLoadRect X11))))) bitsLt_fp8e4m3_f32) shapeCasts_S32x128_S32x128 x
      = codeFn i p A B f k ((Rect.unit (s := S256x512) ![o, r] S32x128.size inbC).emb x) := by
  rw [code_at, rowRead hA, rowRead hB, scoreRead i arg14 p X14 f hk hS hr e]
  unfold codeFn
  rw [emb_val (s := S256x512) inbC rfl x 0, emb_val (s := S256x512) inbC rfl x 1]
  rfl

theorem sum_of {k : ℕ} (hk : k < nslots p (t0 i)) (hA : ∀ y, arg10.view.read (Elt Ideal) X10 y = A (y 0).val) (hB : ∀ y, arg11.view.read (Elt Ideal) X11 y = B (y 0).val)
    (hS : ∀ y, (y 1).val < nslots p (t0 i) * 512 → arg14.view.read (Elt Ideal) X14 y = f (y 0).val (chunk p (t0 i) ((y 1).val / 512) * 512 + (y 1).val % 512)) {off0 off1 off2 off3 : Fin 2 → ℕ} {o : ℕ}
    (e0 : off0 = ![o, k * 512 + 0]) (e1 : off1 = ![o, k * 512 + 128]) (e2 : off2 = ![o, k * 512 + 256]) (e3 : off3 = ![o, k * 512 + 384])
    {i0 : ∀ a, off0 a + S32x128.size a ≤ S256x32768.size a} {i1 : ∀ a, off1 a + S32x128.size a ≤ S256x32768.size a}
    {i2 : ∀ a, off2 a + S32x128.size a ≤ S256x32768.size a} {i3 : ∀ a, off3 a + S32x128.size a ≤ S256x32768.size a}
    {inbA : ∀ a, (![o, 0] : Fin 2 → ℕ) a + S32x128.size a ≤ S256x128.size a} (x : S32x128.Idx) :
    shapeCast S32x128 (addf (F := Ideal) (φ := .f32) (addf (φ := .f32) (addf (φ := .f32) (addf (φ := .f32) (arg13.view.readAt (Elt Ideal) (Rect.unit (s := S256x128) ![o, 0] S32x128.size inbA).toLoadRect G13)
      (exp2 (subf (mulf (φ := .f32) (arg14.view.readAt (Elt Ideal) (Rect.unit (s := S256x32768) off0 S32x128.size i0).toLoadRect X14)
        (arg10.view.readAt (Elt Ideal) (Rect.unit (s := S256x128) ![o, 0] S32x128.size inbA).toLoadRect X10))
        (arg11.view.readAt (Elt Ideal) (Rect.unit (s := S256x128) ![o, 0] S32x128.size inbA).toLoadRect X11))))
      (exp2 (subf (mulf (φ := .f32) (arg14.view.readAt (Elt Ideal) (Rect.unit (s := S256x32768) off1 S32x128.size i1).toLoadRect X14)
        (arg10.view.readAt (Elt Ideal) (Rect.unit (s := S256x128) ![o, 0] S32x128.size inbA).toLoadRect X10))
        (arg11.view.readAt (Elt Ideal) (Rect.unit (s := S256x128) ![o, 0] S32x128.size inbA).toLoadRect X11))))
      (exp2 (subf (mulf (φ := .f32) (arg14.view.readAt (Elt Ideal) (Rect.unit (s := S256x32768) off2 S32x128.size i2).toLoadRect X14)
        (arg10.view.readAt (Elt Ideal) (Rect.unit (s := S256x128) ![o, 0] S32x128.size inbA).toLoadRect X10))
        (arg11.view.readAt (Elt Ideal) (Rect.unit (s := S256x128) ![o, 0] S32x128.size inbA).toLoadRect X11))))
      (exp2 (subf (mulf (φ := .f32) (arg14.view.readAt (Elt Ideal) (Rect.unit (s := S256x32768) off3 S32x128.size i3).toLoadRect X14)
        (arg10.view.readAt (Elt Ideal) (Rect.unit (s := S256x128) ![o, 0] S32x128.size inbA).toLoadRect X10))
        (arg11.view.readAt (Elt Ideal) (Rect.unit (s := S256x128) ![o, 0] S32x128.size inbA).toLoadRect X11)))) shapeCasts_S32x128_S32x128 x
      = sumFn i arg13 p G13 A B f k ((Rect.unit (s := S256x128) ![o, 0] S32x128.size inbA).emb x) := by
  rw [sum_at, rowRead hA, rowRead hB, scoreRead i arg14 p X14 f hk hS (by decide) e0, scoreRead i arg14 p X14 f hk hS (by decide) e1,
    scoreRead i arg14 p X14 f hk hS (by decide) e2, scoreRead i arg14 p X14 f hk hS (by decide) e3]
  unfold sumFn
  rw [emb_val (s := S256x128) inbA rfl x 0, emb_val (s := S256x128) inbA rfl x 1]
  have z : (![o, 0] : Fin 2 → ℕ) 1 + (x 1).val = (x 1).val := Nat.zero_add _
  rw [z, Nat.zero_add (x 1).val]
  rfl
end

end Cert.KernelIdeal.Val

end
-- ==== Proof.Loop5Codes.lean ====
/-
The codes that one trip of the third loop stores.
-/
module

public import proofs.«01_k».proof.Proof.Model
public import proofs.«01_k».proof.Proof.Reads
public import proofs.«01_k».proof.Proof.KernelIdealWords
public import proofs.«01_k».proof.Proof.Gen.KernelIdeal.Loops
public import proofs.«01_k».proof.Proof.Loop5
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (hw1 : k0_chk1 i (𝕎 p)) (w507 w527 w565 w567 : BitVec 32) (z3 z4 : FVec Ideal S256x128 .f32)
  (X6 : BufTy.Contents (Elt Ideal) arg6.view.ty) (X10 : BufTy.Contents (Elt Ideal) arg10.view.ty) (X11 : BufTy.Contents (Elt Ideal) arg11.view.ty)
  (X14 : BufTy.Contents (Elt Ideal) arg14.view.ty)
  (G13 : BufTy.Contents (Elt Ideal) arg13.view.ty) (G15 : BufTy.Contents (Elt Ideal) arg15.view.ty) (G16 : BufTy.Contents (Elt Ideal) arg16.view.ty)
  (A B : ℕ → EReal) (f V : ℕ → ℕ → EReal)

include hp in
set_option maxHeartbeats 4000000 in
/-- The codes of one trip: every block of them is a block of `codeFn`. -/
theorem codes_agree (hA : ∀ y, arg10.view.read (Elt Ideal) X10 y = A (y 0).val) (hB : ∀ y, arg11.view.read (Elt Ideal) X11 y = B (y 0).val)
    (hS : ∀ y, (y 1).val < nslots p (t0 i) * 512 → arg14.view.read (Elt Ideal) X14 y = f (y 0).val (chunk p (t0 i) ((y 1).val / 512) * 512 + (y 1).val % 512)) (k : ℕ) (hkt : k < (k0_t5_loop i (𝕎 p)).trips) :
    ∀ q ∈ trip_k0_t5.sl.HW_arg15_32 i arg10 arg11 arg14 (𝕎 p) hw1 X10 X11 X14 ⟨k, hkt⟩, ∀ x, q.2 x = codeFn i p A B f k (q.1.emb x) := by
  have hk := lt5 hp i ⟨k, hkt⟩
  unfold trip_k0_t5.sl.HW_arg15_32
  refine List.forall_mem_cons.2 ⟨fun x => code_of (o := 224) (r := 384) hk hA hB hS (by decide) (off21_eq hp i ⟨k, hkt⟩ 3) (by decide) x, ?_⟩
  refine List.forall_mem_cons.2 ⟨fun x => code_of (o := 224) (r := 256) hk hA hB hS (by decide) (off21_eq hp i ⟨k, hkt⟩ 2) (by decide) x, ?_⟩
  refine List.forall_mem_cons.2 ⟨fun x => code_of (o := 224) (r := 128) hk hA hB hS (by decide) (off21_eq hp i ⟨k, hkt⟩ 1) (by decide) x, ?_⟩
  refine List.forall_mem_cons.2 ⟨fun x => code_of (o := 224) (r := 0) hk hA hB hS (by decide) (off21_eq hp i ⟨k, hkt⟩ 0) (by decide) x, ?_⟩
  refine List.forall_mem_cons.2 ⟨fun x => code_of (o := 192) (r := 384) hk hA hB hS (by decide) (off20_eq hp i ⟨k, hkt⟩ 3) (by decide) x, ?_⟩
  refine List.forall_mem_cons.2 ⟨fun x => code_of (o := 192) (r := 256) hk hA hB hS (by decide) (off20_eq hp i ⟨k, hkt⟩ 2) (by decide) x, ?_⟩
  refine List.forall_mem_cons.2 ⟨fun x => code_of (o := 192) (r := 128) hk hA hB hS (by decide) (off20_eq hp i ⟨k, hkt⟩ 1) (by decide) x, ?_⟩
  refine List.forall_mem_cons.2 ⟨fun x => code_of (o := 192) (r := 0) hk hA hB hS (by decide) (off20_eq hp i ⟨k, hkt⟩ 0) (by decide) x, ?_⟩
  refine List.forall_mem_cons.2 ⟨fun x => code_of (o := 160) (r := 384) hk hA hB hS (by decide) (off19_eq hp i ⟨k, hkt⟩ 3) (by decide) x, ?_⟩
  refine List.forall_mem_cons.2 ⟨fun x => code_of (o := 160) (r := 256) hk hA hB hS (by decide) (off19_eq hp i ⟨k, hkt⟩ 2) (by decide) x, ?_⟩
  refine List.forall_mem_cons.2 ⟨fun x => code_of (o := 160) (r := 128) hk hA hB hS (by decide) (off19_eq hp i ⟨k, hkt⟩ 1) (by decide) x, ?_⟩
  refine List.forall_mem_cons.2 ⟨fun x => code_of (o := 160) (r := 0) hk hA hB hS (by decide) (off19_eq hp i ⟨k, hkt⟩ 0) (by decide) x, ?_⟩
  refine List.forall_mem_cons.2 ⟨fun x => code_of (o := 128) (r := 384) hk hA hB hS (by decide) (off18_eq hp i ⟨k, hkt⟩ 3) (by decide) x, ?_⟩
  refine List.forall_mem_cons.2 ⟨fun x => code_of (o := 128) (r := 256) hk hA hB hS (by decide) (off18_eq hp i ⟨k, hkt⟩ 2) (by decide) x, ?_⟩
  refine List.forall_mem_cons.2 ⟨fun x => code_of (o := 128) (r := 128) hk hA hB hS (by decide) (off18_eq hp i ⟨k, hkt⟩ 1) (by decide) x, ?_⟩
  refine List.forall_mem_cons.2 ⟨fun x => code_of (o := 128) (r := 0) hk hA hB hS (by decide) (off18_eq hp i ⟨k, hkt⟩ 0) (by decide) x, ?_⟩
  refine List.forall_mem_cons.2 ⟨fun x => code_of (o := 96) (r := 384) hk hA hB hS (by decide) (off17_eq hp i ⟨k, hkt⟩ 3) (by decide) x, ?_⟩
  refine List.forall_mem_cons.2 ⟨fun x => code_of (o := 96) (r := 256) hk hA hB hS (by decide) (off17_eq hp i ⟨k, hkt⟩ 2) (by decide) x, ?_⟩
  refine List.forall_mem_cons.2 ⟨fun x => code_of (o := 96) (r := 128) hk hA hB hS (by decide) (off17_eq hp i ⟨k, hkt⟩ 1) (by decide) x, ?_⟩
  refine List.forall_mem_cons.2 ⟨fun x => code_of (o := 96) (r := 0) hk hA hB hS (by decide) (off17_eq hp i ⟨k, hkt⟩ 0) (by decide) x, ?_⟩
  refine List.forall_mem_cons.2 ⟨fun x => code_of (o := 64) (r := 384) hk hA hB hS (by decide) (off16_eq hp i ⟨k, hkt⟩ 3) (by decide) x, ?_⟩
  refine List.forall_mem_cons.2 ⟨fun x => code_of (o := 64) (r := 256) hk hA hB hS (by decide) (off16_eq hp i ⟨k, hkt⟩ 2) (by decide) x, ?_⟩
  refine List.forall_mem_cons.2 ⟨fun x => code_of (o := 64) (r := 128) hk hA hB hS (by decide) (off16_eq hp i ⟨k, hkt⟩ 1) (by decide) x, ?_⟩
  refine List.forall_mem_cons.2 ⟨fun x => code_of (o := 64) (r := 0) hk hA hB hS (by decide) (off16_eq hp i ⟨k, hkt⟩ 0) (by decide) x, ?_⟩
  refine List.forall_mem_cons.2 ⟨fun x => code_of (o := 32) (r := 384) hk hA hB hS (by decide) (off15_eq hp i ⟨k, hkt⟩ 3) (by decide) x, ?_⟩
  refine List.forall_mem_cons.2 ⟨fun x => code_of (o := 32) (r := 256) hk hA hB hS (by decide) (off15_eq hp i ⟨k, hkt⟩ 2) (by decide) x, ?_⟩
  refine List.forall_mem_cons.2 ⟨fun x => code_of (o := 32) (r := 128) hk hA hB hS (by decide) (off15_eq hp i ⟨k, hkt⟩ 1) (by decide) x, ?_⟩
  refine List.forall_mem_cons.2 ⟨fun x => code_of (o := 32) (r := 0) hk hA hB hS (by decide) (off15_eq hp i ⟨k, hkt⟩ 0) (by decide) x, ?_⟩
  refine List.forall_mem_cons.2 ⟨fun x => code_of (o := 0) (r := 384) hk hA hB hS (by decide) (off14_eq hp i ⟨k, hkt⟩ 3) (by decide) x, ?_⟩
  refine List.forall_mem_cons.2 ⟨fun x => code_of (o := 0) (r := 256) hk hA hB hS (by decide) (off14_eq hp i ⟨k, hkt⟩ 2) (by decide) x, ?_⟩
  refine List.forall_mem_cons.2 ⟨fun x => code_of (o := 0) (r := 128) hk hA hB hS (by decide) (off14_eq hp i ⟨k, hkt⟩ 1) (by decide) x, ?_⟩
  refine List.forall_mem_cons.2 ⟨fun x => code_of (o := 0) (r := 0) hk hA hB hS (by decide) (off14_eq hp i ⟨k, hkt⟩ 0) (by decide) x, ?_⟩
  exact fun q h => absurd h List.not_mem_nil

end Cert.KernelIdeal.Val

end
-- ==== Proof.Loop5Cover.lean ====
/-
The codes that one trip of the third loop stores cover the chunk.
-/
module

public import proofs.«01_k».proof.Proof.Model
public import proofs.«01_k».proof.Proof.Reads
public import proofs.«01_k».proof.Proof.KernelIdealWords
public import proofs.«01_k».proof.Proof.Gen.KernelIdeal.Loops
public import proofs.«01_k».proof.Proof.Loop5
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (hw1 : k0_chk1 i (𝕎 p)) (w507 w527 w565 w567 : BitVec 32) (z3 z4 : FVec Ideal S256x128 .f32)
  (X6 : BufTy.Contents (Elt Ideal) arg6.view.ty) (X10 : BufTy.Contents (Elt Ideal) arg10.view.ty) (X11 : BufTy.Contents (Elt Ideal) arg11.view.ty)
  (X14 : BufTy.Contents (Elt Ideal) arg14.view.ty)
  (G13 : BufTy.Contents (Elt Ideal) arg13.view.ty) (G15 : BufTy.Contents (Elt Ideal) arg15.view.ty) (G16 : BufTy.Contents (Elt Ideal) arg16.view.ty)
  (A B : ℕ → EReal) (f V : ℕ → ℕ → EReal)

/-- The place of a block among the codes of one trip. -/
theorem codes_get (k : Fin (k0_t5_loop i (𝕎 p)).trips) (h : Fin 8) (r : Fin 4) : ∃ inb w,
    (trip_k0_t5.sl.HW_arg15_32 i arg10 arg11 arg14 (𝕎 p) hw1 X10 X11 X14 k)[31 - (4 * h.val + r.val)]?
      = some (⟨Rect.unit ![32 * h.val, 128 * r.val] S32x128.size inb, w⟩ : View.Piece (Elt Ideal) S256x512 .fp8e4m3) := by
  unfold trip_k0_t5.sl.HW_arg15_32
  fin_cases h <;> fin_cases r <;> exact ⟨_, _, rfl⟩

/-- Every block of the chunk is among the codes of one trip. -/
theorem codes_mem (k : Fin (k0_t5_loop i (𝕎 p)).trips) (h : Fin 8) (r : Fin 4) : ∃ inb w,
    (⟨Rect.unit ![32 * h.val, 128 * r.val] S32x128.size inb, w⟩ : View.Piece (Elt Ideal) S256x512 .fp8e4m3)
      ∈ trip_k0_t5.sl.HW_arg15_32 i arg10 arg11 arg14 (𝕎 p) hw1 X10 X11 X14 k := by
  obtain ⟨inb, w, e⟩ : ∃ inb w, _ = some (⟨Rect.unit ![32 * h.val, 128 * r.val] S32x128.size inb, w⟩ : View.Piece (Elt Ideal) S256x512 .fp8e4m3) := codes_get i arg10 arg11 arg14 p hw1 X10 X11 X14 k h r
  exact ⟨inb, w, List.mem_of_getElem? e⟩

/-- The blocks of one trip's codes cover the chunk. -/
theorem codes_cover (k : Fin (k0_t5_loop i (𝕎 p)).trips) (y : S256x512.Idx) :
    ∃ q ∈ trip_k0_t5.sl.HW_arg15_32 i arg10 arg11 arg14 (𝕎 p) hw1 X10 X11 X14 k, y ∈ q.1.set := by
  have h0 : (y 0).val < 256 := (y 0).isLt
  have h1 : (y 1).val < 512 := (y 1).isLt
  obtain ⟨inb, w, hm⟩ := codes_mem i arg10 arg11 arg14 p hw1 X10 X11 X14 k ⟨(y 0).val / 32, by omega⟩ ⟨(y 1).val / 128, by omega⟩
  refine ⟨_, hm, mem_unit inb y (Fin.forall_fin_two.2 ⟨⟨?_, ?_⟩, ⟨?_, ?_⟩⟩)⟩
  · show 32 * ((y 0).val / 32) ≤ (y 0).val; omega
  · show (y 0).val < 32 * ((y 0).val / 32) + 32; omega
  · show 128 * ((y 1).val / 128) ≤ (y 1).val; omega
  · show (y 1).val < 128 * ((y 1).val / 128) + 128; omega
end Cert.KernelIdeal.Val

end
-- ==== Proof.Loop5State.lean ====
/-
What the third loop of the attention body leaves: the sums by lanes and the products with the values.
-/
module

public import proofs.«01_k».proof.Proof.Model
public import proofs.«01_k».proof.Proof.Reads
public import proofs.«01_k».proof.Proof.KernelIdealWords
public import proofs.«01_k».proof.Proof.Gen.KernelIdeal.Loops
public import proofs.«01_k».proof.Proof.Loop5Codes
public import proofs.«01_k».proof.Proof.Loop5Cover
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (hw1 : k0_chk1 i (𝕎 p)) (w507 w527 w565 w567 : BitVec 32) (z3 z4 : FVec Ideal S256x128 .f32)
  (X6 : BufTy.Contents (Elt Ideal) arg6.view.ty) (X10 : BufTy.Contents (Elt Ideal) arg10.view.ty) (X11 : BufTy.Contents (Elt Ideal) arg11.view.ty)
  (X14 : BufTy.Contents (Elt Ideal) arg14.view.ty)
  (G13 : BufTy.Contents (Elt Ideal) arg13.view.ty) (G15 : BufTy.Contents (Elt Ideal) arg15.view.ty) (G16 : BufTy.Contents (Elt Ideal) arg16.view.ty)
  (A B : ℕ → EReal) (f V : ℕ → ℕ → EReal)

/-- The rows' blocks cover the lanes' sums. -/
theorem rows_of {L : List (View.Piece (Elt Ideal) S256x128 .f32)}
    (hL : ∀ h : Fin 8, ∃ inb w, L[7 - h.val]? = some (⟨Rect.unit ![32 * h.val, 0] S32x128.size inb, w⟩ : View.Piece (Elt Ideal) S256x128 .f32)) (y : S256x128.Idx) :
    ∃ q ∈ L, y ∈ q.1.set := by
  have h0 : (y 0).val < 256 := (y 0).isLt
  have h1 : (y 1).val < 128 := (y 1).isLt
  obtain ⟨inb, w, hm⟩ := hL ⟨(y 0).val / 32, by omega⟩
  refine ⟨_, List.mem_of_getElem? hm, mem_unit inb y (Fin.forall_fin_two.2 ⟨⟨?_, ?_⟩, ⟨?_, ?_⟩⟩)⟩
  · show 32 * ((y 0).val / 32) ≤ (y 0).val; omega
  · show (y 0).val < 32 * ((y 0).val / 32) + 32; omega
  · exact Nat.zero_le _
  · show (y 1).val < 0 + 128; omega

include hp in
set_option maxHeartbeats 4000000 in
/-- After `k` trips: the lanes' sums and the products of the first `k` slots. -/
theorem t5_state (hA : ∀ y, arg10.view.read (Elt Ideal) X10 y = A (y 0).val) (hB : ∀ y, arg11.view.read (Elt Ideal) X11 y = B (y 0).val)
    (hS : ∀ y, (y 1).val < nslots p (t0 i) * 512 → arg14.view.read (Elt Ideal) X14 y = f (y 0).val (chunk p (t0 i) ((y 1).val / 512) * 512 + (y 1).val % 512))
    (hV : ∀ y, arg6.view.read (Elt Ideal) X6 y = V (y 1).val (y 2).val)
    (hL : ∀ y, arg13.view.read (Elt Ideal) G13 y = 0) (hAcc : ∀ y, arg16.view.read (Elt Ideal) G16 y = 0)
    (k : ℕ) (hk : k ≤ nslots p (t0 i)) :
    (∀ y, arg13.view.read (Elt Ideal) (arg13.view.writes (Elt Ideal) G13 ((pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w507 w527 w565 w567 z3 z4 X6 X10 X11 X14 G13 G15 G16 k)).1) y
      = lfold (fun κ => pk (A (y 0).val) (B (y 0).val) (f (y 0).val κ)) (chunk p (t0 i)) (y 1).val k)
    ∧ (∀ y, arg16.view.read (Elt Ideal) (arg16.view.writes (Elt Ideal) G16 ((pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w507 w527 w565 w567 z3 z4 X6 X10 X11 X14 G13 G15 G16 k)).2.2) y
      = afold (fun κ => clip (pk (A (y 0).val) (B (y 0).val) (f (y 0).val κ))) (fun κ => V κ (y 1).val) (chunk p (t0 i)) k) := by
  induction k with
  | zero =>
    rw [pb_k0_t5.eq_1]; exact ⟨hL, hAcc⟩
  | succ k ih =>
    obtain ⟨ih1, ih2⟩ := ih (by omega)
    have hkt : k < (k0_t5_loop i (𝕎 p)).trips := by rw [trips5 hp i]; omega
    rw [pb_k0_t5_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w507 w527 w565 w567 z3 z4 X6 X10 X11 X14 G13 G15 G16 ⟨k, hkt⟩]
    generalize (pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (𝕎 p) hw1 w507 w527 w565 w567 z3 z4 X6 X10 X11 X14 G13 G15 G16 k) = P at ih1 ih2 ⊢
    have hk := lt5 hp i ⟨k, hkt⟩
    change k < nslots p (t0 i) at hk
    have hns := nslots_le hp (t0_le i)
    have hcl := chunk_lt hp (t0_le i) hk
    have eV := off22_eq hp i ⟨k, hkt⟩
    have hcod := codes_agree i arg10 arg11 arg14 p hp hw1 X10 X11 X14 A B f hA hB hS k hkt
    have hcov := codes_cover i arg10 arg11 arg14 p hw1 X10 X11 X14 ⟨k, hkt⟩
    have kV : ∀ (inb : ∀ a, k0_off22 i (𝕎 p) ⟨k, hkt⟩ a + S1x512x256.size a ≤ S1x32768x256.size a) (y : S1x512x256.Idx),
        arg6.view.readAt (Elt Ideal) (Rect.unit (s := S1x32768x256) (k0_off22 i (𝕎 p) ⟨k, hkt⟩) S1x512x256.size inb).toLoadRect X6 y
        = V (chunk p (t0 i) k * 512 + (y 1).val) (y 2).val := fun inb y => by
      refine (readAt_emb _ _ _ _).trans ((hV _).trans ?_)
      rw [emb_val inb eV, emb_val inb eV]
      congr 1; exact Nat.zero_add _
    unfold tripL_k0_t5 trip_k0_t5
    dsimp only [List.cons_append, List.nil_append]
    refine ⟨fun y => ?_, fun y => ?_⟩
    · refine (read_writes_of_agree (L' := P.1) (W := sumFn i arg13 p (arg13.view.writes (Elt Ideal) G13 P.1) A B f k) _ _ _ [_, _, _, _, _, _, _, _] ?_ ?_).trans ?_
      · dsimp only [trip_k0_t5.sl.v738, trip_k0_t5.sl.v804, trip_k0_t5.sl.v870, trip_k0_t5.sl.v936, trip_k0_t5.sl.v1002, trip_k0_t5.sl.v1068, trip_k0_t5.sl.v1134, trip_k0_t5.sl.v1200]
        refine List.forall_mem_cons.2 ⟨fun x => sum_of (o := 224) hk hA hB hS (off21_eq hp i ⟨k, hkt⟩ 0) (off21_eq hp i ⟨k, hkt⟩ 1) (off21_eq hp i ⟨k, hkt⟩ 2) (off21_eq hp i ⟨k, hkt⟩ 3) x, ?_⟩
        refine List.forall_mem_cons.2 ⟨fun x => sum_of (o := 192) hk hA hB hS (off20_eq hp i ⟨k, hkt⟩ 0) (off20_eq hp i ⟨k, hkt⟩ 1) (off20_eq hp i ⟨k, hkt⟩ 2) (off20_eq hp i ⟨k, hkt⟩ 3) x, ?_⟩
        refine List.forall_mem_cons.2 ⟨fun x => sum_of (o := 160) hk hA hB hS (off19_eq hp i ⟨k, hkt⟩ 0) (off19_eq hp i ⟨k, hkt⟩ 1) (off19_eq hp i ⟨k, hkt⟩ 2) (off19_eq hp i ⟨k, hkt⟩ 3) x, ?_⟩
        refine List.forall_mem_cons.2 ⟨fun x => sum_of (o := 128) hk hA hB hS (off18_eq hp i ⟨k, hkt⟩ 0) (off18_eq hp i ⟨k, hkt⟩ 1) (off18_eq hp i ⟨k, hkt⟩ 2) (off18_eq hp i ⟨k, hkt⟩ 3) x, ?_⟩
        refine List.forall_mem_cons.2 ⟨fun x => sum_of (o := 96) hk hA hB hS (off17_eq hp i ⟨k, hkt⟩ 0) (off17_eq hp i ⟨k, hkt⟩ 1) (off17_eq hp i ⟨k, hkt⟩ 2) (off17_eq hp i ⟨k, hkt⟩ 3) x, ?_⟩
        refine List.forall_mem_cons.2 ⟨fun x => sum_of (o := 64) hk hA hB hS (off16_eq hp i ⟨k, hkt⟩ 0) (off16_eq hp i ⟨k, hkt⟩ 1) (off16_eq hp i ⟨k, hkt⟩ 2) (off16_eq hp i ⟨k, hkt⟩ 3) x, ?_⟩
        refine List.forall_mem_cons.2 ⟨fun x => sum_of (o := 32) hk hA hB hS (off15_eq hp i ⟨k, hkt⟩ 0) (off15_eq hp i ⟨k, hkt⟩ 1) (off15_eq hp i ⟨k, hkt⟩ 2) (off15_eq hp i ⟨k, hkt⟩ 3) x, ?_⟩
        refine List.forall_mem_cons.2 ⟨fun x => sum_of (o := 0) hk hA hB hS (off14_eq hp i ⟨k, hkt⟩ 0) (off14_eq hp i ⟨k, hkt⟩ 1) (off14_eq hp i ⟨k, hkt⟩ 2) (off14_eq hp i ⟨k, hkt⟩ 3) x, ?_⟩
        exact fun q h => absurd h List.not_mem_nil
      · refine rows_of (fun h => ?_) y
        fin_cases h <;> exact ⟨_, _, rfl⟩
      · unfold sumFn; rw [ih1]; rfl
    · rw [View.read_writes_full]
      refine (pay251_at _ _ _ y).trans ?_
      rw [View.readAt_full, ih2]
      refine congrArg (_ + ·) (Finset.sum_congr rfl fun j _ => congrArg₂ (· * ·) ?_ (kV _ _))
      have hc := hcov (ix2 (y 0) j)
      unfold trip_k0_t5.sl.v1202
      clear hcov
      generalize trip_k0_t5.sl.HW_arg15_32 i arg10 arg11 arg14 (𝕎 p) hw1 X10 X11 X14 ⟨k, hkt⟩ = L at hcod hc ⊢
      have := read_writes_of_agree arg15.view arg15.view.junk (codeFn i p A B f k) (ix2 (y 0) j) [] L hcod hc
      rw [List.append_nil] at this
      refine Eq.trans ?_ this
      exact congrFun (View.readAt_full ..) _
end Cert.KernelIdeal.Val

end
-- ==== Proof.Passes.lean ====
/-
The two passes of the attention body, as the body runs them: the scores and their maximum through the first four loops,
the exponentials' sums and the products through the last two. Of each pass's loops the remainder loops make no trip.
-/
module

public import proofs.«01_k».proof.Proof.Model
public import proofs.«01_k».proof.Proof.Reads
public import proofs.«01_k».proof.Proof.KernelIdealWords
public import proofs.«01_k».proof.Proof.Loop1
public import proofs.«01_k».proof.Proof.Loop3
public import proofs.«01_k».proof.Proof.Loop5State
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg2 : Memref sig .tc .smem S2 .i32) (harg2 : arg2.IsWhole) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (p : ℕ) (hp : p ≤ 32768) (w : BitVec 32) (hw : w = 𝕎 p) (hw1 : k0_chk1 i w) (v2 v507 v527 v565 v567 : BitVec 32)

include hp hw in
/-- The first pass: the masked scores of every visited slot, and each lane's maximum. -/
theorem pass1 (h2 : v2 = t0W i) (h507 : v507 = fdiv (𝕎 p)) (h527 : v527 = wloW (𝕎 p) (t0W i)) (h565 : v565 = edgeW (𝕎 p) (t0W i))
    (z : Ideal .f32) (v597 : BitVec 32)
    (X4 : BufTy.Contents (Elt Ideal) arg4.view.ty) (X5 : BufTy.Contents (Elt Ideal) arg5.view.ty) (X9 : BufTy.Contents (Elt Ideal) arg9.view.ty)
    (J12 : BufTy.Contents (Elt Ideal) arg12.view.ty) (H12 : List (View.Piece (Elt Ideal) S256x128 .f32)) (G14 : BufTy.Contents (Elt Ideal) arg14.view.ty)
    (Q K : ℕ → ℕ → EReal) (ks : ℕ → EReal)
    (hQ : ∀ y, arg9.view.read (Elt Ideal) X9 y = Q (y 0).val (y 1).val)
    (hK : ∀ y, arg4.view.read (Elt Ideal) X4 y = K (y 1).val (y 2).val)
    (hs : ∀ y, arg5.view.read (Elt Ideal) X5 y = ks (y 2).val)
    (hM : ∀ y, arg12.view.read (Elt Ideal) (arg12.view.writes (Elt Ideal) J12 H12) y = ⊥)
    {L1 L2 L3 L4 : List (View.Piece (Elt Ideal) S256x128 .f32) × List (View.Piece (Elt Ideal) S256x32768 .f32)}
    (e1 : L1 = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w hw1 v2 v507 v527 v565 v567 z X4 X5 X9 (arg12.view.writes (Elt Ideal) J12 H12) G14
      (Scf.trips (k0_t1_loop w).lb (k0_t1_loop w).ub (k0_t1_loop w).st))
    (e2 : L2 = pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w hw1 v2 v507 v527 v565 v567 z X4 X5 X9 (arg12.view.writes (Elt Ideal) J12 (L1.1 ++ H12))
      (arg14.view.writes (Elt Ideal) G14 L1.2) (Scf.trips (k0_t2_loop w).lb (k0_t2_loop w).ub (k0_t2_loop w).st))
    (e3 : L3 = pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w hw1 v2 v507 v527 v565 v567 z X4 X5 X9 (arg12.view.writes (Elt Ideal) J12 (L2.1 ++ (L1.1 ++ H12)))
      (arg14.view.writes (Elt Ideal) G14 (L2.2 ++ L1.2)) (Scf.trips (k0_t3_loop i w).lb (k0_t3_loop i w).ub (k0_t3_loop i w).st))
    (e4 : L4 = pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w hw1 v2 v507 v527 v565 v567 z v597 X4 X5 X9
      (arg12.view.writes (Elt Ideal) J12 (L3.1 ++ (L2.1 ++ (L1.1 ++ H12))))
      (arg14.view.writes (Elt Ideal) G14 (L3.2 ++ (L2.2 ++ L1.2))) (Scf.trips (k0_t4_loop i w).lb (k0_t4_loop i w).ub (k0_t4_loop i w).st)) :
    (∀ y, arg12.view.read (Elt Ideal) (arg12.view.writes (Elt Ideal) J12 (L4.1 ++ (L3.1 ++ (L2.1 ++ (L1.1 ++ H12))))) y
      = mfold (sm p (t0 i) Q K ks (y 0).val) (chunk p (t0 i)) (y 1).val (nslots p (t0 i)))
    ∧ ∀ y, (y 1).val < nslots p (t0 i) * 512 →
        arg14.view.read (Elt Ideal) (arg14.view.writes (Elt Ideal) G14 (L4.2 ++ (L3.2 ++ (L2.2 ++ L1.2)))) y
      = sm p (t0 i) Q K ks (y 0).val (chunk p (t0 i) ((y 1).val / 512) * 512 + (y 1).val % 512) := by
  subst hw h2 h507 h527 h565
  obtain ⟨a1, b1⟩ := t1_state c i arg2 harg2 arg3 harg3 arg4 harg4 arg5 harg5 arg6 harg6 arg7 harg7 arg8 harg8 arg9 harg9 arg10 harg10 arg11 harg11 arg12 harg12 arg13 harg13 arg14 harg14 arg15 harg15 arg16 harg16 p hp hw1 _ _ _ _ v567 z X4 X5 X9 (arg12.view.writes (Elt Ideal) J12 H12) G14 Q K ks hQ hK hs hM (p / 512) le_rfl
  rw [show Scf.trips (k0_t1_loop (𝕎 p)).lb (k0_t1_loop (𝕎 p)).ub (k0_t1_loop (𝕎 p)).st = p / 512 from trips1 hp] at e1
  rw [← e1, ← View.writes_append] at a1
  rw [← e1] at b1
  rw [show Scf.trips (k0_t2_loop (𝕎 p)).lb (k0_t2_loop (𝕎 p)).ub (k0_t2_loop (𝕎 p)).st = 0 from trips2 _, pb_k0_t2.eq_1] at e2
  subst e2
  simp only [List.nil_append] at e3 e4 ⊢
  have hn : p / 512 + (nslots p (t0 i) - p / 512) = nslots p (t0 i) := by unfold nslots; omega
  obtain ⟨a3, b3⟩ := t3_state c i arg2 harg2 arg3 harg3 arg4 harg4 arg5 harg5 arg6 harg6 arg7 harg7 arg8 harg8 arg9 harg9 arg10 harg10 arg11 harg11 arg12 harg12 arg13 harg13 arg14 harg14 arg15 harg15 arg16 harg16 p hp hw1 v567 z X4 X5 X9 (arg12.view.writes (Elt Ideal) J12 (L1.1 ++ H12)) (arg14.view.writes (Elt Ideal) G14 L1.2)
    Q K ks hQ hK hs a1 b1 (nslots p (t0 i) - p / 512) (le_of_eq hn)
  rw [show Scf.trips (k0_t3_loop i (𝕎 p)).lb (k0_t3_loop i (𝕎 p)).ub (k0_t3_loop i (𝕎 p)).st = nslots p (t0 i) - p / 512 from trips3 hp i] at e3
  rw [← e3, ← View.writes_append, hn] at a3
  rw [← e3, ← View.writes_append, hn] at b3
  rw [show Scf.trips (k0_t4_loop i (𝕎 p)).lb (k0_t4_loop i (𝕎 p)).ub (k0_t4_loop i (𝕎 p)).st = 0 from trips4 i _, pb_k0_t4.eq_1] at e4
  subst e4
  simp only [List.nil_append]
  exact ⟨a3, b3⟩

include hp hw in
/-- The second pass: each lane's sum of exponentials, and the products with the values. -/
theorem pass2 (v603 v604 : FVec Ideal S256x128 .f32) (v617 : BitVec 32)
    (X6 : BufTy.Contents (Elt Ideal) arg6.view.ty) (X10 : BufTy.Contents (Elt Ideal) arg10.view.ty) (X11 : BufTy.Contents (Elt Ideal) arg11.view.ty)
    (X14 : BufTy.Contents (Elt Ideal) arg14.view.ty)
    (J13 : BufTy.Contents (Elt Ideal) arg13.view.ty) (H13 : List (View.Piece (Elt Ideal) S256x128 .f32)) (G15 : BufTy.Contents (Elt Ideal) arg15.view.ty)
    (J16 : BufTy.Contents (Elt Ideal) arg16.view.ty) (H16 : List (View.Piece (Elt Ideal) S256x256 .f32))
    (A B : ℕ → EReal) (f V : ℕ → ℕ → EReal)
    (hA : ∀ y, arg10.view.read (Elt Ideal) X10 y = A (y 0).val) (hB : ∀ y, arg11.view.read (Elt Ideal) X11 y = B (y 0).val)
    (hS : ∀ y, (y 1).val < nslots p (t0 i) * 512 → arg14.view.read (Elt Ideal) X14 y = f (y 0).val (chunk p (t0 i) ((y 1).val / 512) * 512 + (y 1).val % 512))
    (hV : ∀ y, arg6.view.read (Elt Ideal) X6 y = V (y 1).val (y 2).val)
    (hL : ∀ y, arg13.view.read (Elt Ideal) (arg13.view.writes (Elt Ideal) J13 H13) y = 0)
    (hAcc : ∀ y, arg16.view.read (Elt Ideal) (arg16.view.writes (Elt Ideal) J16 H16) y = 0)
    {L5 L6 : List (View.Piece (Elt Ideal) S256x128 .f32) × List (View.Piece (Elt Ideal) S256x512 .fp8e4m3) × List (View.Piece (Elt Ideal) S256x256 .f32)}
    (e5 : L5 = pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w hw1 v507 v527 v565 v567 v603 v604 X6 X10 X11 X14
      (arg13.view.writes (Elt Ideal) J13 H13) G15 (arg16.view.writes (Elt Ideal) J16 H16)
      (Scf.trips (k0_t5_loop i w).lb (k0_t5_loop i w).ub (k0_t5_loop i w).st))
    (e6 : L6 = pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w hw1 v507 v527 v565 v567 v603 v604 v617 X6 X10 X11 X14
      (arg13.view.writes (Elt Ideal) J13 (L5.1 ++ H13)) (arg15.view.writes (Elt Ideal) G15 L5.2.1) (arg16.view.writes (Elt Ideal) J16 (L5.2.2 ++ H16))
      (Scf.trips (k0_t6_loop i w).lb (k0_t6_loop i w).ub (k0_t6_loop i w).st)) :
    (∀ y, arg13.view.read (Elt Ideal) (arg13.view.writes (Elt Ideal) J13 (L6.1 ++ (L5.1 ++ H13))) y
      = lfold (fun κ => pk (A (y 0).val) (B (y 0).val) (f (y 0).val κ)) (chunk p (t0 i)) (y 1).val (nslots p (t0 i)))
    ∧ ∀ y, arg16.view.read (Elt Ideal) (arg16.view.writes (Elt Ideal) J16 (L6.2.2 ++ (L5.2.2 ++ H16))) y
      = afold (fun κ => clip (pk (A (y 0).val) (B (y 0).val) (f (y 0).val κ))) (fun κ => V κ (y 1).val) (chunk p (t0 i)) (nslots p (t0 i)) := by
  subst hw
  obtain ⟨a5, b5⟩ := t5_state c i arg2 harg2 arg3 harg3 arg4 harg4 arg5 harg5 arg6 harg6 arg7 harg7 arg8 harg8 arg9 harg9 arg10 harg10 arg11 harg11 arg12 harg12 arg13 harg13 arg14 harg14 arg15 harg15 arg16 harg16 p hp hw1 v507 v527 v565 v567 v603 v604 X6 X10 X11 X14 (arg13.view.writes (Elt Ideal) J13 H13) G15
    (arg16.view.writes (Elt Ideal) J16 H16) A B f V hA hB hS hV hL hAcc (nslots p (t0 i)) le_rfl
  rw [show Scf.trips (k0_t5_loop i (𝕎 p)).lb (k0_t5_loop i (𝕎 p)).ub (k0_t5_loop i (𝕎 p)).st = nslots p (t0 i) from trips5 hp i] at e5
  rw [← e5, ← View.writes_append] at a5 b5
  rw [show Scf.trips (k0_t6_loop i (𝕎 p)).lb (k0_t6_loop i (𝕎 p)).ub (k0_t6_loop i (𝕎 p)).st = 0 from trips6 i _, pb_k0_t6.eq_1] at e6
  subst e6
  simp only [List.nil_append]
  exact ⟨a5, b5⟩

end Cert.KernelIdeal.Val
-- ==== Proof.Keys.lean ====
/-
From slots to keys: the chunks a tile visits are distinct, and every key that one of its tokens sees lies in one of them. So a
sum over the slots is the sum over all keys of whatever vanishes on the keys not seen, and likewise for the maximum.
-/
module

public import proofs.«01_k».proof.Proof.Model

@[expose] public section

noncomputable section

namespace Cert.Attn

open Idealize.ShloMosaic

theorem chunk_inj {p t0 s s' : ℕ} (hs : s < nslots p t0) (hs' : s' < nslots p t0) (h : chunk p t0 s = chunk p t0 s') : s = s' := by
  unfold chunk nslots nwin at *
  have he : edge p t0 = 0 ∨ (edge p t0 = 1 ∧ ((t0 + 31) / 512 + 1 - wlo p t0 = 0 ∨ p / 512 < wlo p t0)) := by
    unfold edge nwin
    split
    · rename_i hh; exact .inr ⟨rfl, hh.2⟩
    · exact .inl rfl
  have hw : p / 512 ≤ wlo p t0 := le_max_left _ _
  generalize edge p t0 = e at *
  generalize wlo p t0 = w at *
  split at h <;> split at h <;> omega

/-- The chunk of a seen key is visited. -/
theorem chunk_cover {p t0 r κ : ℕ} (hr : r < 32) (h : vis p (t0 + r) κ) : ∃ s < nslots p t0, chunk p t0 s = κ / 512 := by
  have hw1 : p / 512 ≤ wlo p t0 := le_max_left _ _
  have hw2 : (t0 - 1023) / 512 ≤ wlo p t0 := le_max_right _ _
  have hw3 : wlo p t0 = p / 512 ∨ wlo p t0 = (t0 - 1023) / 512 := by unfold wlo; omega
  by_cases hc : κ / 512 < p / 512
  · refine ⟨κ / 512, ?_, ?_⟩
    · unfold nslots; omega
    · unfold chunk; rw [if_pos (by omega)]
  have win : wlo p t0 ≤ κ / 512 → κ / 512 ≤ (t0 + 31) / 512 → ∃ s < nslots p t0, chunk p t0 s = κ / 512 := fun h1 h2 => by
    refine ⟨p / 512 + edge p t0 + (κ / 512 - wlo p t0), ?_, ?_⟩
    · unfold nslots nwin; omega
    · unfold chunk; rw [if_neg (by omega)]; omega
  rcases h with h | ⟨h1, h2⟩
  · have e : κ / 512 = p / 512 := by omega
    by_cases hn : nwin p t0 = 0 ∨ p / 512 < wlo p t0
    · have he : edge p t0 = 1 := by unfold edge; exact if_pos ⟨by omega, hn⟩
      refine ⟨p / 512, ?_, ?_⟩
      · unfold nslots; omega
      · unfold chunk; rw [if_pos (by omega)]; exact e.symm
    · refine win (by omega) ?_
      have : nwin p t0 ≠ 0 := fun hh => hn (.inl hh)
      unfold nwin at this; omega
  · exact win (by omega) (by omega)

/-! ## Sums -/

theorem sum_512 (g : ℕ → EReal) : ∑ j ∈ Finset.range 512, g j
    = ∑ l ∈ Finset.range 128, (g l + g (128 + l) + g (256 + l) + g (384 + l)) := by
  rw [show 512 = 128 + 128 + 128 + 128 from rfl, Finset.sum_range_add, Finset.sum_range_add, Finset.sum_range_add]
  simp only [Finset.sum_add_distrib]

/-- The lanes' sums together. -/
theorem lfold_sum (f : ℕ → EReal) (ch : ℕ → ℕ) (n : ℕ) : ∑ l ∈ Finset.range 128, lfold f ch l n
    = ∑ k ∈ Finset.range n, ∑ j ∈ Finset.range 512, f (ch k * 512 + j) := by
  induction n with
  | zero => exact Finset.sum_eq_zero fun _ _ => rfl
  | succ n ih =>
    rw [Finset.sum_range_succ (fun k => ∑ j ∈ Finset.range 512, f (ch k * 512 + j)), ← ih, sum_512 (fun j => f (ch n * 512 + j)), ← Finset.sum_add_distrib]
    refine Finset.sum_congr rfl fun l _ => ?_
    simp only [lfold, add_assoc]

theorem afold_sum (f v : ℕ → EReal) (ch : ℕ → ℕ) (n : ℕ) : afold f v ch n
    = ∑ k ∈ Finset.range n, ∑ j ∈ Finset.range 512, f (ch k * 512 + j) * v (ch k * 512 + j) := by
  induction n with
  | zero => rfl
  | succ n ih =>
    rw [Finset.sum_range_succ, ← ih, ← Fin.sum_univ_eq_sum_range (fun j => f (ch n * 512 + j) * v (ch n * 512 + j)) 512]
    rfl

theorem sum_blocks (g : ℕ → EReal) (n : ℕ) : ∑ c ∈ Finset.range n, ∑ j ∈ Finset.range 512, g (c * 512 + j)
    = ∑ κ ∈ Finset.range (n * 512), g κ := by
  induction n with
  | zero => rfl
  | succ n ih => rw [Finset.sum_range_succ, ih, Nat.succ_mul, Finset.sum_range_add]

/-- A sum over the slots is the sum over the keys, for what vanishes on the keys not seen. -/
theorem slots_sum {p t0 r : ℕ} (hp : p ≤ 32768) (ht : t0 ≤ 32736) (hr : r < 32) (g : ℕ → EReal) (hg : ∀ κ, ¬ vis p (t0 + r) κ → g κ = 0) :
    ∑ k ∈ Finset.range (nslots p t0), ∑ j ∈ Finset.range 512, g (chunk p t0 k * 512 + j) = ∑ κ : Fin 32768, g κ.val := by
  rw [Fin.sum_univ_eq_sum_range g 32768, show 32768 = 64 * 512 from rfl, ← sum_blocks g 64]
  rw [← Finset.sum_image (s := Finset.range (nslots p t0)) (g := chunk p t0) (f := fun c => ∑ j ∈ Finset.range 512, g (c * 512 + j))
    (fun a ha b hb h => chunk_inj (Finset.mem_range.1 ha) (Finset.mem_range.1 hb) h)]
  refine Finset.sum_subset (fun c hc => ?_) fun c hc hn => Finset.sum_eq_zero fun j hj => hg _ fun hv => hn ?_
  · obtain ⟨s, hs, rfl⟩ := Finset.mem_image.1 hc
    exact Finset.mem_range.2 (chunk_lt hp ht (Finset.mem_range.1 hs))
  · obtain ⟨s, hs, e⟩ := chunk_cover hr hv
    have hj := Finset.mem_range.1 hj
    exact Finset.mem_image.2 ⟨s, Finset.mem_range.2 hs, by omega⟩

/-! ## The maximum -/

theorem mfold_le (f : ℕ → EReal) (ch : ℕ → ℕ) (B : EReal) (l n : ℕ) : mfold f ch l n ≤ B
    ↔ ∀ k < n, f (ch k * 512 + l) ≤ B ∧ f (ch k * 512 + (128 + l)) ≤ B ∧ f (ch k * 512 + (256 + l)) ≤ B ∧ f (ch k * 512 + (384 + l)) ≤ B := by
  induction n with
  | zero => simp [mfold]
  | succ n ih =>
    simp only [mfold, max_le_iff, ih, Nat.lt_succ_iff_lt_or_eq]
    constructor
    · rintro ⟨⟨⟨⟨h, h1⟩, h2⟩, h3⟩, h4⟩ k (hk | rfl)
      · exact h k hk
      · exact ⟨h1, h2, h3, h4⟩
    · intro h
      obtain ⟨h1, h2, h3, h4⟩ := h n (.inr rfl)
      exact ⟨⟨⟨⟨fun k hk => h k (.inl hk), h1⟩, h2⟩, h3⟩, h4⟩

/-- The lanes' maxima together are the maximum over the keys, for what is `⊥` on the keys not seen. -/
theorem slots_sup {p t0 r : ℕ} (hp : p ≤ 32768) (ht : t0 ≤ 32736) (hr : r < 32) (g : ℕ → EReal) (hg : ∀ κ, ¬ vis p (t0 + r) κ → g κ = ⊥) :
    Finset.univ.sup (fun l : Fin 128 => mfold g (chunk p t0) l.val (nslots p t0)) = Finset.univ.sup fun κ : Fin 32768 => g κ.val := by
  refine eq_of_forall_ge_iff fun B => ?_
  simp only [Finset.sup_le_iff, Finset.mem_univ, true_imp_iff, mfold_le]
  constructor
  · intro h κ
    by_cases hv : vis p (t0 + r) κ.val
    · obtain ⟨s, hs, e⟩ := chunk_cover hr hv
      obtain ⟨h1, h2, h3, h4⟩ := h ⟨κ.val % 128, by omega⟩ s hs
      rw [e] at h1 h2 h3 h4
      dsimp only at h1 h2 h3 h4
      have hq : κ.val % 512 / 128 = 0 ∨ κ.val % 512 / 128 = 1 ∨ κ.val % 512 / 128 = 2 ∨ κ.val % 512 / 128 = 3 := by omega
      rcases hq with hq | hq | hq | hq
      · rwa [show κ.val / 512 * 512 + κ.val % 128 = κ.val by omega] at h1
      · rwa [show κ.val / 512 * 512 + (128 + κ.val % 128) = κ.val by omega] at h2
      · rwa [show κ.val / 512 * 512 + (256 + κ.val % 128) = κ.val by omega] at h3
      · rwa [show κ.val / 512 * 512 + (384 + κ.val % 128) = κ.val by omega] at h4
    · rw [hg _ hv]; exact bot_le
  · intro h l k hk
    have hc := chunk_lt hp ht hk
    have hl := l.isLt
    exact ⟨h ⟨_, by omega⟩, h ⟨_, by omega⟩, h ⟨_, by omega⟩, h ⟨_, by omega⟩⟩

end Cert.Attn

end
-- ==== Proof.Expo.lean ====
/-
The power-of-two exponent of a row of queries, as the kernel finds it (the largest exponent field whose power is at most the
row's bound) and as the reference does (by logarithms). Either way the scale is a positive real, and the bound of the codes
never bites: so a code times its scale is the query itself.
-/
module

public import proofs.«01_k».proof.Proof.Mask
public import Idealize.ShloMosaic.PureOps.Ideal
public import Idealize.ShloMosaic.PureOps.Reduce

@[expose] public section

noncomputable section

namespace Cert.Attn

open Idealize.ShloMosaic

/-- The power of two whose exponent field is the word `w`. -/
def pw (w : BitVec 32) : EReal := Ideal.ofBits .f32 (IntOp.shli .vector w 23#32)

theorem pw_bits : ∀ n : Fin 256, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

theorem pw_val {n : ℕ} (h1 : 1 ≤ n) (h2 : n ≤ 254) : pw (BitVec.ofNat 32 n) = (((2 : ℝ) ^ ((n : ℤ) - 127) : ℝ) : EReal) := by
  obtain ⟨b1, b2, b3⟩ := pw_bits ⟨n, by omega⟩
  unfold pw
  dsimp only at b1 b2 b3
  generalize IntOp.shli .vector (BitVec.ofNat 32 n) 23#32 = w at *
  simp only [Ideal.ofBits, Ideal.ieee]
  rw [b1, b2, b3, if_neg (by norm_num; omega), if_neg (by omega)]
  congr 1
  have : (2 : ℝ) ^ ((n : ℤ) - (2 ^ (8 - 1) - 1) - (23 : ℕ)) = 2 ^ ((n : ℤ) - 127) * (2 ^ 23)⁻¹ := by
    rw [show ((n : ℤ) - (2 ^ (8 - 1) - 1) - (23 : ℕ)) = ((n : ℤ) - 127) + (-23) by push_cast; ring, zpow_add₀ (by norm_num)]
    norm_num
  rw [this, if_neg (by decide), Nat.add_zero]
  push_cast
  ring

/-- The exponent word from the exponent field. -/
def fieldW (f : BitVec 32) : BitVec 32 :=
  Scalar.select (IntOp.ori (IntOp.cmpi .eq f 0#32) (IntOp.cmpi .eq f 255#32)) 0#32 (IntOp.subi f 126#32)

/-- The exponent field of `y`: the largest whose power is at most `y`. -/
def fieldOf (y : EReal) : BitVec 32 :=
  Finset.fold IntOp.maxsi 2147483648#32 (fun x : Fin 256 => if pw (BitVec.ofNat 32 x.val) ≤ y then BitVec.ofNat 32 x.val else 0#32) Finset.univ

theorem field_words : ∀ n : Fin 253, IntOp.addi (fieldW (BitVec.ofNat 32 n.val)) 127#32 = BitVec.ofNat 32 (if n.val = 0 then 127 else n.val + 1)
    ∧ IntOp.addi (IntOp.subi 0#32 (fieldW (BitVec.ofNat 32 n.val))) 127#32 = BitVec.ofNat 32 (if n.val = 0 then 127 else 253 - n.val) := by
  decide +kernel

theorem maxsi_small {a b : ℕ} (ha : a < 256) (hb : b < 256) : IntOp.maxsi (BitVec.ofNat 32 a) (BitVec.ofNat 32 b) = BitVec.ofNat 32 (max a b) := by
  unfold IntOp.maxsi
  have h1 := toInt_ofNat_small (n := a) (by omega)
  have h2 := toInt_ofNat_small (n := b) (by omega)
  rw [BitVec.slt, h1, h2]
  by_cases h : b < a
  · rw [if_pos (by simpa using h), max_eq_left h.le]
  · rw [if_neg (by simpa using h), max_eq_right (by omega)]

theorem maxsi_least {a : ℕ} (ha : a < 256) : IntOp.maxsi (BitVec.ofNat 32 a) 2147483648#32 = BitVec.ofNat 32 a := by
  have : ∀ n : Fin 256, IntOp.maxsi (BitVec.ofNat 32 n.val) 2147483648#32 = BitVec.ofNat 32 n.val := by decide +kernel
  exact this ⟨a, ha⟩

/-- A maximum of lane numbers is the largest one taken, or 0. -/
theorem fold_lanes (P : Fin 256 → Prop) [DecidablePred P] (s : Finset (Fin 256)) :
    (s = ∅ ∧ Finset.fold IntOp.maxsi 2147483648#32 (fun x : Fin 256 => if P x then BitVec.ofNat 32 x.val else 0#32) s = 2147483648#32)
    ∨ ∃ n < 256, Finset.fold IntOp.maxsi 2147483648#32 (fun x : Fin 256 => if P x then BitVec.ofNat 32 x.val else 0#32) s = BitVec.ofNat 32 n
      ∧ (n = 0 ∨ ∃ x, P x ∧ n = x.val) ∧ ∀ x ∈ s, P x → x.val ≤ n := by
  classical
  induction s using Finset.induction_on with
  | empty => exact .inl ⟨rfl, rfl⟩
  | insert a s ha ih =>
    right
    rw [Finset.fold_insert ha]
    obtain ⟨v, hv, ev, hv1, hv2⟩ : ∃ v < 256, (if P a then BitVec.ofNat 32 a.val else 0#32) = BitVec.ofNat 32 v ∧ (v = 0 ∨ ∃ x, P x ∧ v = x.val) ∧ (P a → a.val ≤ v) := by
      by_cases h : P a
      · exact ⟨a.val, a.isLt, if_pos h, .inr ⟨a, h, rfl⟩, fun _ => le_rfl⟩
      · exact ⟨0, by decide, if_neg h, .inl rfl, fun hh => absurd hh h⟩
    rw [ev]
    rcases ih with ⟨rfl, e⟩ | ⟨n, hn, e, h1, h2⟩
    · rw [e, maxsi_least hv]
      refine ⟨v, hv, rfl, hv1, fun x hx => ?_⟩
      rw [Finset.mem_insert] at hx
      rcases hx with rfl | hx
      · exact hv2
      · simp at hx
    · rw [e, maxsi_small hv hn]
      refine ⟨max v n, max_lt hv hn, rfl, ?_, fun x hx hP => ?_⟩
      · rcases max_choice v n with h | h <;> rw [h] <;> assumption
      · rw [Finset.mem_insert] at hx
        rcases hx with rfl | hx
        · exact (hv2 hP).trans (le_max_left _ _)
        · exact (h2 x hx hP).trans (le_max_right _ _)

theorem fieldOf_spec (y : EReal) : ∃ n < 256, fieldOf y = BitVec.ofNat 32 n ∧ (n = 0 ∨ pw (BitVec.ofNat 32 n) ≤ y)
    ∧ ∀ m, n < m → m < 256 → ¬ pw (BitVec.ofNat 32 m) ≤ y := by
  rcases fold_lanes (fun x => pw (BitVec.ofNat 32 x.val) ≤ y) Finset.univ with ⟨h, _⟩ | ⟨n, hn, e, h1, h2⟩
  · exact absurd h (Finset.univ_nonempty.ne_empty)
  · refine ⟨n, hn, e, ?_, fun m hm hm' hP => ?_⟩
    · rcases h1 with h | ⟨x, hx, rfl⟩
      · exact .inl h
      · exact .inr hx
    · have := h2 ⟨m, hm'⟩ (Finset.mem_univ _) hP
      dsimp only at this
      omega

/-- The reciprocal of the largest code, as the programs write it: a little above 1/448. -/
def c448 : ℝ := 9586981 * (2 : ℝ) ^ (-32 : ℤ)

theorem ofBits_c448 : Ideal.ofBits .f32 0x3B124925#32 = ((c448 : ℝ) : EReal) := by
  simp [Ideal.ofBits, Ideal.ieee, c448]

theorem c448_ge : 1 ≤ c448 * 448 := by unfold c448; norm_num
theorem c448_le : c448 ≤ 1 / 256 := by unfold c448; norm_num

theorem ofBits_448 : Ideal.ofBits .f32 0x43E00000#32 = ((448 : ℝ) : EReal) := by
  simp [Ideal.ofBits, Ideal.ieee]; rw [← EReal.coe_mul]; norm_num
theorem ofBits_neg448 : Ideal.ofBits .f32 0xC3E00000#32 = ((-448 : ℝ) : EReal) := by
  simp [Ideal.ofBits, Ideal.ieee]; rw [← EReal.coe_mul]; norm_num

/-- The bound of the codes leaves what is within it. -/
theorem clamp_id {x : ℝ} (h : |x| ≤ 448) :
    min (Ideal.ofBits .f32 0x43E00000#32) (max (Ideal.ofBits .f32 0xC3E00000#32) (x : EReal)) = (x : EReal) := by
  rw [ofBits_448, ofBits_neg448]
  obtain ⟨h1, h2⟩ := abs_le.1 h
  rw [max_eq_right (EReal.coe_le_coe_iff.2 h1), min_eq_right (EReal.coe_le_coe_iff.2 h2)]

/-- The kernel's scale of a bound `A`: a power of two, its inverse beside it, and the codes within their bound. -/
theorem kernel_scale {A : ℝ} (h0 : 0 ≤ A) (hA : A ≤ 2 ^ 128) : ∃ t : ℝ, 0 < t ∧ A * t ≤ 448
    ∧ pw (IntOp.addi (IntOp.subi 0#32 (fieldW (fieldOf ((A : EReal) * Ideal.ofBits .f32 0x3B124925#32)))) 127#32) = (t : EReal)
    ∧ pw (IntOp.addi (fieldW (fieldOf ((A : EReal) * Ideal.ofBits .f32 0x3B124925#32))) 127#32) = ((t⁻¹ : ℝ) : EReal) := by
  rw [ofBits_c448, ← EReal.coe_mul]
  obtain ⟨n, hn, e, h1, h2⟩ := fieldOf_spec ((A * c448 : ℝ) : EReal)
  rw [e]
  have hc := c448_ge
  have hc' := c448_le
  have hc0 : 0 < c448 := by unfold c448; norm_num
  have hn252 : n ≤ 252 := by
    by_contra hh
    rcases h1 with h | h
    · omega
    have hy : A * c448 < 2 ^ 126 := by nlinarith
    have : ¬ pw (BitVec.ofNat 32 253) ≤ ((A * c448 : ℝ) : EReal) := by
      rw [pw_val (by decide) (by decide), EReal.coe_le_coe_iff]; norm_num; linarith
    have h254 : ¬ pw (BitVec.ofNat 32 254) ≤ ((A * c448 : ℝ) : EReal) := by
      rw [pw_val (by decide) (by decide), EReal.coe_le_coe_iff]; norm_num; linarith
    have h255 : ¬ pw (BitVec.ofNat 32 255) ≤ ((A * c448 : ℝ) : EReal) := by
      have : pw (BitVec.ofNat 32 255) = ⊤ := by
        obtain ⟨b1, b2, b3⟩ := pw_bits 255
        change (IntOp.shli .vector (BitVec.ofNat 32 255) 23#32).extractLsb' 31 1 = 0#1 at b1
        change ((IntOp.shli .vector (BitVec.ofNat 32 255) 23#32).extractLsb' 23 8).toNat = 255 at b2
        change ((IntOp.shli .vector (BitVec.ofNat 32 255) 23#32).extractLsb' 0 23).toNat = 0 at b3
        unfold pw
        simp only [Ideal.ofBits, Ideal.ieee]
        rw [b1, b2, b3]; simp
      rw [this, top_le_iff]; exact EReal.coe_ne_top _
    have hn3 : n = 253 ∨ n = 254 ∨ n = 255 := by omega
    rcases hn3 with rfl | rfl | rfl <;> contradiction
  obtain ⟨w1, w2⟩ := field_words ⟨n, by omega⟩
  dsimp only at w1 w2
  rw [w1, w2]
  by_cases hz : n = 0
  · subst hz
    have := h2 1 (by decide) (by decide)
    rw [pw_val (by decide) (by decide), EReal.coe_le_coe_iff, not_le] at this
    have hs : (2 : ℝ) ^ (((1 : ℕ) : ℤ) - 127) ≤ 1 := by
      rw [show (((1 : ℕ) : ℤ) - 127) = -126 by norm_num, zpow_neg]
      exact inv_le_one_of_one_le₀ (by norm_num)
    refine ⟨1, one_pos, by nlinarith, ?_, ?_⟩
    · rw [if_pos rfl, pw_val (by decide) (by decide)]; norm_num
    · rw [if_pos rfl, pw_val (by decide) (by decide)]; norm_num
  · rw [if_neg hz, if_neg hz]
    have := h2 (n + 1) (by omega) (by omega)
    rw [pw_val (by omega) (by omega), EReal.coe_le_coe_iff, not_le] at this
    have ep : (2 : ℝ) ^ (((n + 1 : ℕ) : ℤ) - 127) * 2 ^ (((253 - n : ℕ) : ℤ) - 127) = 1 := by
      rw [← zpow_add₀ (by norm_num)]
      rw [show (((n + 1 : ℕ) : ℤ) - 127) + (((253 - n : ℕ) : ℤ) - 127) = 0 by omega]
      norm_num
    have tp : (0 : ℝ) < 2 ^ (((253 - n : ℕ) : ℤ) - 127) := zpow_pos (by norm_num) _
    refine ⟨(2 : ℝ) ^ (((253 - n : ℕ) : ℤ) - 127), tp, ?_, pw_val (by omega) (by omega), ?_⟩
    · have h3 : A * c448 * 2 ^ (((253 - n : ℕ) : ℤ) - 127) ≤ 1 := by
        rw [← ep]; exact mul_le_mul_of_nonneg_right this.le tp.le
      have h4 : 0 ≤ A * 2 ^ (((253 - n : ℕ) : ℤ) - 127) := mul_nonneg h0 tp.le
      nlinarith
    · rw [pw_val (by omega) (by omega), eq_inv_of_mul_eq_one_left ep]

end Cert.Attn

end
-- ==== Proof.Soft.lean ====
/-
The mathematics of one row: the kernel's exponentials, taken at base two from codes' scores, against the reference's.
-/
module

public import proofs.«01_k».proof.Proof.Keys
public import proofs.«01_k».proof.Proof.Expo

@[expose] public section

noncomputable section

namespace Cert.Attn

open Idealize.ShloMosaic

/-! ## Positive reals over sums and maxima of extended reals -/

theorem coe_mul_add {t : ℝ} (ht : 0 < t) (x y : EReal) : (t : EReal) * (x + y) = t * x + t * y := by
  induction x <;> induction y <;>
    simp [EReal.coe_mul_top_of_pos ht, EReal.coe_mul_bot_of_pos ht, ← EReal.coe_add, ← EReal.coe_mul, mul_add]

theorem coe_mul_sum {ι : Type} {t : ℝ} (ht : 0 < t) (s : Finset ι) (f : ι → EReal) : (t : EReal) * ∑ i ∈ s, f i = ∑ i ∈ s, (t : EReal) * f i := by
  classical
  induction s using Finset.induction_on with
  | empty => simp
  | insert a s ha ih => rw [Finset.sum_insert ha, Finset.sum_insert ha, coe_mul_add ht, ih]

theorem coe_mul_le {t : ℝ} (ht : 0 < t) {x y : EReal} : (t : EReal) * x ≤ t * y ↔ x ≤ y := by
  have ht' : (0 : EReal) ≤ t := EReal.coe_nonneg.2 ht.le
  constructor
  · intro h
    have h2 : (0 : EReal) ≤ ((t⁻¹ : ℝ) : EReal) := EReal.coe_nonneg.2 (inv_pos.2 ht).le
    have h' := mul_le_mul_of_nonneg_left h h2
    rwa [← mul_assoc, ← mul_assoc, ← EReal.coe_mul, inv_mul_cancel₀ ht.ne', EReal.coe_one, one_mul, one_mul] at h'
  · exact fun h => mul_le_mul_of_nonneg_left h ht'

theorem coe_mul_inv_cancel {t : ℝ} (ht : 0 < t) (x : EReal) : ((t⁻¹ : ℝ) : EReal) * ((t : EReal) * x) = x := by
  rw [← mul_assoc, ← EReal.coe_mul, inv_mul_cancel₀ ht.ne', EReal.coe_one, one_mul]

theorem coe_mul_sup {ι : Type} {t : ℝ} (ht : 0 < t) (s : Finset ι) (f : ι → EReal) : s.sup (fun i => (t : EReal) * f i) = t * s.sup f := by
  refine eq_of_forall_ge_iff fun B => ?_
  have key : ∀ x : EReal, (t : EReal) * x ≤ B ↔ x ≤ ((t⁻¹ : ℝ) : EReal) * B := fun x => by
    rw [← coe_mul_le (inv_pos.2 ht), coe_mul_inv_cancel ht]
  rw [Finset.sup_le_iff, key, Finset.sup_le_iff]
  exact forall₂_congr fun i _ => key _

/-! ## The exponentials -/

/-- The inverse of the logarithm of two. -/
def l2e : ℝ := (Real.log 2)⁻¹

theorem l2e_pos : 0 < l2e := inv_pos.2 (Real.log_pos (by norm_num))

theorem rpow_l2e (x : ℝ) : Real.rpow 2 (x * l2e) = Real.exp x := by
  show (2 : ℝ) ^ (x * l2e) = _
  rw [Real.rpow_def_of_pos (by norm_num)]
  congr 1
  unfold l2e
  have := (Real.log_pos (x := 2) (by norm_num)).ne'
  field_simp

theorem exp_bot : Ideal.exp ⊥ = 0 := rfl
theorem exp2_bot : Ideal.exp2 ⊥ = 0 := rfl

/-- The kernel's exponential is 256 times the reference's. -/
theorem exp_eq {S M : EReal} (h : S ≤ M) :
    Ideal.exp2 (S * (l2e : EReal) - (M * (l2e : EReal) + ((-8 : ℝ) : EReal))) = ((256 : ℝ) : EReal) * Ideal.exp (S - M) := by
  have hp := l2e_pos
  induction M with
  | bot =>
    rw [le_bot_iff.1 h]
    simp [EReal.bot_mul_coe_of_pos hp, exp_bot, exp2_bot]
  | top =>
    have e : ∀ x : EReal, x - (⊤ : EReal) = ⊥ := fun x => by rw [EReal.sub_top]
    rw [EReal.top_mul_coe_of_pos hp, EReal.top_add_coe, e, e]
    simp [exp_bot, exp2_bot]
  | coe M =>
    induction S with
    | bot =>
      rw [EReal.bot_mul_coe_of_pos hp]
      simp [exp_bot, exp2_bot, sub_eq_add_neg]
    | top => exact absurd (top_le_iff.1 h) (EReal.coe_ne_top _)
    | coe S =>
      rw [← EReal.coe_mul, ← EReal.coe_mul, ← EReal.coe_add, ← EReal.coe_sub, ← EReal.coe_sub]
      show ((Real.rpow 2 _ : ℝ) : EReal) = _ * ((Real.exp _ : ℝ) : EReal)
      rw [← EReal.coe_mul]
      congr 1
      rw [show S * l2e - (M * l2e + -8) = (S - M) * l2e + 8 by ring]
      show (2 : ℝ) ^ ((S - M) * l2e + 8) = _
      rw [Real.rpow_add (by norm_num)]
      have : (2 : ℝ) ^ ((S - M) * l2e) = Real.exp (S - M) := rpow_l2e (S - M)
      rw [this]
      norm_num
      ring

/-- The reference's exponential is a real number that is not negative, -/
theorem exp_real {S M : EReal} (h : S ≤ M) : ∃ e : ℝ, 0 ≤ e ∧ Ideal.exp (S - M) = (e : EReal) := by
  induction M with
  | bot => rw [le_bot_iff.1 h]; exact ⟨0, le_rfl, by simp [exp_bot]⟩
  | top => rw [EReal.sub_top]; exact ⟨0, le_rfl, rfl⟩
  | coe M =>
    induction S with
    | bot => exact ⟨0, le_rfl, by simp [exp_bot, sub_eq_add_neg]⟩
    | top => exact absurd (top_le_iff.1 h) (EReal.coe_ne_top _)
    | coe S => exact ⟨Real.exp (S - M), (Real.exp_pos _).le, by rw [← EReal.coe_sub]; rfl⟩

/-- and so is a sum of them. -/
theorem sum_real {ι : Type} (s : Finset ι) (f : ι → EReal) (h : ∀ i ∈ s, ∃ e : ℝ, 0 ≤ e ∧ f i = (e : EReal)) :
    ∃ e : ℝ, 0 ≤ e ∧ ∑ i ∈ s, f i = (e : EReal) := by
  classical
  induction s using Finset.induction_on with
  | empty => exact ⟨0, le_rfl, by simp⟩
  | insert a s ha ih =>
    obtain ⟨e, he, e1⟩ := ih fun i hi => h i (Finset.mem_insert_of_mem hi)
    obtain ⟨e', he', e2⟩ := h a (Finset.mem_insert_self _ _)
    exact ⟨e' + e, add_nonneg he' he, by rw [Finset.sum_insert ha, e1, e2, EReal.coe_add]⟩

/-- The last division, with the codes' factor 256 in the divisor or its inverse in the dividend. -/
theorem div_eq (P w : EReal) {l : ℝ} (hl : 0 ≤ l) :
    Ideal.div (P * w) (((256 : ℝ) : EReal) * (l : EReal)) = Ideal.div (P * (((1 / 256 : ℝ) : EReal) * w)) (l : EReal) := by
  have hc : (0 : ℝ) < 1 / 256 := by norm_num
  have e1 : P * (((1 / 256 : ℝ) : EReal) * w) = ((1 / 256 : ℝ) : EReal) * (P * w) := by
    rw [← mul_assoc, mul_comm P, mul_assoc]
  rw [e1, ← EReal.coe_mul]
  unfold Ideal.div
  by_cases h0 : l = 0
  · subst h0
    rw [mul_zero, if_pos EReal.coe_zero, if_pos EReal.coe_zero]
    have : 0 < ((1 / 256 : ℝ) : EReal) * (P * w) ↔ 0 < P * w := by
      have := coe_mul_le hc (x := P * w) (y := 0)
      rw [mul_zero] at this
      rw [← not_le, this, not_le]
    simp only [this]
  · rw [if_neg (by simpa using h0), if_neg (by simpa using h0)]
    rw [← EReal.coe_inv, ← EReal.coe_inv, mul_comm ((1 / 256 : ℝ) : EReal), mul_assoc (P * w), ← EReal.coe_mul]
    congr 2
    field_simp

/-! ## One row -/

/-- The masked score of the reference. -/
def smR (p t : ℕ) (S : ℕ → EReal) (κ : ℕ) : EReal := if vis p t κ then S κ else ⊥

/-- The row's maximum, -/
def rowMax (p t : ℕ) (S : ℕ → EReal) : EReal := Finset.univ.sup fun κ : Fin 32768 => smR p t S κ.val

/-- its exponentials, -/
def rowExp (p t : ℕ) (S : ℕ → EReal) (κ : ℕ) : EReal := Ideal.exp (smR p t S κ - rowMax p t S)

/-- and its result at a place where the values are `V`, their scale `w`. -/
def rowOut (p t : ℕ) (S V : ℕ → EReal) (w : EReal) : EReal :=
  Ideal.div ((∑ κ : Fin 32768, clip (rowExp p t S κ.val * ((256 : ℝ) : EReal)) * V κ.val) * (((1 / 256 : ℝ) : EReal) * w))
    (∑ κ : Fin 32768, rowExp p t S κ.val)

/-- The kernel's result of a row: its scores are the reference's times `u`, its factor is `l2e / u`. -/
theorem row_eq {p t0 r : ℕ} (hp : p ≤ 32768) (ht : t0 ≤ 32736) (hr : r < 32) (S V : ℕ → EReal) (w : EReal) {u : ℝ} (hu : 0 < u)
    (f : ℕ → EReal) (hf : ∀ κ, f κ = if vis p (t0 + r) κ then (u : EReal) * S κ else ⊥) {a b : EReal} (ha : a = ((l2e * u⁻¹ : ℝ) : EReal))
    (hb : b = Finset.univ.sup (fun l : Fin 128 => mfold f (chunk p t0) l.val (nslots p t0)) * a + ((-8 : ℝ) : EReal)) :
    Ideal.div (afold (fun κ => clip (pk a b (f κ))) V (chunk p t0) (nslots p t0) * w)
        (∑ l : Fin 128, lfold (fun κ => pk a b (f κ)) (chunk p t0) l.val (nslots p t0))
      = rowOut p (t0 + r) S V w := by
  have hfe : ∀ κ, f κ = (u : EReal) * smR p (t0 + r) S κ := fun κ => by
    rw [hf]; unfold smR
    split
    · rfl
    · rw [EReal.coe_mul_bot_of_pos hu]
  have hua : ∀ x : EReal, (u : EReal) * x * a = x * (l2e : EReal) := fun x => by
    rw [ha, mul_comm (u : EReal), mul_assoc, ← EReal.coe_mul]
    congr 2
    field_simp
  have hm : b = rowMax p (t0 + r) S * (l2e : EReal) + ((-8 : ℝ) : EReal) := by
    rw [hb, slots_sup hp ht hr f fun κ hv => by rw [hf, if_neg hv]]
    simp only [hfe]
    rw [coe_mul_sup hu, hua]; rfl
  have hle : ∀ κ < 32768, smR p (t0 + r) S κ ≤ rowMax p (t0 + r) S := fun κ hκ =>
    Finset.le_sup (f := fun κ : Fin 32768 => smR p (t0 + r) S κ.val) (Finset.mem_univ ⟨κ, hκ⟩)
  have hpk : ∀ κ, smR p (t0 + r) S κ ≤ rowMax p (t0 + r) S → pk a b (f κ) = ((256 : ℝ) : EReal) * rowExp p (t0 + r) S κ := fun κ h => by
    unfold pk rowExp
    rw [hm, hfe, hua]
    exact exp_eq h
  have hz : ∀ κ, ¬ vis p (t0 + r) κ → pk a b (f κ) = 0 := fun κ hv => by
    have hbot : smR p (t0 + r) S κ = ⊥ := if_neg hv
    rw [hpk κ (by rw [hbot]; exact bot_le)]
    unfold rowExp
    rw [hbot]
    simp [exp_bot, sub_eq_add_neg]
  have hc0 : clip 0 = 0 := by
    unfold clip
    rw [ofBits_448, show Ideal.ofBits .f32 0x00000000#32 = 0 by simp [Ideal.ofBits, Ideal.ieee], max_self, min_eq_right]
    exact EReal.coe_nonneg.2 (by norm_num)
  have hL : ∑ l : Fin 128, lfold (fun κ => pk a b (f κ)) (chunk p t0) l.val (nslots p t0)
      = ((256 : ℝ) : EReal) * ∑ κ : Fin 32768, rowExp p (t0 + r) S κ.val := by
    rw [Fin.sum_univ_eq_sum_range (fun l => lfold (fun κ => pk a b (f κ)) (chunk p t0) l (nslots p t0)) 128, lfold_sum,
      slots_sum hp ht hr (fun κ => pk a b (f κ)) hz, coe_mul_sum (by norm_num)]
    exact Finset.sum_congr rfl fun κ _ => hpk _ (hle _ κ.isLt)
  have hA : afold (fun κ => clip (pk a b (f κ))) V (chunk p t0) (nslots p t0)
      = ∑ κ : Fin 32768, clip (rowExp p (t0 + r) S κ.val * ((256 : ℝ) : EReal)) * V κ.val := by
    rw [afold_sum, slots_sum hp ht hr (fun κ => clip (pk a b (f κ)) * V κ) fun κ hv => by rw [hz κ hv, hc0, zero_mul]]
    refine Finset.sum_congr rfl fun κ _ => ?_
    rw [hpk _ (hle _ κ.isLt), mul_comm ((256 : ℝ) : EReal)]
  obtain ⟨l, hl, el⟩ := sum_real Finset.univ (fun κ : Fin 32768 => rowExp p (t0 + r) S κ.val) fun κ _ => exp_real (hle _ κ.isLt)
  rw [hL, hA]
  unfold rowOut
  rw [el, div_eq _ _ hl]

end Cert.Attn

end
-- ==== Proof.Scale.lean ====
/-
The scale of a row of queries, in the kernel and in the reference: both are positive reals under which no code is clipped, so a
row's scores are, up to that positive real, the products of the queries themselves.
-/
module

public import proofs.«01_k».proof.Proof.Soft

@[expose] public section

noncomputable section

namespace Cert.Attn

open Idealize.ShloMosaic

theorem ofBits_negInf : Ideal.ofBits .f32 0xFF800000#32 = ⊥ := by simp [Ideal.ofBits, Ideal.ieee]
theorem ofBits_sixteenth : Ideal.ofBits .f32 0x3D800000#32 = ((1 / 16 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_256 : Ideal.ofBits .f32 0x43800000#32 = ((256 : ℝ) : EReal) := by
  simp [Ideal.ofBits, Ideal.ieee]; rw [← EReal.coe_mul]; norm_num
theorem ofBits_256th : Ideal.ofBits .f32 0x3B800000#32 = ((1 / 256 : ℝ) : EReal) := by
  simp [Ideal.ofBits, Ideal.ieee]; rw [← EReal.coe_mul]; norm_num
theorem ofBits_neg8 : Ideal.ofBits .f32 0xC1000000#32 = ((-8 : ℝ) : EReal) := by
  simp [Ideal.ofBits, Ideal.ieee]; rw [← EReal.coe_mul]; norm_num

/-- A maximum from `⊥` on is a supremum. -/
theorem fold_max_sup {n : ℕ} (f : Fin n → EReal) : Finset.fold max (Ideal.ofBits .f32 0xFF800000#32) f Finset.univ = Finset.univ.sup f := by
  rw [ofBits_negInf]; rfl

/-- The largest magnitude of a row of reals. -/
theorem amax_real {v : Fin 256 → EReal} (r : Fin 256 → ℝ) (hv : ∀ d, v d = (r d : EReal)) {X : ℝ} (hX : ∀ d, |r d| ≤ X) :
    ∃ A : ℝ, 0 ≤ A ∧ A ≤ X ∧ Finset.fold max (Ideal.ofBits .f32 0xFF800000#32) (fun d => FloatOps.absf (F := Ideal) (φ := .f32) (v d)) Finset.univ = (A : EReal)
      ∧ ∀ d, |r d| ≤ A := by
  have hab : ∀ d, FloatOps.absf (F := Ideal) (φ := .f32) (v d) = ((|r d| : ℝ) : EReal) := fun d => by
    rw [hv]
    show max (r d : EReal) (-(r d : EReal)) = _
    rw [← EReal.coe_neg, abs_eq_max_neg]
    exact (EReal.coe_strictMono.monotone.map_max).symm
  obtain ⟨d0, _, hd0⟩ := Finset.exists_max_image Finset.univ (fun d => |r d|) ⟨0, Finset.mem_univ _⟩
  refine ⟨|r d0|, abs_nonneg _, hX d0, ?_, fun d => hd0 d (Finset.mem_univ _)⟩
  rw [fold_max_sup]
  refine le_antisymm (Finset.sup_le fun d _ => ?_) ?_
  · rw [hab]; exact EReal.coe_le_coe_iff.2 (hd0 d (Finset.mem_univ _))
  · rw [← hab]; exact Finset.le_sup (f := fun d => FloatOps.absf (F := Ideal) (φ := .f32) (v d)) (Finset.mem_univ d0)

/-- The exponent of the reference, from a row's largest magnitude. -/
def refExpo (A : EReal) : EReal :=
  if A = 0 then 0 else
    Ideal.liftRound Int.floor (Ideal.div (Ideal.log (A * Ideal.ofBits .f32 0x3B124925#32)) (Ideal.log (Ideal.ofBits .f32 0x40000000#32))) + 1

/-- The reference's scale of a bound `A`. -/
theorem ref_scale {A : ℝ} (h0 : 0 ≤ A) : ∃ t : ℝ, 0 < t ∧ A * t ≤ 448
    ∧ Ideal.exp2 (0 - refExpo (A : EReal)) = (t : EReal) ∧ Ideal.exp2 (refExpo (A : EReal)) = ((t⁻¹ : ℝ) : EReal) := by
  have hc := c448_ge
  have hc0 : 0 < c448 := by unfold c448; norm_num
  by_cases hz : A = 0
  · subst hz
    have e : refExpo ((0 : ℝ) : EReal) = ((0 : ℝ) : EReal) := if_pos rfl
    rw [e, EReal.coe_zero, sub_zero, ← EReal.coe_zero]
    have e1 : Ideal.exp2 ((0 : ℝ) : EReal) = ((1 : ℝ) : EReal) := by
      show (((2 : ℝ) ^ (0 : ℝ) : ℝ) : EReal) = _
      rw [Real.rpow_zero]
    exact ⟨1, one_pos, by norm_num, e1, by rw [e1, inv_one]⟩
  · have hA : 0 < A := lt_of_le_of_ne h0 (Ne.symm hz)
    have hy : 0 < A * c448 := mul_pos hA hc0
    have hl2 : (0 : ℝ) < Real.log 2 := Real.log_pos (by norm_num)
    have e : refExpo (A : EReal) = (((⌊Real.log (A * c448) * (Real.log 2)⁻¹⌋ : ℝ) + 1 : ℝ) : EReal) := by
      unfold refExpo
      rw [if_neg (by simpa using hz), ofBits_c448, ofBits_two, ← EReal.coe_mul]
      have g1 : Ideal.log ((A * c448 : ℝ) : EReal) = ((Real.log (A * c448) : ℝ) : EReal) := if_neg (not_le.2 hy)
      have g2 : Ideal.log ((2 : ℝ) : EReal) = ((Real.log 2 : ℝ) : EReal) := if_neg (by norm_num)
      rw [g1, g2]
      have g3 : Ideal.div ((Real.log (A * c448) : ℝ) : EReal) ((Real.log 2 : ℝ) : EReal) = ((Real.log (A * c448) * (Real.log 2)⁻¹ : ℝ) : EReal) := by
        unfold Ideal.div
        rw [if_neg (by simpa using hl2.ne'), ← EReal.coe_inv, ← EReal.coe_mul]
      rw [g3]
      rfl
    set n : ℤ := ⌊Real.log (A * c448) * (Real.log 2)⁻¹⌋ with hn
    have hlt : A * c448 < (2 : ℝ) ^ ((n : ℝ) + 1) := by
      have h := Int.lt_floor_add_one (Real.log (A * c448) * (Real.log 2)⁻¹)
      rw [← hn] at h
      have h2 := mul_lt_mul_of_pos_right h hl2
      rw [mul_assoc, inv_mul_cancel₀ hl2.ne', mul_one] at h2
      rw [Real.rpow_def_of_pos (by norm_num), mul_comm (Real.log 2), ← Real.exp_log hy]
      exact Real.exp_lt_exp.2 h2
    have tp : (0 : ℝ) < (2 : ℝ) ^ (-((n : ℝ) + 1)) := Real.rpow_pos_of_pos (by norm_num) _
    have ti : ((2 : ℝ) ^ (-((n : ℝ) + 1)))⁻¹ = (2 : ℝ) ^ ((n : ℝ) + 1) := by rw [Real.rpow_neg (by norm_num), inv_inv]
    refine ⟨(2 : ℝ) ^ (-((n : ℝ) + 1)), tp, ?_, ?_, ?_⟩
    · have h3 : A * c448 * (2 : ℝ) ^ (-((n : ℝ) + 1)) ≤ 1 := by
        rw [← ti] at hlt
        have := mul_lt_mul_of_pos_right hlt tp
        rw [inv_mul_cancel₀ tp.ne'] at this
        exact this.le
      have h4 : 0 ≤ A * (2 : ℝ) ^ (-((n : ℝ) + 1)) := mul_nonneg h0 tp.le
      nlinarith
    · rw [e, show (0 : EReal) - (((n : ℝ) + 1 : ℝ) : EReal) = ((-((n : ℝ) + 1) : ℝ) : EReal) by rw [zero_sub, EReal.coe_neg]]
      rfl
    · rw [e, ti]; rfl

/-- The products of a row's queries with the keys, with the keys' scales and the softmax's. -/
def scoreOf (v : ℕ → EReal) (K : ℕ → ℕ → EReal) (ks : ℕ → EReal) (κ : ℕ) : EReal :=
  (∑ d : Fin 256, v d.val * K κ d.val) * ks κ * ((1 / 16 : ℝ) : EReal)

/-- Codes within their bound are the queries times the inverse scale. -/
theorem code_eq {x A t : ℝ} (ht : 0 < t) (h : |x| ≤ A) (hA : A * t ≤ 448) :
    min (Ideal.ofBits .f32 0x43E00000#32) (max (Ideal.ofBits .f32 0xC3E00000#32) ((x : EReal) * (t : EReal))) = (t : EReal) * (x : EReal) := by
  rw [← EReal.coe_mul, clamp_id, mul_comm, EReal.coe_mul]
  rw [abs_mul, abs_of_pos ht]
  exact (mul_le_mul_of_nonneg_right h ht.le).trans hA

theorem codes_sum {t : ℝ} (ht : 0 < t) (v k : Fin 256 → EReal) : ∑ d, (t : EReal) * v d * k d = (t : EReal) * ∑ d, v d * k d := by
  rw [coe_mul_sum ht]
  exact Finset.sum_congr rfl fun d _ => mul_assoc _ _ _

/-- The reference's scaled score is `scoreOf`. -/
theorem score_ref {t : ℝ} (ht : 0 < t) (D k : EReal) :
    (t : EReal) * D * (((t⁻¹ : ℝ) : EReal) * ((1 / 16 : ℝ) : EReal)) * k = D * k * ((1 / 16 : ℝ) : EReal) := by
  have h : (t : EReal) * ((t⁻¹ : ℝ) : EReal) = 1 := by rw [← EReal.coe_mul, mul_inv_cancel₀ ht.ne', EReal.coe_one]
  calc _ = ((t : EReal) * ((t⁻¹ : ℝ) : EReal)) * (D * k * ((1 / 16 : ℝ) : EReal)) := by ac_rfl
    _ = _ := by rw [h, one_mul]

/-- The kernel's score is `scoreOf` times a positive real. -/
theorem score_kernel {t : ℝ} (D k : EReal) :
    (t : EReal) * D * k = ((16 * t : ℝ) : EReal) * (D * k * ((1 / 16 : ℝ) : EReal)) := by
  have h : ((16 * t : ℝ) : EReal) * ((1 / 16 : ℝ) : EReal) = (t : EReal) := by rw [← EReal.coe_mul]; congr 1; ring
  calc _ = (t : EReal) * (D * k) := by ac_rfl
    _ = _ := by rw [← h]; ac_rfl

end Cert.Attn

end
-- ==== Proof.QStage.lean ====
/-
The kernel's query codes: one head's payloads read at an index, and the eight heads' stores read back.
-/
module

public import proofs.«01_k».proof.Proof.Scale
public import proofs.«01_k».proof.Proof.Reads
public import proofs.«01_k».proof.Proof.KernelIdealRun
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen

/-- One head's codes from its queries, -/
def qhead (v : Vec Ideal S1x32x256 .bf16) : FVec Ideal S32x256 .fp8e4m3 := k0_pay189 (k0_pay186 v) (k0_pay188 v)

/-- and its rows' factor. -/
def ahead (v : Vec Ideal S1x32x256 .bf16) : FVec Ideal S32x128 .f32 := k0_pay190 (k0_pay187 v)

theorem field_at (v : Vec Ideal S1x32x256 .bf16) (y : S32x1.Idx) : k0_pay187 (F := Ideal) v y
    = fieldW (fieldOf (Finset.fold max (Ideal.ofBits .f32 0xFF800000#32) (fun d : Fin 256 => FloatOps.absf (F := Ideal) (φ := .f32) (v (ix3 0 (y 0) d))) Finset.univ
        * Ideal.ofBits .f32 0x3B124925#32)) := by
  pointwise [k0_pay187, k0_pay186]
  rfl

theorem qhead_at (v : Vec Ideal S1x32x256 .bf16) (y : S32x256.Idx) : qhead v y
    = min (Ideal.ofBits .f32 0x43E00000#32) (max (Ideal.ofBits .f32 0xC3E00000#32)
        (v (ix3 0 (y 0) (y 1)) * pw (IntOp.addi (IntOp.subi 0#32 (k0_pay187 (F := Ideal) v (ix2 (y 0) 0))) 127#32))) := by
  unfold qhead
  pointwise [k0_pay189, k0_pay186, k0_pay188]
  rfl

theorem ahead_at (v : Vec Ideal S1x32x256 .bf16) (y : S32x128.Idx) : ahead v y
    = pw (IntOp.addi (k0_pay187 (F := Ideal) v (ix2 (y 0) 0)) 127#32) * ((1 / 16 : ℝ) : EReal) * ((l2e : ℝ) : EReal) := by
  unfold ahead
  pointwise [k0_pay190]
  rw [IdealRules.named_const.ideal_named_scalar _ _ _ _ rfl, ofBits_sixteenth]
  rfl

theorem head_row (v : Vec Ideal S1x32x256 .bf16) (a : Fin 32) (r : Fin 256 → ℝ) (hv : ∀ d, v (ix3 0 a d) = (r d : EReal))
    (hX : ∀ d, |r d| ≤ 2 ^ 128) :
    ∃ t : ℝ, 0 < t ∧ (∀ d, qhead v (ix2 a d) = (t : EReal) * v (ix3 0 a d))
      ∧ ∀ l, ahead v (ix2 a l) = (((16 * t)⁻¹ : ℝ) : EReal) * (l2e : EReal) := by
  obtain ⟨A, hA0, hAX, hA, hAr⟩ := amax_real r hv hX
  obtain ⟨t, ht, hAt, e1, e2⟩ := kernel_scale hA0 hAX
  have hf : k0_pay187 (F := Ideal) v (ix2 a 0) = fieldW (fieldOf ((A : EReal) * Ideal.ofBits .f32 0x3B124925#32)) := by
    rw [field_at, ← hA]; rfl
  refine ⟨t, ht, fun d => ?_, fun l => ?_⟩
  · rw [qhead_at]
    show min _ (max _ (v (ix3 0 a d) * pw (IntOp.addi (IntOp.subi 0#32 (k0_pay187 (F := Ideal) v (ix2 a 0))) 127#32))) = _
    rw [hf, e1, hv, code_eq ht (hAr d) hAt]
  · rw [ahead_at]
    show pw (IntOp.addi (k0_pay187 (F := Ideal) v (ix2 a 0)) 127#32) * _ * _ = _
    rw [hf, e2, ← EReal.coe_mul]
    congr 2
    field_simp

variable (arg3 : Memref sig .tc .vmem S1x32x2048 .bf16) (harg3 : arg3.IsWhole) (x0 : Vec Ideal S1x32x2048 .bf16) (c : Dev nD)

/-- The eight stores of codes: one head's rows each. -/
theorem qcodes_mem : ∀ q ∈ kernelRun.sl.HS0_8 (F := Ideal) c arg3 harg3 x0, ∃ (h : Fin 8) (inb : _) (inb' : _),
    q = ⟨Rect.unit (s := S256x256) ![32 * h.val, 0] S32x256.size inb,
      qhead (arg3.view.readAt (Elt Ideal) (Rect.unit (s := S1x32x2048) ![0, 0, 256 * h.val] S1x32x256.size inb').toLoadRect (harg3.unread x0))⟩ := by
  unfold kernelRun.sl.HS0_8
  intro q hq
  simp only [List.mem_cons, List.not_mem_nil, or_false] at hq
  rcases hq with rfl | rfl | rfl | rfl | rfl | rfl | rfl | rfl
  · exact ⟨7, by decide, by decide, rfl⟩
  · exact ⟨6, by decide, by decide, rfl⟩
  · exact ⟨5, by decide, by decide, rfl⟩
  · exact ⟨4, by decide, by decide, rfl⟩
  · exact ⟨3, by decide, by decide, rfl⟩
  · exact ⟨2, by decide, by decide, rfl⟩
  · exact ⟨1, by decide, by decide, rfl⟩
  · exact ⟨0, by decide, by decide, rfl⟩

/-- The eight stores of factors. -/
theorem factors_mem : ∀ q ∈ kernelRun.sl.HS1_8 (F := Ideal) c arg3 harg3 x0, ∃ (h : Fin 8) (inb : _) (inb' : _),
    q = ⟨Rect.unit (s := S256x128) ![32 * h.val, 0] S32x128.size inb,
      ahead (arg3.view.readAt (Elt Ideal) (Rect.unit (s := S1x32x2048) ![0, 0, 256 * h.val] S1x32x256.size inb').toLoadRect (harg3.unread x0))⟩ := by
  unfold kernelRun.sl.HS1_8
  intro q hq
  simp only [List.mem_cons, List.not_mem_nil, or_false] at hq
  rcases hq with rfl | rfl | rfl | rfl | rfl | rfl | rfl | rfl
  · exact ⟨7, by decide, by decide, rfl⟩
  · exact ⟨6, by decide, by decide, rfl⟩
  · exact ⟨5, by decide, by decide, rfl⟩
  · exact ⟨4, by decide, by decide, rfl⟩
  · exact ⟨3, by decide, by decide, rfl⟩
  · exact ⟨2, by decide, by decide, rfl⟩
  · exact ⟨1, by decide, by decide, rfl⟩
  · exact ⟨0, by decide, by decide, rfl⟩

/-- They cover their buffers. -/
theorem qcodes_cover (y : S256x256.Idx) : ∃ q ∈ kernelRun.sl.HS0_8 (F := Ideal) c arg3 harg3 x0, y ∈ q.1.set := by
  exact View.cover_of_tiled (kernelRun.sl.HS0_8 (F := Ideal) c arg3 harg3 x0) S32x256.size (by rfl) y

theorem factors_cover (y : S256x128.Idx) : ∃ q ∈ kernelRun.sl.HS1_8 (F := Ideal) c arg3 harg3 x0, y ∈ q.1.set := by
  exact View.cover_of_tiled (kernelRun.sl.HS1_8 (F := Ideal) c arg3 harg3 x0) S32x128.size (by rfl) y

/-- A head's queries, loaded: the block's columns from `256 * h` on. -/
theorem queries_at (h : Fin 8) (inb' : ∀ a, ![0, 0, 256 * h.val] a + S1x32x256.size a ≤ S1x32x2048.size a) (a : Fin 32) (d : Fin 256) (j : Fin 2048)
    (hj : j.val = 256 * h.val + d.val) :
    arg3.view.readAt (Elt Ideal) (Rect.unit (s := S1x32x2048) ![0, 0, 256 * h.val] S1x32x256.size inb').toLoadRect (harg3.unread x0) (ix3 0 a d)
      = x0 (ix3 0 a j) := by
  refine (readAt_emb _ _ inb' _).trans ?_
  rw [harg3.read_unread]
  congr 1
  funext ax
  refine Fin.ext ((emb_val inb' rfl _ ax).trans ?_)
  fin_cases ax
  · rfl
  · exact Nat.zero_add _
  · exact hj.symm

/-- A place of the queries' block by row and column as numbers. -/
def qAt (R d : ℕ) : EReal := if h : R < 256 ∧ d < 256 then x0 (ix3 0 ⟨R % 32, by omega⟩ ⟨256 * (R / 32) + d, by omega⟩) else 0

/-- Codes and factors, read back from their buffers: each row by its own positive real. -/
theorem q_stage (r : S1x32x2048.Idx → ℝ) (hr : ∀ y, x0 y = (r y : EReal)) (hX : ∀ y, |r y| ≤ 2 ^ 128)
    (arg9 : Memref sig .tc .vmem S256x256 .fp8e4m3) (f9 : arg9.view.ty.Contents (Elt Ideal)) (arg10 : Memref sig .tc .vmem S256x128 .f32) (f10 : arg10.view.ty.Contents (Elt Ideal)) :
    ∃ T : ℕ → ℝ, (∀ R, 0 < T R)
      ∧ (∀ y, arg9.view.read (Elt Ideal) (arg9.view.writes (Elt Ideal) f9 (kernelRun.sl.HS0_8 (F := Ideal) c arg3 harg3 x0)) y
          = (T (y 0).val : EReal) * qAt x0 (y 0).val (y 1).val)
      ∧ ∀ y, arg10.view.read (Elt Ideal) (arg10.view.writes (Elt Ideal) f10 (kernelRun.sl.HS1_8 (F := Ideal) c arg3 harg3 x0)) y
          = (((16 * T (y 0).val)⁻¹ : ℝ) : EReal) * (l2e : EReal) := by
  have inb' : ∀ h : Fin 8, ∀ a, ![0, 0, 256 * h.val] a + S1x32x256.size a ≤ S1x32x2048.size a := by decide
  have hd : ∀ (h : Fin 8) (a : Fin 32), ∃ t : ℝ, 0 < t
      ∧ (∀ d : Fin 256, qhead (arg3.view.readAt (Elt Ideal) (Rect.unit (s := S1x32x2048) ![0, 0, 256 * h.val] S1x32x256.size (inb' h)).toLoadRect (harg3.unread x0)) (ix2 a d)
        = (t : EReal) * qAt x0 (32 * h.val + a.val) d.val)
      ∧ ∀ l, ahead (arg3.view.readAt (Elt Ideal) (Rect.unit (s := S1x32x2048) ![0, 0, 256 * h.val] S1x32x256.size (inb' h)).toLoadRect (harg3.unread x0)) (ix2 a l)
        = (((16 * t)⁻¹ : ℝ) : EReal) * (l2e : EReal) := fun h a => by
    have hh := h.isLt
    have ha := a.isLt
    have q : ∀ d : Fin 256,
        arg3.view.readAt (Elt Ideal) (Rect.unit (s := S1x32x2048) ![0, 0, 256 * h.val] S1x32x256.size (inb' h)).toLoadRect (harg3.unread x0) (ix3 0 a d)
          = x0 (ix3 0 a ⟨256 * h.val + d.val, by omega⟩) := fun d => queries_at arg3 harg3 x0 h (inb' h) _ d _ rfl
    obtain ⟨t, ht, h1, h2⟩ := head_row _ a (fun d => r (ix3 0 a ⟨256 * h.val + d.val, by omega⟩)) (fun d => (q d).trans (hr _)) (fun d => hX _)
    refine ⟨t, ht, fun d => ?_, h2⟩
    rw [h1, q]
    unfold qAt
    rw [dif_pos ⟨by omega, d.isLt⟩]
    congr 3
    · exact Fin.ext (by show a.val = (32 * h.val + a.val) % 32; omega)
    · exact Fin.ext (by show 256 * h.val + d.val = 256 * ((32 * h.val + a.val) / 32) + d.val; omega)
  choose t ht h1 h2 using hd
  obtain ⟨T, hT0, hT⟩ : ∃ T : ℕ → ℝ, (∀ R, 0 < T R) ∧ ∀ (h : Fin 8) (a : Fin 32), T (32 * h.val + a.val) = t h a :=
    ⟨fun R => t ⟨R / 32 % 8, by omega⟩ ⟨R % 32, by omega⟩, fun R => ht _ _, fun h a => by
      have hh := h.isLt
      have ha := a.isLt
      dsimp only
      congr 1
      · exact Fin.ext (by show (32 * h.val + a.val) / 32 % 8 = _; omega)
      · exact Fin.ext (by show (32 * h.val + a.val) % 32 = _; omega)⟩
  refine ⟨T, hT0, fun y => ?_, fun y => ?_⟩
  · rw [← List.append_nil (kernelRun.sl.HS0_8 (F := Ideal) c arg3 harg3 x0)]
    refine read_writes_of_agree arg9.view f9 (fun y : S256x256.Idx => (T (y 0).val : EReal) * qAt x0 (y 0).val (y 1).val) y [] _ (fun q hq x => ?_)
      (qcodes_cover arg3 harg3 x0 c y)
    obtain ⟨h, inb, inb'', rfl⟩ := qcodes_mem arg3 harg3 x0 c q hq
    have e0 := emb_val inb rfl x 0
    have e1 := emb_val inb rfl x 1
    change _ = 32 * h.val + (x 0).val at e0
    change _ = 0 + (x 1).val at e1
    rw [Nat.zero_add] at e1
    dsimp only
    rw [e0, e1, hT h (x 0)]
    refine Eq.trans (congrArg _ ?_) (h1 h (x 0) (x 1))
    funext i; fin_cases i <;> rfl
  · rw [← List.append_nil (kernelRun.sl.HS1_8 (F := Ideal) c arg3 harg3 x0)]
    refine read_writes_of_agree arg10.view f10 (fun y : S256x128.Idx => (((16 * T (y 0).val)⁻¹ : ℝ) : EReal) * (l2e : EReal)) y [] _ (fun q hq x => ?_)
      (factors_cover arg3 harg3 x0 c y)
    obtain ⟨h, inb, inb'', rfl⟩ := factors_mem arg3 harg3 x0 c q hq
    have e0 := emb_val inb rfl x 0
    change _ = 32 * h.val + (x 0).val at e0
    dsimp only
    rw [e0, hT h (x 0)]
    refine Eq.trans (congrArg _ ?_) (h2 h (x 0) (x 1))
    funext i; fin_cases i <;> rfl

end Cert.KernelIdeal.Val

end
-- ==== Proof.Tile.lean ====
/-
One grid point's rows: the body's softmax over the scores, row by row, is the reference's.
-/
module

public import proofs.«01_k».proof.Proof.Model
public import proofs.«01_k».proof.Proof.Reads
public import proofs.«01_k».proof.Proof.KernelIdealWords
public import proofs.«01_k».proof.Proof.Passes
public import proofs.«01_k».proof.Proof.QStage
public import proofs.«01_k».proof.Proof.Soft
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

variable (c : Dev nD) (i : grid0.Coords) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (x0 : Vec Ideal S1x32x2048 .bf16) (x1 : Vec Ideal S1x32768x256 .fp8e4m3) (x2 : Vec Ideal S1x1x32768 .f32) (x3 : Vec Ideal S1x32768x256 .fp8e4m3) (x4 : Vec Ideal S1x1x256 .f32)  (d14 : Vec Ideal S256x32768 .f32) (d15 : Vec Ideal S256x512 .fp8e4m3) (xt0 : TbBuf0 (F := Ideal) c tbM0_0)
  (k0_hw1 : k0_chk1 i (tbM0_0.view.readAt (Elt Ideal) (Rect.unit (s := S2) (k0_off1 i) S1.size (k0_off1_inb i)).toLoadRect xt0 (Shape.Idx.first (numel1_S1.symm ▸ Nat.one_pos))))
  (p : ℕ) (hp : p ≤ 32768) (hw : kernelRun.sl.r (F := Ideal) c i xt0 = 𝕎 p)

/-- The row's offset: its maximum, times its factor, less eight. -/
theorem pay250_at (v : Vec Ideal S256x128 .f32) (w : Vec Ideal S256x128 .f32) (m : ℕ → ℕ → EReal) (a : EReal) (y : S256x128.Idx)
    (hv : ∀ y, v y = m (y 0).val (y 1).val) (hw : w y = a) :
    k0_pay250 (k0_pay248 v w) k0_pay249 y = Finset.univ.sup (fun l : Fin 128 => m (y 0).val l.val) * a + ((-8 : ℝ) : EReal) := by
  refine Eq.trans (b := Finset.univ.fold max (Ideal.ofBits .f32 0xFF800000#32) (fun x => v (ix2 (y 0) x)) * w y + Ideal.ofBits .f32 3238002688#32) ?_ ?_
  · pointwise [k0_pay250, k0_pay248, k0_pay249]
  · rw [fold_max_sup, ofBits_neg8, hw]
    simp only [hv]
    rfl

/-- A row's result: its products times the value scale, over its sum. -/
theorem pay253_at (v : Vec Ideal S256x128 .f32) (u : Vec Ideal S256x256 .f32) (w : Vec Ideal S1x1x256 .f32) (m n : ℕ → ℕ → EReal) (y : S256x256.Idx)
    (hv : ∀ y, v y = m (y 0).val (y 1).val) (hu : ∀ y, u y = n (y 0).val (y 1).val) :
    k0_pay253 v u w y = Ideal.div (n (y 0).val (y 1).val * w (ix3 0 0 (y 1))) (∑ l : Fin 128, m (y 0).val l.val) := by
  refine Eq.trans (b := Ideal.div (u y * w (ix3 0 0 (y 1))) (∑ l : Fin 128, v (ix2 (y 0) l))) ?_ ?_
  · pointwise [k0_pay253]
  · simp only [hv, hu]
    rfl

theorem pay234_at (y : S256x128.Idx) : k0_pay234 (F := Ideal) y = 0 := by
  refine Eq.trans (b := Ideal.ofBits .f32 0x00000000#32) ?_ (by simp [Ideal.ofBits, Ideal.ieee])
  pointwise [k0_pay234]

theorem pay235_at (z : Ideal .f32) (hz : z = 0) (y : S256x256.Idx) : k0_pay235 (F := Ideal) z y = 0 := by
  refine Eq.trans (b := z) ?_ hz
  pointwise [k0_pay235]

theorem cst_zero : kernelRun.sl.cst_217 (F := Ideal) = 0 := by
  refine Eq.trans (b := Ideal.ofBits .f32 0x00000000#32) rfl (by simp [Ideal.ofBits, Ideal.ieee])

/-- The lanes' maxima, the offset, the sums and the products of a row whose queries' scale is `T`. -/
def mx (p t0 : ℕ) (T : ℕ → ℝ) (q K : ℕ → ℕ → EReal) (ks : ℕ → EReal) (R l : ℕ) : EReal :=
  mfold (sm p t0 (fun R d => (T R : EReal) * q R d) K ks R) (chunk p t0) l (nslots p t0)
def fac (T : ℕ → ℝ) (R : ℕ) : EReal := (((16 * T R)⁻¹ : ℝ) : EReal) * (l2e : EReal)
def offs (p t0 : ℕ) (T : ℕ → ℝ) (q K : ℕ → ℕ → EReal) (ks : ℕ → EReal) (R : ℕ) : EReal :=
  Finset.univ.sup (fun l : Fin 128 => mx p t0 T q K ks R l.val) * fac T R + ((-8 : ℝ) : EReal)
def ls (p t0 : ℕ) (T : ℕ → ℝ) (q K : ℕ → ℕ → EReal) (ks : ℕ → EReal) (R l : ℕ) : EReal :=
  lfold (fun κ => pk (fac T R) (offs p t0 T q K ks R) (sm p t0 (fun R d => (T R : EReal) * q R d) K ks R κ)) (chunk p t0) l (nslots p t0)
def ac (p t0 : ℕ) (T : ℕ → ℝ) (q K V : ℕ → ℕ → EReal) (ks : ℕ → EReal) (R n : ℕ) : EReal :=
  afold (fun κ => clip (pk (fac T R) (offs p t0 T q K ks R) (sm p t0 (fun R d => (T R : EReal) * q R d) K ks R κ))) (fun κ => V κ n) (chunk p t0) (nslots p t0)

/-- Such a row's result is its token's attention in its head. -/
theorem row_out (hp : p ≤ 32768) (t0 : ℕ) (ht : t0 ≤ 32736) (T : ℕ → ℝ) (hT : ∀ R, 0 < T R) (q K V : ℕ → ℕ → EReal) (ks : ℕ → EReal) (R n : ℕ) (w : EReal) :
    Ideal.div (ac p t0 T q K V ks R n * w) (∑ l : Fin 128, ls p t0 T q K ks R l.val)
      = rowOut p (t0 + R % 32) (scoreOf (q R) K ks) (fun κ => V κ n) w := by
  refine row_eq hp ht (Nat.mod_lt _ (by decide)) _ _ _ (u := 16 * T R) (by have := hT R; positivity) _ (fun κ => ?_) ?_ rfl
  · unfold sm
    split
    · unfold sc scoreOf
      rw [codes_sum (hT _), score_kernel]
    · rfl
  · unfold fac
    rw [← EReal.coe_mul, mul_comm]

include hp hw in
set_option maxHeartbeats 4000000 in
/-- Each of the 256 rows of a grid point is its token's attention in its head. -/
theorem tile_row (r : S1x32x2048.Idx → ℝ) (hr : ∀ y, x0 y = (r y : EReal)) (hX : ∀ y, |r y| ≤ 2 ^ 128)
    (K V : ℕ → ℕ → EReal) (ks : ℕ → EReal) (hK : ∀ y, x1 y = K (y 1).val (y 2).val) (hs : ∀ y, x2 y = ks (y 2).val)
    (hV : ∀ y, x3 y = V (y 1).val (y 2).val) (w : Vec Ideal S1x1x256 .f32) (y : S256x256.Idx) :
    k0_pay253 (kernelRun.sl.v618 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1) (kernelRun.sl.v621 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1) w y
      = rowOut p (t0 i + (y 0).val % 32) (scoreOf (qAt x0 (y 0).val) K ks) (fun κ => V κ (y 1).val) (w (ix3 0 0 (y 1))) := by
  obtain ⟨T, hT, hq, ha⟩ := q_stage arg3 harg3 x0 c r hr hX arg9 arg9.view.junk arg10 arg10.view.junk
  obtain ⟨hM, hS⟩ := pass1 c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 p hp (kernelRun.sl.r (F := Ideal) c i xt0) hw k0_hw1 (kernelRun.sl.v2 i) (kernelRun.sl.v507 c i xt0) (kernelRun.sl.v527 c i xt0) (kernelRun.sl.v565 c i xt0)
    (kernelRun.sl.v567 c i xt0) rfl (by rw [← hw]; rfl) (by rw [← hw]; rfl) (by rw [← hw]; rfl) kernelRun.sl.cst_217 (kernelRun.sl.v597 c i xt0)
    (harg4.unread x1) (harg5.unread x2) (arg9.view.writes (Elt Ideal) arg9.view.junk (kernelRun.sl.HS0_8 (F := Ideal) c arg3 harg3 x0))
    arg12.view.junk kernelRun.sl.HS3_1 (harg14.unread d14) (fun R d => (T R : EReal) * qAt x0 R d) K ks hq
    (fun y => by rw [harg4.read_unread]; exact hK y) (fun y => by rw [harg5.read_unread]; exact hs y)
    (fun y => by
      unfold kernelRun.sl.HS3_1
      rw [View.read_writes_full]
      pointwise [k0_pay233]
      exact ofBits_negInf) rfl rfl rfl rfl
  have hv598 : ∀ y, kernelRun.sl.v598 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 d14 xt0 k0_hw1 y = mx p (t0 i) T (qAt x0) K ks (y 0).val (y 1).val :=
    fun y => (congrFun (View.readAt_full ..) _).trans (hM y)
  have hv601 : ∀ y, kernelRun.sl.v601 (F := Ideal) c arg3 harg3 arg10 x0 y = fac T (y 0).val :=
    fun y => (congrFun (View.readAt_full ..) _).trans (ha y)
  have hB : ∀ y, arg11.view.read (Elt Ideal) (arg11.view.writes (Elt Ideal) arg11.view.junk (kernelRun.sl.HS2_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 d14 xt0 k0_hw1)) y
      = offs p (t0 i) T (qAt x0) K ks (y 0).val := fun y => by
    unfold kernelRun.sl.HS2_1
    rw [View.read_writes_full]
    unfold kernelRun.sl.r_22
    exact pay250_at _ _ _ _ y hv598 (hv601 y)
  have h13 : ∀ y, arg13.view.read (Elt Ideal) (arg13.view.writes (Elt Ideal) arg13.view.junk (kernelRun.sl.HS4_1 (F := Ideal))) y = 0 := fun y => by
    unfold kernelRun.sl.HS4_1
    rw [View.read_writes_full]
    exact pay234_at y
  have h16 : ∀ y, arg16.view.read (Elt Ideal) (arg16.view.writes (Elt Ideal) arg16.view.junk (kernelRun.sl.HS7_1 (F := Ideal))) y = 0 := fun y => by
    unfold kernelRun.sl.HS7_1
    rw [View.read_writes_full]
    exact pay235_at _ cst_zero y
  have hVr : ∀ y, arg6.view.read (Elt Ideal) (harg6.unread x3) y = V (y 1).val (y 2).val := fun y => by rw [harg6.read_unread]; exact hV y
  obtain ⟨hL, hA⟩ := pass2 c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 p hp (kernelRun.sl.r (F := Ideal) c i xt0) hw k0_hw1 (kernelRun.sl.v507 c i xt0) (kernelRun.sl.v527 c i xt0) (kernelRun.sl.v565 c i xt0)
    (kernelRun.sl.v567 c i xt0) (kernelRun.sl.r_22 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 d14 xt0 k0_hw1) k0_pay249 (kernelRun.sl.v617 c i xt0) (harg6.unread x3)
    (arg10.view.writes (Elt Ideal) arg10.view.junk (kernelRun.sl.HS1_8 (F := Ideal) c arg3 harg3 x0))
    (arg11.view.writes (Elt Ideal) arg11.view.junk (kernelRun.sl.HS2_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 d14 xt0 k0_hw1)) _ arg13.view.junk kernelRun.sl.HS4_1 (harg15.unread d15)
    arg16.view.junk kernelRun.sl.HS7_1
    (fac T) (offs p (t0 i) T (qAt x0) K ks) (sm p (t0 i) (fun R d => (T R : EReal) * qAt x0 R d) K ks) V ha hB hS hVr h13 h16 rfl rfl
  have hv618 : ∀ y, kernelRun.sl.v618 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1 y = ls p (t0 i) T (qAt x0) K ks (y 0).val (y 1).val :=
    fun y => by
      refine Eq.trans ?_ (hL y)
      unfold kernelRun.sl.v618
      refine (congrFun (View.readAt_full ..) _).trans ?_
      congr 2
  have hv621 : ∀ y, kernelRun.sl.v621 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1 y = ac p (t0 i) T (qAt x0) K V ks (y 0).val (y 1).val :=
    fun y => by
      refine Eq.trans ?_ (hA y)
      unfold kernelRun.sl.v621
      refine (congrFun (View.readAt_full ..) _).trans ?_
      congr 2
  rw [pay253_at _ _ w _ _ y hv618 hv621]
  exact row_out p hp _ (t0_le i) T hT (qAt x0) K V ks _ _ _

end Cert.KernelIdeal.Val
-- ==== Proof.TileOut.lean ====
/-
One grid point's output block: its eight heads side by side, each piece 32 of the 256 rows.
-/
module

public import proofs.«01_k».proof.Proof.Model
public import proofs.«01_k».proof.Proof.Reads
public import proofs.«01_k».proof.Proof.KernelIdealWords
public import proofs.«01_k».proof.Proof.Tile
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.Attn Cert.KernelIdeal Cert.KernelIdeal.Gen Cert.KernelIdeal.Words

local notation "𝕎" => BitVec.ofNat 32

/-- 256 rows laid out as a block: head by head along the columns. -/
def spread (v : S256x256.Idx → EReal) (y : S1x32x2048.Idx) : EReal :=
  v (ix2 ⟨32 * ((y 2).val / 256) + (y 1).val, by
    have h1 : (y 1).val < 32 := (y 1).isLt
    have h2 : (y 2).val < 2048 := (y 2).isLt
    omega⟩ ⟨(y 2).val % 256, Nat.mod_lt _ (by decide)⟩)

/-- A head's rows are its columns of the block. -/
theorem spread_piece (v : S256x256.Idx → EReal) (h : ℕ) (hh : h < 8) (inb : ∀ a, ![0, 0, 256 * h] a + S1x32x256.size a ≤ S1x32x2048.size a)
    (u : S1x32x256.Idx → EReal) (hu : ∀ x, ∀ R : Fin 256, R.val = 32 * h + (x 1).val → u x = v (ix2 R (x 2))) (x : S1x32x256.Idx) :
    u x = spread v ((Rect.unit (s := S1x32x2048) ![0, 0, 256 * h] S1x32x256.size inb).emb x) := by
  have h1 : (x 1).val < 32 := (x 1).isLt
  have h2 : (x 2).val < 256 := (x 2).isLt
  have e1 : ((Rect.unit (s := S1x32x2048) ![0, 0, 256 * h] S1x32x256.size inb).emb x 1).val = (x 1).val :=
    (emb_val (s := S1x32x2048) inb rfl x 1).trans (Nat.zero_add _)
  have e2 : ((Rect.unit (s := S1x32x2048) ![0, 0, 256 * h] S1x32x256.size inb).emb x 2).val = 256 * h + (x 2).val := emb_val (s := S1x32x2048) inb rfl x 2
  unfold spread
  rw [hu x ⟨32 * h + (x 1).val, by omega⟩ rfl]
  congr 1
  refine congrArg₂ ix2 (Fin.ext ?_) (Fin.ext ?_)
  · show 32 * h + (x 1).val = 32 * (_ / 256) + _
    rw [e1, e2]; omega
  · show (x 2).val = _ % 256
    rw [e2]; omega

/-- A head's piece of the block is its 32 rows. -/
theorem heads_at (a : Vec Ideal S256x128 .f32) (b : Vec Ideal S256x256 .f32) (w : Vec Ideal S1x1x256 .f32) (v : FVec Ideal S256x256 .bf16) (x : S1x32x256.Idx) (R : Fin 256) :
    (R.val = 32 * 0 + (x 1).val → k0_pay254 a b w x = k0_pay253 a b w (ix2 R (x 2)))
    ∧ (R.val = 32 * 1 + (x 1).val → k0_pay256 (k0_pay255 a b w) x = k0_pay253 a b w (ix2 R (x 2)))
    ∧ (R.val = 32 * 2 + (x 1).val → k0_pay257 v x = v (ix2 R (x 2)))
    ∧ (R.val = 32 * 3 + (x 1).val → k0_pay258 v x = v (ix2 R (x 2)))
    ∧ (R.val = 32 * 4 + (x 1).val → k0_pay259 v x = v (ix2 R (x 2)))
    ∧ (R.val = 32 * 5 + (x 1).val → k0_pay260 v x = v (ix2 R (x 2)))
    ∧ (R.val = 32 * 6 + (x 1).val → k0_pay261 v x = v (ix2 R (x 2)))
    ∧ (R.val = 32 * 7 + (x 1).val → k0_pay1 (k0_pay262 v) x = v (ix2 R (x 2))) := by
  refine ⟨fun h => ?_, fun h => ?_, fun h => ?_, fun h => ?_, fun h => ?_, fun h => ?_, fun h => ?_, fun h => ?_⟩ <;>
    pointwise [k0_pay254, k0_pay255, k0_pay256, k0_pay257, k0_pay258, k0_pay259, k0_pay260, k0_pay261, k0_pay262, k0_pay1] <;>
    exact congrArg _ (congrArg₂ ix2 (Fin.ext (by simpa using h.symm)) rfl)

variable (c : Dev nD) (i : grid0.Coords) (arg3 : Memref sig .tc .vmem S1x32x2048 .bf16) (harg3 : arg3.IsWhole) (arg4 : Memref sig .tc .vmem S1x32768x256 .fp8e4m3) (harg4 : arg4.IsWhole) (arg5 : Memref sig .tc .vmem S1x1x32768 .f32) (harg5 : arg5.IsWhole) (arg6 : Memref sig .tc .vmem S1x32768x256 .fp8e4m3) (harg6 : arg6.IsWhole) (arg7 : Memref sig .tc .vmem S1x1x256 .f32) (harg7 : arg7.IsWhole) (arg8 : Memref sig .tc .vmem S1x32x2048 .bf16) (harg8 : arg8.IsWhole) (arg9 : Memref sig .tc .vmem S256x256 .fp8e4m3) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x32768 .f32) (harg14 : arg14.IsWhole) (arg15 : Memref sig .tc .vmem S256x512 .fp8e4m3) (harg15 : arg15.IsWhole) (arg16 : Memref sig .tc .vmem S256x256 .f32) (harg16 : arg16.IsWhole)
  (x0 : Vec Ideal S1x32x2048 .bf16) (x1 : Vec Ideal S1x32768x256 .fp8e4m3) (x2 : Vec Ideal S1x1x32768 .f32) (x3 : Vec Ideal S1x32768x256 .fp8e4m3) (x4 : Vec Ideal S1x1x256 .f32)  (d8 : Vec Ideal S1x32x2048 .bf16) (d9 : Vec Ideal S256x256 .fp8e4m3) (d10 : Vec Ideal S256x128 .f32) (d11 : Vec Ideal S256x128 .f32) (d12 : Vec Ideal S256x128 .f32) (d13 : Vec Ideal S256x128 .f32) (d14 : Vec Ideal S256x32768 .f32) (d15 : Vec Ideal S256x512 .fp8e4m3) (d16 : Vec Ideal S256x256 .f32) (xt0 : TbBuf0 (F := Ideal) c tbM0_0)
  (k0_hw1 : k0_chk1 i (tbM0_0.view.readAt (Elt Ideal) (Rect.unit (s := S2) (k0_off1 i) S1.size (k0_off1_inb i)).toLoadRect xt0 (Shape.Idx.first (numel1_S1.symm ▸ Nat.one_pos))))
  (p : ℕ) (hp : p ≤ 32768) (hw : kernelRun.sl.r (F := Ideal) c i xt0 = 𝕎 p)

include hp hw in
set_option maxHeartbeats 4000000 in
/-- What the body's stores leave in the output's block: each token's attention in each head. -/
theorem tile_out (f8 : arg8.view.ty.Contents (Elt Ideal)) (r : S1x32x2048.Idx → ℝ) (hr : ∀ y, x0 y = (r y : EReal)) (hX : ∀ y, |r y| ≤ 2 ^ 128)
    (K V : ℕ → ℕ → EReal) (ks : ℕ → EReal) (hK : ∀ y, x1 y = K (y 1).val (y 2).val) (hs : ∀ y, x2 y = ks (y 2).val)
    (hV : ∀ y, x3 y = V (y 1).val (y 2).val) (y : S1x32x2048.Idx) :
    arg8.view.read (Elt Ideal) (arg8.view.writes (Elt Ideal) f8 (kernelRun (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d8 d9 d10 d11 d12 d13 d14 d15 d16 xt0 k0_hw1).1) y
      = spread (fun z => rowOut p (t0 i + (z 0).val % 32) (scoreOf (qAt x0 (z 0).val) K ks) (fun κ => V κ (z 1).val) (x4 (ix3 0 0 (z 1)))) y := by
  have hrow := tile_row c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1 p hp hw r hr hX K V ks hK hs hV x4
  have hld : arg7.view.readAt (Elt Ideal) (Rect.unit (s := S1x1x256) ![0, 0, 0] S1x1x256.size inb_S1x1x256_S1x1x256_0_0_0).toLoadRect (harg7.unread x4) = x4 := by
    rw [View.readAt_full, harg7.read_unread]
  rw [← funext hrow]
  rw [← List.append_nil (kernelRun (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d8 d9 d10 d11 d12 d13 d14 d15 d16 xt0 k0_hw1).1]
  refine read_writes_of_agree _ _ _ y [] _ ?_ ?_
  · unfold kernelRun
    dsimp only
    unfold kernelRun.sl.r_25 kernelRun.sl.r_24 kernelRun.sl.r_23
    rw [hld]
    generalize kernelRun.sl.v618 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1 = a
    generalize kernelRun.sl.v621 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 d14 d15 xt0 k0_hw1 = b
    refine List.forall_mem_cons.2 ⟨spread_piece _ 7 (by decide) (by decide) _ fun x R => (heads_at a b x4 (k0_pay253 a b x4) x R).2.2.2.2.2.2.2, ?_⟩
    refine List.forall_mem_cons.2 ⟨spread_piece _ 6 (by decide) (by decide) _ fun x R => (heads_at a b x4 (k0_pay253 a b x4) x R).2.2.2.2.2.2.1, ?_⟩
    refine List.forall_mem_cons.2 ⟨spread_piece _ 5 (by decide) (by decide) _ fun x R => (heads_at a b x4 (k0_pay253 a b x4) x R).2.2.2.2.2.1, ?_⟩
    refine List.forall_mem_cons.2 ⟨spread_piece _ 4 (by decide) (by decide) _ fun x R => (heads_at a b x4 (k0_pay253 a b x4) x R).2.2.2.2.1, ?_⟩
    refine List.forall_mem_cons.2 ⟨spread_piece _ 3 (by decide) (by decide) _ fun x R => (heads_at a b x4 (k0_pay253 a b x4) x R).2.2.2.1, ?_⟩
    refine List.forall_mem_cons.2 ⟨spread_piece _ 2 (by decide) (by decide) _ fun x R => (heads_at a b x4 (k0_pay253 a b x4) x R).2.2.1, ?_⟩
    refine List.forall_mem_cons.2 ⟨spread_piece _ 1 (by decide) (by decide) _ fun x R => (heads_at a b x4 (k0_pay253 a b x4) x R).2.1, ?_⟩
    refine List.forall_mem_cons.2 ⟨spread_piece _ 0 (by decide) (by decide) _ fun x R => (heads_at a b x4 (k0_pay253 a b x4) x R).1, ?_⟩
    exact fun q hq => absurd hq List.not_mem_nil
  · exact View.cover_of_tiled (kernelRun (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d8 d9 d10 d11 d12 d13 d14 d15 d16 xt0 k0_hw1).1 S1x32x256.size (by rfl) y

end Cert.KernelIdeal.Val
-- ==== Proof.KernelBlocks.lean ====
/-
Where the windows' blocks lie, and that the output's blocks cover its array.
-/
module

public import proofs.«01_k».proof.Proof.KernelIdealKit
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

theorem tr_0 : ∀ t : Fin grid0.N, cc0_transform_0 (grid0.coords t) = ![(grid0.coords t 0).val, (grid0.coords t 1).val, 0] := by decide +kernel
theorem tr_1 : ∀ t : Fin grid0.N, cc0_transform_1 (grid0.coords t) = ![(grid0.coords t 0).val, 0, 0] := by decide +kernel
theorem tr_2 : ∀ t : Fin grid0.N, cc0_transform_2 (grid0.coords t) = ![(grid0.coords t 0).val, 0, 0] := by decide +kernel
theorem tr_3 : ∀ t : Fin grid0.N, cc0_transform_3 (grid0.coords t) = ![(grid0.coords t 0).val, 0, 0] := by decide +kernel
theorem tr_4 : ∀ t : Fin grid0.N, cc0_transform_4 (grid0.coords t) = ![(grid0.coords t 0).val, 0, 0] := by decide +kernel
theorem tr_5 : ∀ t : Fin grid0.N, cc0_transform_5 (grid0.coords t) = ![(grid0.coords t 0).val, (grid0.coords t 1).val, 0] := by decide +kernel

/-- The output's blocks cover its array. -/
theorem covers5 : ((cfg0 (F := Ideal) ⟨fun _ _ => Classical.arbitrary _, trivial⟩).win 5).Covers := by decide +kernel

end Cert.KernelIdeal.Val

end
-- ==== Proof.Attention.lean ====
/-
The attention that both programs compute, as one function of the argument arrays, index by index.
-/
module

public import proofs.«01_k».proof.Proof.Mask
public import proofs.«01_k».proof.Proof.Scale
public import Idealize.ShloMosaic.Lib.Pointwise

@[expose] public section

noncomputable section

namespace Cert.Attn

open Idealize.ShloMosaic

/-- A function of bounded positions as a function of all positions: zero outside. -/
def fn1 {n : ℕ} (f : Fin n → EReal) (a : ℕ) : EReal := if h : a < n then f ⟨a, h⟩ else 0

theorem fn1_val {n : ℕ} (f : Fin n → EReal) (a : Fin n) : fn1 f a.val = f a := by
  unfold fn1; rw [dif_pos a.isLt]

theorem fn1_lt {n : ℕ} (f : Fin n → EReal) {a : ℕ} (h : a < n) : fn1 f a = f ⟨a, h⟩ := by
  unfold fn1; rw [dif_pos h]

/-- The same of two positions. -/
def fn2 {n k : ℕ} (f : Fin n → Fin k → EReal) (a b : ℕ) : EReal := if h : a < n then fn1 (f ⟨a, h⟩) b else 0

theorem fn2_val {n k : ℕ} (f : Fin n → Fin k → EReal) (a : Fin n) (b : Fin k) : fn2 f a.val b.val = f a b := by
  unfold fn2; rw [dif_pos a.isLt, fn1_val]

/-- Lane `d` of the head in which a column lies. -/
def headCol (n : Fin 2048) (d : Fin 256) : Fin 2048 := ⟨n.val / 256 * 256 + d.val, by omega⟩

/-- A column's lane in its head. -/
def lane (n : Fin 2048) : Fin 256 := ⟨n.val % 256, by omega⟩

/-- The attention at an index: batch `b`, token `s`, column `n`; `p` the batch's prefix length. -/
def attn (p : Fin 2 → ℕ) (x : (⟨3, ![2, 32768, 2048]⟩ : Shape).Idx → EReal) (k : (⟨3, ![2, 32768, 256]⟩ : Shape).Idx → EReal)
    (ks : (⟨3, ![2, 1, 32768]⟩ : Shape).Idx → EReal) (v : (⟨3, ![2, 32768, 256]⟩ : Shape).Idx → EReal)
    (vs : (⟨3, ![2, 1, 256]⟩ : Shape).Idx → EReal) (b : Fin 2) (s : Fin 32768) (n : Fin 2048) : EReal :=
  rowOut (p b) s.val (scoreOf (fn1 fun d : Fin 256 => x (ix3 b s (headCol n d))) (fn2 fun κ d => k (ix3 b κ d)) (fn1 fun κ => ks (ix3 b 0 κ)))
    (fn1 fun κ => v (ix3 b κ (lane n))) (vs (ix3 b 0 (lane n)))

end Cert.Attn

end
-- ==== Proof.KernelIdealNamed.lean ====
/-
The run of `KernelIdeal`'s attention call with its output NAMED: given what the body leaves in the output's block at each
point (`out`), the launch ends with the output array at what these blocks make of it, and the arguments as they were.
-/
module

public import proofs.«01_k».proof.Proof.KernelIdealFrame
public import Idealize.ShloMosaic.Lib.Claim

@[expose] public section

-- membership in a rectangle of production extents (`View.cover_of_tiled`): the elaborator's structural look
-- recurses once per coordinate of the long axes
set_option maxRecDepth 16384

noncomputable section

namespace Cert.KernelIdeal.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What the body leaves in the output's block, by core and point. -/
abbrev Out (hO : Ok m) : Type := Dev nD → Fin (cfgM m hO).N → Vec F S1x32x2048 .bf16

/-! ## The pipeline's proof data -/

/-- The proof data of the one pipeline on core `c`: the arrays as the region finds them (`V`); after the body at
    point `t` each input's buffer at its block and the output's at `out`; the invariant the class's
    (Lib/Pipeline/Frame.lean `ΦA`: the scoped rest and the generator register) and the tables' halves (`ΦT`); nothing owed;
    full shares. -/
def dats (hO : Ok m) (hH : Hyps m hO) (out : Out m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (out : Out m hO) (c : Dev nD) (w : Fin (cfgM m hO).W) : (dats m hO hH out 0 c).A w = V m c (Pipeline.arrRef spec0 w) := by
  dsimp only [dats]

/-- What the body leaves, window by window (the proof data's `match` reduced by `dsimp`). -/
theorem after0_0 (hO : Ok m) (hH : Hyps m hO) (out : Out m hO) (c : Dev nD) (t : Fin (cfgM m hO).N) : (dats m hO hH out 0 c).after 0 t = iblk m hO c 0 t := by dsimp only [dats]; try rfl
theorem after0_1 (hO : Ok m) (hH : Hyps m hO) (out : Out m hO) (c : Dev nD) (t : Fin (cfgM m hO).N) : (dats m hO hH out 0 c).after 1 t = iblk m hO c 1 t := by dsimp only [dats]; try rfl
theorem after0_2 (hO : Ok m) (hH : Hyps m hO) (out : Out m hO) (c : Dev nD) (t : Fin (cfgM m hO).N) : (dats m hO hH out 0 c).after 2 t = iblk m hO c 2 t := by dsimp only [dats]; try rfl
theorem after0_3 (hO : Ok m) (hH : Hyps m hO) (out : Out m hO) (c : Dev nD) (t : Fin (cfgM m hO).N) : (dats m hO hH out 0 c).after 3 t = iblk m hO c 3 t := by dsimp only [dats]; try rfl
theorem after0_4 (hO : Ok m) (hH : Hyps m hO) (out : Out m hO) (c : Dev nD) (t : Fin (cfgM m hO).N) : (dats m hO hH out 0 c).after 4 t = iblk m hO c 4 t := by dsimp only [dats]; try rfl
theorem after0_5 (hO : Ok m) (hH : Hyps m hO) (out : Out m hO) (c : Dev nD) (t : Fin (cfgM m hO).N) : (dats m hO hH out 0 c).after 5 t = out c t := by dsimp only [dats]; try rfl

/-- Each input's current staging buffer holds its block at every point, fetched there or not (`beforeK_W_of`). -/
theorem before0_0 (hO : Ok m) (hH : Hyps m hO) (out : Out m hO) (c : Dev nD) (t : Fin (cfgM m hO).N) (d) : (dats m hO hH out 0 c).before 0 t d = iblk m hO c 0 t :=
  before0_0_of m hO (dats m hO hH out 0 c) (A_eq m hO hH out c 0) (after0_0 m hO hH out c) t d
theorem before0_1 (hO : Ok m) (hH : Hyps m hO) (out : Out m hO) (c : Dev nD) (t : Fin (cfgM m hO).N) (d) : (dats m hO hH out 0 c).before 1 t d = iblk m hO c 1 t :=
  before0_1_of m hO (dats m hO hH out 0 c) (A_eq m hO hH out c 1) (after0_1 m hO hH out c) t d
theorem before0_2 (hO : Ok m) (hH : Hyps m hO) (out : Out m hO) (c : Dev nD) (t : Fin (cfgM m hO).N) (d) : (dats m hO hH out 0 c).before 2 t d = iblk m hO c 2 t :=
  before0_2_of m hO (dats m hO hH out 0 c) (A_eq m hO hH out c 2) (after0_2 m hO hH out c) t d
theorem before0_3 (hO : Ok m) (hH : Hyps m hO) (out : Out m hO) (c : Dev nD) (t : Fin (cfgM m hO).N) (d) : (dats m hO hH out 0 c).before 3 t d = iblk m hO c 3 t :=
  before0_3_of m hO (dats m hO hH out 0 c) (A_eq m hO hH out c 3) (after0_3 m hO hH out c) t d
theorem before0_4 (hO : Ok m) (hH : Hyps m hO) (out : Out m hO) (c : Dev nD) (t : Fin (cfgM m hO).N) (d) : (dats m hO hH out 0 c).before 4 t d = iblk m hO c 4 t :=
  before0_4_of m hO (dats m hO hH out 0 c) (A_eq m hO hH out c 4) (after0_4 m hO hH out c) t d

/-! ## The body obligation, at a generic point -/

/-- What the body is called with at point `t` (Lib/Pipeline.lean `BodyObligation`'s precondition, the windows one by one), -/
def bodyPre (hO : Ok m) (hH : Hyps m hO) (out : Out m hO) (c : Dev nD) (t : Fin (cfgM m hO).N) : sProp 𝕄 :=
  iprop((dats m hO hH out 0 c).Φ t.castSucc ∗ (dats m hO hH out 0 c).owesAt () t.castSucc
    ∗ (∃ d, owns (c : Thread nD τ) (ms0_0 m hO t) fullShare ((dats m hO hH out 0 c).before 0 t d))
    ∗ (∃ d, owns (c : Thread nD τ) (ms0_1 m hO t) fullShare ((dats m hO hH out 0 c).before 1 t d))
    ∗ (∃ d, owns (c : Thread nD τ) (ms0_2 m hO t) fullShare ((dats m hO hH out 0 c).before 2 t d))
    ∗ (∃ d, owns (c : Thread nD τ) (ms0_3 m hO t) fullShare ((dats m hO hH out 0 c).before 3 t d))
    ∗ (∃ d, owns (c : Thread nD τ) (ms0_4 m hO t) fullShare ((dats m hO hH out 0 c).before 4 t d))
    ∗ (∃ d, owns (c : Thread nD τ) (ms0_5 m hO t) fullShare ((dats m hO hH out 0 c).before 5 t d)))

/-- and what it returns. -/
def bodyPost (hO : Ok m) (hH : Hyps m hO) (out : Out m hO) (c : Dev nD) (t : Fin (cfgM m hO).N) : sProp 𝕄 :=
  iprop((dats m hO hH out 0 c).Φ t.succ ∗ (dats m hO hH out 0 c).owesAt () t.succ
    ∗ owns (c : Thread nD τ) (ms0_0 m hO t) fullShare ((dats m hO hH out 0 c).after 0 t)
    ∗ owns (c : Thread nD τ) (ms0_1 m hO t) fullShare ((dats m hO hH out 0 c).after 1 t)
    ∗ owns (c : Thread nD τ) (ms0_2 m hO t) fullShare ((dats m hO hH out 0 c).after 2 t)
    ∗ owns (c : Thread nD τ) (ms0_3 m hO t) fullShare ((dats m hO hH out 0 c).after 3 t)
    ∗ owns (c : Thread nD τ) (ms0_4 m hO t) fullShare ((dats m hO hH out 0 c).after 4 t)
    ∗ owns (c : Thread nD τ) (ms0_5 m hO t) fullShare ((dats m hO hH out 0 c).after 5 t))

/-- The body's stores leave `out` in the output's block, whatever the buffers held before. -/
def Leaves (hO : Ok m) (hH : Hyps m hO) (out : Out m hO) : Prop :=
  ∀ (c : Dev nD) (t : Fin (cfgM m hO).N) (f8 : (ms0_5 m hO t).view.ty.Contents (Elt F)) (d5 : Vec F S1x32x2048 .bf16) (e0 : Vec F S256x256 .fp8e4m3) (e1 e2 e3 e4 : Vec F S256x128 .f32) (e5 : Vec F S256x32768 .f32) (e6 : Vec F S256x512 .fp8e4m3) (e7 : Vec F S256x256 .f32) (y : S1x32x2048.Idx),
    (ms0_5 m hO t).view.read (Elt F) ((ms0_5 m hO t).view.writes (Elt F) f8 (kernelRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) d5 e0 e1 e2 e3 e4 e5 e6 e7 (tbl m 0) (Hyps.c0 hH c t)).1) y = out c t y

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (out : Out m hO) (hout : Leaves m hO hH out) (c : Dev nD) (t : Fin (cfgM m hO).N) :
    bodyPre m hO hH out c t ⊢ wp frame (wpE (defs₀ (F := F)) Variants.none c none) Set.univ (bodyAt0 (adm m hO) t) (fun _ => bodyPost m hO hH out c t) := by
  unfold bodyPre bodyPost bodyAt0
  simp only [before0_0, before0_1, before0_2, before0_3, before0_4]
  rw [show (dats m hO hH out 0 c).Φ t.succ = (dats m hO hH out 0 c).Φ t.castSucc from rfl,
    show (dats m hO hH out 0 c).owesAt () t.succ = (dats m hO hH out 0 c).owesAt () t.castSucc from rfl,
    after0_0, after0_1, after0_2, after0_3, after0_4, after0_5]
  rw [show (dats m hO hH out 0 c).Φ t.castSucc = iprop(Pipeline.ΦA spec0 c ∗ Pipeline.ΦT pre0 (tbl m) c) from rfl, PhiT0_eq, PhiA0_eq]
  iintro ⟨⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, HT0⟩, Ho, ⟨%d0, H0⟩, ⟨%d1, H1⟩, ⟨%d2, H2⟩, ⟨%d3, H3⟩, ⟨%d4, H4⟩, ⟨%d5, H5⟩⟩
  iapply ((kernelRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) ((dats m hO hH out 0 c).before 5 t d5) e0 e1 e2 e3 e4 e5 e6 e7 (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  iintro ⟨H0, H1, H2, H3, H4, H5, HS0, HS1, HS2, HS3, HS4, HS5, HS6, HS7, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      iexact Hg
    iexact HT0
  isplitl [Ho]; · iexact Ho
  isplitl [H0]; · iexact H0
  isplitl [H1]; · iexact H1
  isplitl [H2]; · iexact H2
  isplitl [H3]; · iexact H3
  isplitl [H4]; · iexact H4
  unfold owns; iexists _; isplitr; swap; · iexact H5
  ipureintro; exact funext fun y => hout c t _ _ _ _ _ _ _ _ _ _ y

/-- The library's body obligation, at every point. -/
theorem body_obligation (hO : Ok m) (hH : Hyps m hO) (out : Out m hO) (hout : Leaves m hO hH out) (c : Dev nD) : BodyObligation (dats (F := F) m hO hH out 0 c) (defs₀ (F := F)) Variants.none () Set.univ := fun t => by
  rw [bigSep_W0, bigSep_W0, defs₀_row m hO]
  exact triple_restated (sound_body m hO hH out hout c t) rfl .rfl fun _ => .rfl

-- `θ_run_frameP`'s implicit arguments are found by unifying its conclusion with this one, which takes unfolding plain
-- definitions in a metavariable's type
set_option backward.isDefEq.respectTransparency.types false in
/-- The launch: every run ends with every array of the pipeline at what the library computes from the proof data. -/
theorem run_main_quiescent (hO : Ok m) (hH : Hyps m hO) (out : Out m hO) (hout : Leaves m hO hH out) : θ_run defs (onTc (τ := τ) (main (F := F))) (s₀ m ρ) (fun r => (Pipeline.FramePost (Pipeline.pin pcfgs fun _ => adm m hO) (dats m hO hH out) 0 (V m)) r ∧ r.2.sem = fun _ => 0) :=
  Pipeline.θ_run_frameP (Q' := _) pcfgs (fun _ => adm m hO) (dats m hO hH out) (0 : Fin 1) launch0 defs₀ Variants.none m ρ main
    (hbody := fun c => (body_obligation m hO hH out hout c).loose) (hshare := fun c => (dats m hO hH out 0 c).share_full fun _ => rfl)
    (howed := fun _ _ => rfl) (V := V m) (hmain := hmain m Variants.none) (hA := A_eq m hO hH out) (hpf := V_pre m)
    (hΦ := fun _ _ => rfl)

/-- The output array ends at what the blocks make of it. -/
theorem run_out (hO : Ok m) (hH : Hyps m hO) (out : Out m hO) (hout : Leaves m hO hH out) : θ_run defs (onTc (τ := τ) (main (F := F))) ⟨m, fun _ => 0, ρ⟩ (fun r => ∀ c : Dev nD,
      r.2.mem ((c.tc : Thread nD τ).loc main_v0) = (dats m hO hH out 0 c).arrAt 5 (cfgM m hO).N) :=
  (θ_run defs _ _).mono (fun _ h c => (h.1 c).1 5) (run_main_quiescent m ρ hO hH out hout)

end Cert.KernelIdeal.Named

end
-- ==== Proof.KFinal.lean ====
/-
The kernel's result array as the attention of its arguments.
-/
module

public import proofs.«01_k».proof.Proof.TileOut
public import proofs.«01_k».proof.Proof.KernelBlocks
public import proofs.«01_k».proof.Proof.Attention
public import proofs.«01_k».proof.Proof.KernelIdealNamed
public import proofs.«01_k».proof.Proof.KernelIdealPre

@[expose] public section

set_option maxRecDepth 16384

noncomputable section

namespace Cert.KernelIdeal.Val

open Idealize.ShloMosaic Idealize.ShloMosaic.TcCoe Idealize.ShloMosaic.Tactic Idealize.SL.Sem
open Cert.Attn Cert.KernelIdeal Cert.KernelIdeal.Gen Cert.KernelIdeal.Words

variable (m : (ℓ : Loc nD τ sig) → Buf (Elt Ideal) ℓ) (hO : Ok m)

theorem idx_0 (t : Fin (cfgM m hO).N) : ((cfgM m hO).win 0).index t = ![(grid0.coords t 0).val, (grid0.coords t 1).val, 0] := tr_0 t
theorem idx_1 (t : Fin (cfgM m hO).N) : ((cfgM m hO).win 1).index t = ![(grid0.coords t 0).val, 0, 0] := tr_1 t
theorem idx_2 (t : Fin (cfgM m hO).N) : ((cfgM m hO).win 2).index t = ![(grid0.coords t 0).val, 0, 0] := tr_2 t
theorem idx_3 (t : Fin (cfgM m hO).N) : ((cfgM m hO).win 3).index t = ![(grid0.coords t 0).val, 0, 0] := tr_3 t
theorem idx_4 (t : Fin (cfgM m hO).N) : ((cfgM m hO).win 4).index t = ![(grid0.coords t 0).val, 0, 0] := tr_4 t
theorem idx_5 (t : Fin (cfgM m hO).N) : ((cfgM m hO).win 5).index t = ![(grid0.coords t 0).val, (grid0.coords t 1).val, 0] := tr_5 t

/-- The token at row `a` of a tile. -/
def tok (t : Fin grid0.N) (a : Fin 32) : Fin 32768 := ⟨(grid0.coords t 1).val * 32 + a.val, by
  have h : (grid0.coords t 1).val < 1024 := (grid0.coords t 1).isLt
  omega⟩

/-- A grid point's batch. -/
def bat (t : Fin grid0.N) : Fin 2 := grid0.coords t 0

theorem blk_0 (c : Dev nD) (t : Fin (cfgM m hO).N) (z : S1x32x2048.Idx) :
    iblk m hO c 0 t z = m ((c : Thread nD τ).loc main_arg0) (ix3 (bat t) (tok t (z 1)) (z 2)) := by
  blk_simp [iblk]
  refine congrArg _ ?_
  blk_ext [idx_0 m hO t, bat, tok]

theorem blk_1 (c : Dev nD) (t : Fin (cfgM m hO).N) (z : S1x32768x256.Idx) :
    iblk m hO c 1 t z = m ((c : Thread nD τ).loc main_arg1) (ix3 (bat t) (z 1) (z 2)) := by
  blk_simp [iblk]
  refine congrArg _ ?_
  blk_ext [idx_1 m hO t, bat]
theorem blk_2 (c : Dev nD) (t : Fin (cfgM m hO).N) (z : S1x1x32768.Idx) :
    iblk m hO c 2 t z = m ((c : Thread nD τ).loc main_arg2) (ix3 (bat t) 0 (z 2)) := by
  blk_simp [iblk]
  refine congrArg _ ?_
  blk_ext [idx_2 m hO t, bat]
theorem blk_3 (c : Dev nD) (t : Fin (cfgM m hO).N) (z : S1x32768x256.Idx) :
    iblk m hO c 3 t z = m ((c : Thread nD τ).loc main_arg3) (ix3 (bat t) (z 1) (z 2)) := by
  blk_simp [iblk]
  refine congrArg _ ?_
  blk_ext [idx_3 m hO t, bat]
theorem blk_4 (c : Dev nD) (t : Fin (cfgM m hO).N) (z : S1x1x256.Idx) :
    iblk m hO c 4 t z = m ((c : Thread nD τ).loc main_arg4) (ix3 (bat t) 0 (z 2)) := by
  blk_simp [iblk]
  refine congrArg _ ?_
  blk_ext [idx_4 m hO t, bat]

theorem fn1_not {n : ℕ} (f : Fin n → EReal) {a : ℕ} (h : ¬ a < n) : fn1 f a = 0 := by
  unfold fn1; rw [dif_neg h]

/-- The table's word is read at the batch. -/
theorem off1 : ∀ t : Fin grid0.N, k0_off1 (grid0.coords t) = ![(grid0.coords t 0).val] := by decide +kernel

/-- The prefix length that the body reads. -/
theorem word_eq (c : Dev nD) (t : Fin (cfgM m hO).N) (p : Fin 2 → ℕ) (h5 : ∀ b, m ((c : Thread nD τ).loc main_arg5) (ix1 b) = BitVec.ofNat 32 (p b)) :
    kernelRun.sl.r (F := Ideal) c (grid0.coords t) (tbl m 0) = BitVec.ofNat 32 (p (bat t)) := by
  obtain rfl : c = 0 := Subsingleton.elim _ _
  rw [← h5 (bat t)]
  unfold kernelRun.sl.r
  show m (((0 : Dev nD) : Thread nD τ).loc main_arg5) ((Rect.unit (s := S2) (k0_off1 (grid0.coords t)) S1.size (k0_off1_inb (grid0.coords t))).emb (Shape.Idx.first _)) = _
  refine congrArg _ (funext fun a => Fin.ext ?_)
  refine (emb_val (s := S2) (k0_off1_inb (grid0.coords t)) (off1 t) _ a).trans ?_
  fin_cases a
  rfl

/-- The attention of the argument arrays, as the whole output. -/
def G (c : Dev nD) (p : Fin 2 → ℕ) (b : Fin 2) (s : Fin 32768) (n : Fin 2048) : EReal :=
  attn p (m ((c : Thread nD τ).loc main_arg0)) (m ((c : Thread nD τ).loc main_arg1))
    (m ((c : Thread nD τ).loc main_arg2)) (m ((c : Thread nD τ).loc main_arg3)) (m ((c : Thread nD τ).loc main_arg4)) b s n

/-- The block of it that a grid point writes. -/
def outK (p : Dev nD → Fin 2 → ℕ) : Named.Out m hO := fun c t y => G m c (p c) (bat t) (tok t (y 1)) (y 2)

theorem qAt_of_lt (x0 : Vec Ideal S1x32x2048 .bf16) {R d : ℕ} (hR : R < 256) (hd : d < 256) :
    qAt x0 R d = x0 (ix3 0 ⟨R % 32, by omega⟩ ⟨256 * (R / 32) + d, by omega⟩) := by
  unfold qAt; rw [dif_pos ⟨hR, hd⟩]

theorem qAt_of_not (x0 : Vec Ideal S1x32x2048 .bf16) (R : ℕ) {d : ℕ} (hd : ¬ d < 256) : qAt x0 R d = 0 := by
  unfold qAt; rw [dif_neg fun h => hd h.2]

/-- The rows of a tile, spread over the block, are the attention's block. -/
theorem spread_eq (c : Dev nD) (t : Fin (cfgM m hO).N) (p : Fin 2 → ℕ) (y : S1x32x2048.Idx) :
    spread (fun z => rowOut (p (bat t)) (t0 (grid0.coords t) + (z 0).val % 32)
      (scoreOf (qAt (iblk m hO c 0 t) (z 0).val) (fn2 fun (κ : Fin 32768) (d : Fin 256) => m ((c : Thread nD τ).loc main_arg1) (ix3 (bat t) κ d))
        (fn1 fun κ : Fin 32768 => m ((c : Thread nD τ).loc main_arg2) (ix3 (bat t) 0 κ)))
      (fun κ => fn2 (fun (κ : Fin 32768) (d : Fin 256) => m ((c : Thread nD τ).loc main_arg3) (ix3 (bat t) κ d)) κ (z 1).val)
      (iblk m hO c 4 t (ix3 0 0 (z 1)))) y = G m c p (bat t) (tok t (y 1)) (y 2) := by
  have h1 : (y 1).val < 32 := (y 1).isLt
  have h2 : (y 2).val < 2048 := (y 2).isLt
  unfold spread G attn
  have eR : (32 * ((y 2).val / 256) + (y 1).val) % 32 = (y 1).val := by omega
  have eq : qAt (iblk m hO c 0 t) (32 * ((y 2).val / 256) + (y 1).val)
      = fn1 fun d : Fin 256 => m ((c : Thread nD τ).loc main_arg0) (ix3 (bat t) (tok t (y 1)) (headCol (y 2) d)) := by
    funext d
    by_cases hd : d < 256
    · refine (qAt_of_lt _ (by omega) hd).trans ((blk_0 m hO c t _).trans (Eq.trans ?_ (fn1_lt _ hd).symm))
      refine congrArg _ (congrArg₂ (ix3 (bat t)) (Fin.ext ?_) (Fin.ext ?_))
      · show _ * 32 + (32 * ((y 2).val / 256) + (y 1).val) % 32 = _ * 32 + (y 1).val
        rw [eR]
      · show 256 * ((32 * ((y 2).val / 256) + (y 1).val) / 32) + d = (y 2).val / 256 * 256 + d
        omega
    · exact (qAt_of_not _ _ hd).trans (fn1_not _ hd).symm
  have eV : (fun κ => fn2 (fun (κ : Fin 32768) (d : Fin 256) => m ((c : Thread nD τ).loc main_arg3) (ix3 (bat t) κ d)) κ ((y 2).val % 256))
      = fn1 fun κ : Fin 32768 => m ((c : Thread nD τ).loc main_arg3) (ix3 (bat t) κ (lane (y 2))) := by
    funext κ
    unfold fn2
    by_cases hκ : κ < 32768
    · rw [dif_pos hκ, fn1_lt _ hκ, fn1_lt _ (Nat.mod_lt _ (by decide))]; rfl
    · rw [dif_neg hκ]; unfold fn1; rw [dif_neg hκ]
  show rowOut (p (bat t)) (t0 (grid0.coords t) + (32 * ((y 2).val / 256) + (y 1).val) % 32) (scoreOf (qAt (iblk m hO c 0 t) (32 * ((y 2).val / 256) + (y 1).val)) _ _)
    (fun κ => fn2 _ κ ((y 2).val % 256)) (iblk m hO c 4 t (ix3 0 0 (lane (y 2)))) = _
  have e4 : iblk m hO c 4 t (ix3 0 0 (lane (y 2))) = m ((c : Thread nD τ).loc main_arg4) (ix3 (bat t) 0 (lane (y 2))) := blk_4 m hO c t _
  have e5 : t0 (grid0.coords t) + (y 1).val = (tok t (y 1)).val := rfl
  rw [eq, eV, eR, e4, e5]

/-- The body leaves the attention's block at every point. -/
theorem leaves (hH : Hyps m hO) (R : Dev nD → S2x32768x2048.Idx → ℝ) (hR : ∀ (c : Dev nD) z, m ((c : Thread nD τ).loc main_arg0) z = (R c z : EReal))
    (hX : ∀ c z, |R c z| ≤ 2 ^ 128) (p : Dev nD → Fin 2 → ℕ) (hp : ∀ c b, p c b ≤ 32768)
    (h5 : ∀ (c : Dev nD) b, m ((c : Thread nD τ).loc main_arg5) (ix1 b) = BitVec.ofNat 32 (p c b)) : Named.Leaves m hO hH (outK m hO p) := by
  intro c t f8 d5 e0 e1 e2 e3 e4 e5 e6 e7 y
  refine (tile_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) d5 e0 e1 e2 e3 e4 e5 e6 e7 (tbl m 0) (Hyps.c0 hH c t)
    (p c (bat t)) (hp c (bat t)) (word_eq m hO c t (p c) (h5 c)) f8 (fun z => R c (ix3 (bat t) (tok t (z 1)) (z 2))) ?_ ?_
    (fn2 fun (κ : Fin 32768) (d : Fin 256) => m ((c : Thread nD τ).loc main_arg1) (ix3 (bat t) κ d))
    (fn2 fun (κ : Fin 32768) (d : Fin 256) => m ((c : Thread nD τ).loc main_arg3) (ix3 (bat t) κ d))
    (fn1 fun κ : Fin 32768 => m ((c : Thread nD τ).loc main_arg2) (ix3 (bat t) 0 κ)) ?_ ?_ ?_ y).trans (spread_eq m hO c t (p c) y)
  · intro z
    rw [blk_0]; exact hR c _
  · intro z
    exact hX c _
  · intro z
    rw [blk_1]; exact (fn2_val (fun (κ : Fin 32768) (d : Fin 256) => m ((c : Thread nD τ).loc main_arg1) (ix3 (bat t) κ d)) (z 1) (z 2)).symm
  · intro z
    rw [blk_2]; exact (fn1_val (fun κ : Fin 32768 => m ((c : Thread nD τ).loc main_arg2) (ix3 (bat t) 0 κ)) (z 2)).symm
  · intro z
    rw [blk_3]; exact (fn2_val (fun (κ : Fin 32768) (d : Fin 256) => m ((c : Thread nD τ).loc main_arg3) (ix3 (bat t) κ d)) (z 1) (z 2)).symm

/-- The kernel's result array, index by index. -/
theorem final (hH : Hyps m hO) (p : Dev nD → Fin 2 → ℕ) (c : Dev nD) :
    (Named.dats m hO hH (outK m hO p) 0 c).arrAt 5 (cfgM m hO).N = fun y : S2x32768x2048.Idx => G m c (p c) (y 0) (y 1) (y 2) := by
  refine (Named.dats m hO hH (outK m hO p) 0 c).arrAt_eq_of_covers 5 _ covers5 fun t hf (y : S1x32x2048.Idx) => ?_
  have e : ((((cfgM m hO).win 5).blk t).view.emb y : S2x32768x2048.Idx) = ix3 (bat t) (tok t (y 1)) (y 2) := by blk_ext [idx_5 m hO t, bat, tok]
  refine Eq.trans ?_ (congrArg (fun z : S2x32768x2048.Idx => G m c (p c) (z 0) (z 1) (z 2)) e).symm
  blk_simp
  rw [Named.after0_5]
  rfl

end Cert.KernelIdeal.Val

end
-- ==== Proof.RefPay.lean ====
/-
The reference's values read at an index.
-/
module

public import proofs.«01_k».proof.Proof.Scale
public import proofs.«01_k».proof.Proof.Mask
public import proofs.«01_k».proof.Proof.Gen.ReferenceIdeal.Value
public import Idealize.ShloMosaic.Lib.Pointwise
public import Idealize.ShloMosaic.Lib.VecWindow
public import Idealize.ShloMosaic.Lib.Pipeline.ValueKit

@[expose] public section

set_option maxRecDepth 16384

noncomputable section

namespace Cert.ReferenceIdeal.Val

open Idealize.ShloMosaic Idealize.ShloMosaic.TcCoe Idealize.ShloMosaic.Tactic
open Cert.Attn Cert.ReferenceIdeal Cert.ReferenceIdeal.Gen

/-- The largest magnitude of each row. -/
def amaxs (v2 : FVec Ideal S2x262144x256 .f32) : FVec Ideal S2x262144x1 .f32 :=
  have v3 : FVec Ideal S2x262144x256 .f32 := absf v2
  have v4 : FVec Ideal S2x262144 .f32 := multiReduction .maximumf [2] S2x262144 v3 0xFF800000#32 reduces_S2x262144x256_S2x262144 (.inl rfl) rfl
  have v5 : FVec Ideal S2x262144x1 .f32 := shapeCast S2x262144x1 v4 shapeCasts_S2x262144_S2x262144x1
  v5

/-- The exponent of each row, from its largest magnitude. -/
def expo (v5 : FVec Ideal S2x262144x1 .f32) : FVec Ideal S2x262144x1 .f32 :=
  have cst_2 : Ideal .f32 := Scalar.ofBits .f32 0x3B124925#32
  have v6 : FVec Ideal S2x262144x1 .f32 := broadcast S2x262144x1 cst_2
  have v7 : FVec Ideal S2x262144x1 .f32 := mulf v5 v6
  have v8 : FVec Ideal S2x262144x1 .f32 := log v7
  have cst_3 : Ideal .f32 := Scalar.ofBits .f32 0x40000000#32
  have v9 : FVec Ideal S2x262144x1 .f32 := broadcast S2x262144x1 cst_3
  have v10 : FVec Ideal S2x262144x1 .f32 := log v9
  have v11 : FVec Ideal S2x262144x1 .f32 := divf v8 v10
  have v12 : FVec Ideal S2x262144x1 .f32 := floor v11
  have cst_4 : Ideal .f32 := Scalar.ofBits .f32 0x3F800000#32
  have v13 : FVec Ideal S2x262144x1 .f32 := broadcast S2x262144x1 cst_4
  have v14 : FVec Ideal S2x262144x1 .f32 := addf v12 v13
  have cst_5 : Ideal .f32 := Scalar.ofBits .f32 0x00000000#32
  have v15 : FVec Ideal S2x262144x1 .f32 := broadcast S2x262144x1 cst_5
  have v16 : IVec S2x262144x1 1 := cmpf .oeq v5 v15
  have cst_6 : Ideal .f32 := Scalar.ofBits .f32 0x00000000#32
  have v17 : FVec Ideal S2x262144x1 .f32 := broadcast S2x262144x1 cst_6
  have v18 : FVec Ideal S2x262144x1 .f32 := select v16 v17 v14
  v18

/-- The scaled scores from the queries laid out by rows and the rows' exponents. -/
def scores (v2 : FVec Ideal S2x262144x256 .f32) (v18 : FVec Ideal S2x262144x1 .f32) (v30 : Vec Ideal S2x32768x256 .fp8e4m3) (v36 : Vec Ideal S2x1x32768 .f32) : FVec Ideal S2x262144x32768 .f32 :=
  have cst_7 : Ideal .f32 := Scalar.ofBits .f32 0x00000000#32
  have v19 : FVec Ideal S2x262144x1 .f32 := broadcast S2x262144x1 cst_7
  have v20 : FVec Ideal S2x262144x1 .f32 := subf v19 v18
  have v21 : FVec Ideal S2x262144x1 .f32 := exp2 v20
  have v22 : FVec Ideal S2x262144x256 .f32 := broadcastTo S2x262144x256 v21 broadcasts_S2x262144x1_S2x262144x256
  have v23 : FVec Ideal S2x262144x256 .f32 := mulf v2 v22
  have cst_8 : Ideal .f32 := Scalar.ofBits .f32 0xC3E00000#32
  have cst_9 : Ideal .f32 := Scalar.ofBits .f32 0x43E00000#32
  have v24 : FVec Ideal S2x262144x256 .f32 := broadcast S2x262144x256 cst_8
  have v25 : FVec Ideal S2x262144x256 .f32 := maximumf v24 v23
  have v26 : FVec Ideal S2x262144x256 .f32 := broadcast S2x262144x256 cst_9
  have v27 : FVec Ideal S2x262144x256 .f32 := minimumf v26 v25
  have v28 : FVec Ideal S2x262144x256 .fp8e4m3 := truncf .fp8e4m3 v27 bitsLt_fp8e4m3_f32
  have v29 : FVec Ideal S2x262144x1 .f32 := exp2 v18
  have cst_13 : FVec Ideal S2x262144x32768 .f32 := constant S2x262144x32768 .f32 0x00000000#32
  have v31 : FVec Ideal S2x262144x32768 .f32 := matmul (φ₂ := .fp8e4m3) dot_S2x262144x256_S2x32768x256_S2x262144x32768_2_2_1_1_0_0 none v28 v30 cst_13
  have cst_14 : Ideal .f32 := Scalar.ofBits .f32 0x3D800000#32
  have v32 : FVec Ideal S2x262144x1 .f32 := broadcast S2x262144x1 cst_14
  have v33 : FVec Ideal S2x262144x1 .f32 := mulf v29 v32
  have v34 : FVec Ideal S2x262144x32768 .f32 := broadcastTo S2x262144x32768 v33 broadcasts_S2x262144x1_S2x262144x32768
  have v35 : FVec Ideal S2x262144x32768 .f32 := mulf v31 v34
  have v37 : FVec Ideal S2x262144x32768 .f32 := broadcastTo S2x262144x32768 v36 broadcasts_S2x1x32768_S2x262144x32768
  have v38 : FVec Ideal S2x262144x32768 .f32 := mulf v35 v37
  v38

/-- The queries laid out by rows: row `8 * token + head`. -/
def rowsOf (v0 : Vec Ideal S2x32768x2048 .bf16) : FVec Ideal S2x262144x256 .f32 :=
  shapeCast S2x262144x256 (extf .f32 v0 bitsLt_bf16_f32) shapeCasts_S2x32768x2048_S2x262144x256

theorem pay2_eq (v0 : Vec Ideal S2x32768x2048 .bf16) (v30 : Vec Ideal S2x32768x256 .fp8e4m3) (v36 : Vec Ideal S2x1x32768 .f32) :
    k0_pay2 v0 v30 v36 = scores (rowsOf v0) (expo (amaxs (rowsOf v0))) v30 v36 := rfl

theorem rowsOf_at (v0 : Vec Ideal S2x32768x2048 .bf16) (y : S2x262144x256.Idx) :
    rowsOf v0 y = v0 (ix3 (y 0) ⟨(y 1).val / 8, by have := (y 1).isLt; change _ < 262144 at this; omega⟩ ⟨(y 1).val % 8 * 256 + (y 2).val, by have := (y 2).isLt; change _ < 256 at this; omega⟩) := by
  unfold rowsOf
  pointwise []

theorem amaxs_at (v2 : FVec Ideal S2x262144x256 .f32) (y : S2x262144x1.Idx) :
    amaxs v2 y = Finset.fold max (Ideal.ofBits .f32 0xFF800000#32) (fun x : Fin 256 => FloatOps.absf (F := Ideal) (φ := .f32) (v2 (ix3 (y 0) (y 1) x))) Finset.univ := by
  unfold amaxs
  pointwise []

theorem expo_at (v5 : FVec Ideal S2x262144x1 .f32) (y : S2x262144x1.Idx) : expo v5 y = refExpo (v5 y) := by
  unfold expo
  pointwise []
  rfl

theorem scores_at (v2 : FVec Ideal S2x262144x256 .f32) (v18 : FVec Ideal S2x262144x1 .f32) (v30 : Vec Ideal S2x32768x256 .fp8e4m3) (v36 : Vec Ideal S2x1x32768 .f32)
    (y : S2x262144x32768.Idx) : scores v2 v18 v30 v36 y
      = (∑ x : Fin 256, min (Ideal.ofBits .f32 0x43E00000#32) (max (Ideal.ofBits .f32 0xC3E00000#32)
            (v2 (ix3 (y 0) (y 1) x) * Ideal.exp2 (0 - v18 (ix3 (y 0) (y 1) 0)))) * v30 (ix3 (y 0) (y 2) x))
          * (Ideal.exp2 (v18 (ix3 (y 0) (y 1) 0)) * ((1 / 16 : ℝ) : EReal)) * v36 (ix3 (y 0) 0 (y 2)) := by
  unfold scores
  pointwise []
  rw [ofBits_sixteenth]
  rfl

/-- The token of a row as the program computes it. -/
def tokW (n : BitVec 32) : BitVec 32 :=
  Scalar.select (IntOp.andi (IntOp.cmpi .ne (IntOp.subi (BitVec.setWidth 32 (IntOp.cmpi .sgt n 0#32)) (BitVec.setWidth 32 (IntOp.cmpi .slt n 0#32)))
      (Scalar.subi (Scalar.extui (Scalar.cmpi .sgt 8#32 0#32)) (Scalar.extui (Scalar.cmpi .slt 8#32 0#32))))
    (IntOp.cmpi .ne (IntOp.remsi .vector n 8#32) 0#32)) (IntOp.subi (IntOp.divsi .vector n 8#32) 1#32) (IntOp.divsi .vector n 8#32)

theorem tokW_eq {n : ℕ} (h : n < 2 ^ 31) : tokW (BitVec.ofNat 32 n) = BitVec.ofNat 32 (n / 8) := by
  have hx := isInt_ofNat h
  generalize BitVec.ofNat 32 n = x at hx
  have hd : IntOp.divsi .vector x 8#32 = Scalar.divsi x 8#32 := by
    have : ¬ IntOp.SDivCorner x 8#32 := by simp [IntOp.SDivCorner]
    simp only [Scalar.divsi, IntOp.divsi, if_neg this]
  have hr : IntOp.remsi .vector x 8#32 = Scalar.remsi x 8#32 := by
    have : ¬ IntOp.SDivCorner x 8#32 := by simp [IntOp.SDivCorner]
    simp only [Scalar.remsi, IntOp.remsi, if_neg this]
  unfold tokW
  rw [hd, hr]
  apply eq_ofNat_of_isInt
  have h0 := Affine.ofNat (e := 0) 0 ⟨rfl, by decide⟩
  have h1 := Affine.ofNat (e := 1) 1 ⟨rfl, by decide⟩
  have h8 := Affine.ofNat (e := 8) 8 ⟨rfl, by decide⟩
  have hq : Affine.IsInt (Scalar.divsi x 8#32) ((n / 8 : ℕ) : Int) := by
    have := Affine.divsi (e := (n : Int) / 8) hx h8 ⟨rfl, by omega, by decide⟩
    rwa [Int.natCast_div]
  have hs : Affine.Fails (Scalar.andi (Scalar.cmpi .ne (sgn x) (sgn 8#32)) (Scalar.cmpi .ne (Scalar.remsi x 8#32) 0#32)) := by
    have hr : Affine.IsInt (Scalar.remsi x 8#32) ((n : Int) % 8) := Affine.remsi hx h8 ⟨rfl, by omega, by decide⟩
    by_cases hp : 0 < n
    · refine Affine.andi_fails_left (Affine.ne_fails (sgn_isInt hx (by omega)) (sgn_isInt h8 (by decide)) ?_) trivial
      simp [hp]
    · exact Affine.andi_fails_right trivial (Affine.ne_fails hr h0 (by omega))
  exact Affine.select_fails hs (Affine.subi hq h1 ⟨rfl, by omega, by omega⟩) hq rfl

theorem pay3_at {p : ℕ} (hp : p ≤ 32768) (v38 : FVec Ideal S2x262144x32768 .f32) (v39 : IVec S2x262144x32768 32) (v65 : IVec S2x1x1 32) (y : S2x262144x32768.Idx) (S : ℕ → EReal)
    (hS : ∀ κ : Fin 32768, v38 (ix3 (y 0) (y 1) κ) = S κ.val) (h39 : ∀ y, v39 y = BitVec.ofNat 32 (y 2).val) (h65 : v65 (ix3 (y 0) 0 0) = BitVec.ofNat 32 p) :
    k0_pay3 (F := Ideal) v38 v39 v65 y = rowExp p ((y 1).val / 8) S (y 2).val := by
  have h1 : (y 1).val < 262144 := (y 1).isLt
  have h2 : (y 2).val < 32768 := (y 2).isLt
  have key : ∀ z : S2x262144x32768.Idx, v38 z = S (z 2).val → Scalar.select (IntOp.ori (IntOp.cmpi .slt (v39 z) (v65 (ix3 (y 0) 0 0)))
      (IntOp.andi (IntOp.cmpi .sle (v39 z) (tokW (BitVec.ofNat 32 (y 1).val)))
        (IntOp.cmpi .sgt (v39 z) (IntOp.subi (tokW (BitVec.ofNat 32 (y 1).val)) 1024#32))))
      (v38 z) (Ideal.ofBits .f32 0xFF800000#32) = smR p ((y 1).val / 8) S (z 2).val := fun z hz => by
    rw [h39, h65, tokW_eq (by omega), ofBits_negInf]
    refine (mask_sel p ((y 1).val / 8) (z 2).val hp (by omega) (z 2).isLt _ _).trans ?_
    unfold smR
    rw [hz]
  have hy : ix3 (y 0) (y 1) (y 2) = y := by funext i; fin_cases i <;> rfl
  pointwise [k0_pay3]
  unfold rowExp
  refine congrArg Ideal.exp (congrArg₂ (· - ·) (key y ((congrArg v38 hy).symm.trans (hS (y 2)))) ?_)
  rw [fold_max_sup]
  exact Finset.sup_congr rfl fun x _ => key (ix3 (y 0) (y 1) x) (hS x)

theorem pay4_at {p : ℕ} (hp : p ≤ 32768) (v38 : FVec Ideal S2x262144x32768 .f32) (v39 : IVec S2x262144x32768 32) (v65 : IVec S2x1x1 32) (y : S2x262144x1.Idx) (S : ℕ → EReal)
    (hS : ∀ κ : Fin 32768, v38 (ix3 (y 0) (y 1) κ) = S κ.val) (h39 : ∀ y, v39 y = BitVec.ofNat 32 (y 2).val) (h65 : v65 (ix3 (y 0) 0 0) = BitVec.ofNat 32 p) :
    k0_pay4 (F := Ideal) v38 v39 v65 y = ∑ κ : Fin 32768, rowExp p ((y 1).val / 8) S κ.val := by
  have key : ∀ x : Fin 32768, k0_pay3 (F := Ideal) v38 v39 v65 (ix3 (y 0) (y 1) x) = rowExp p ((y 1).val / 8) S x.val :=
    fun x => pay3_at hp v38 v39 v65 (ix3 (y 0) (y 1) x) S hS h39 h65
  pointwise [k0_pay4]
  exact Finset.sum_congr rfl fun x _ => key x

theorem pay1_at (v81 : FVec Ideal S2x262144x32768 .f32) (v83 : FVec Ideal S2x262144x1 .f32) (v91 : Vec Ideal S2x32768x256 .fp8e4m3) (v93 : Vec Ideal S2x1x256 .f32)
    (y : S2x32768x2048.Idx) (n : Fin 262144) (l : Fin 256) (hn : n.val = (y 1).val * 8 + (y 2).val / 256) (hl : l.val = (y 2).val % 256) :
    k0_pay1 (F := Ideal) v81 v83 k0_pay5 v91 v93 y =
      Ideal.div ((∑ x, clip (v81 (ix3 (y 0) n x) * ((256 : ℝ) : EReal)) * v91 (ix3 (y 0) x l)) * (((1 / 256 : ℝ) : EReal) * v93 (ix3 (y 0) 0 l)))
        (v83 (ix3 (y 0) n 0)) := by
  pointwise [k0_pay1, k0_pay5]
  rw [show n = ⟨(y 1).val * 8 + (y 2).val / 256, hn ▸ n.isLt⟩ from Fin.ext hn, show l = ⟨(y 2).val % 256, hl ▸ l.isLt⟩ from Fin.ext hl]
  unfold clip
  rw [ofBits_256, ofBits_256th, Ideal.ofBits_zero_f32]

/-- The reference's result at an index: the row of its token and head. -/
theorem out_at {p : ℕ} (hp : p ≤ 32768) (x0 : Vec Ideal S2x32768x2048 .bf16) (x1 : Vec Ideal S2x32768x256 .fp8e4m3) (x2 : Vec Ideal S2x1x32768 .f32)
    (x3 : Vec Ideal S2x32768x256 .fp8e4m3) (x4 : Vec Ideal S2x1x256 .f32) (x5 : Vec Ideal S2x1x1 .i32) (y : S2x32768x2048.Idx)
    (h5 : x5 (ix3 (y 0) 0 0) = BitVec.ofNat 32 p) (v ks V : ℕ → EReal) (K : ℕ → ℕ → EReal) (l : Fin 256) (hl : l.val = (y 2).val % 256)
    (r : ℕ → ℝ) (hr : ∀ d < 256, v d = (r d : EReal)) {X : ℝ} (hX : ∀ d < 256, |r d| ≤ X)
    (hv : ∀ (j : Fin 2048) (d : ℕ), d < 256 → j.val = (y 2).val / 256 * 256 + d → x0 (ix3 (y 0) (y 1) j) = v d)
    (hK : ∀ (κ : Fin 32768) (d : Fin 256), x1 (ix3 (y 0) κ d) = K κ.val d.val) (hks : ∀ κ : Fin 32768, x2 (ix3 (y 0) 0 κ) = ks κ.val)
    (hV : ∀ κ : Fin 32768, x3 (ix3 (y 0) κ l) = V κ.val) :
    out0_6 x0 x1 x2 x3 x4 x5 y = rowOut p (y 1).val (scoreOf v K ks) V (x4 (ix3 (y 0) 0 l)) := by
  have h1 : (y 1).val < 32768 := (y 1).isLt
  have h2 : (y 2).val < 2048 := (y 2).isLt
  have hn : (y 1).val * 8 + (y 2).val / 256 < 262144 := by omega
  have hq : ∀ x : Fin 256, rowsOf x0 (ix3 (y 0) ⟨_, hn⟩ x) = v x.val := fun x => by
    rw [rowsOf_at]
    have e1 : (⟨((y 1).val * 8 + (y 2).val / 256) / 8, by omega⟩ : Fin 32768) = y 1 := Fin.ext (by show _ / 8 = _; omega)
    show x0 (ix3 (y 0) ⟨((y 1).val * 8 + (y 2).val / 256) / 8, _⟩ _) = _
    rw [e1]
    exact hv _ x.val x.isLt (by show ((y 1).val * 8 + (y 2).val / 256) % 8 * 256 + x.val = _; omega)
  obtain ⟨A, hA0, hAX, hA, hAr⟩ := amax_real (fun d : Fin 256 => r d.val) (fun d => (hr d.val d.isLt)) (fun d => hX d.val d.isLt)
  obtain ⟨t, ht, hAt, e1, e2⟩ := ref_scale hA0
  have hex : expo (amaxs (rowsOf x0)) (ix3 (y 0) ⟨_, hn⟩ 0) = refExpo (A : EReal) := by
    rw [expo_at, amaxs_at, ← hA]
    refine congrArg (fun f => refExpo (Finset.fold max _ f Finset.univ)) (funext fun x => ?_)
    exact congrArg (FloatOps.absf (F := Ideal) (φ := .f32)) (hq x)
  have hS : ∀ κ : Fin 32768, k0_pay2 x0 x1 x2 (ix3 (y 0) ⟨_, hn⟩ κ) = scoreOf v K ks κ.val := fun κ => by
    rw [pay2_eq, scores_at]
    show (∑ x : Fin 256, min (Ideal.ofBits .f32 0x43E00000#32) (max (Ideal.ofBits .f32 0xC3E00000#32)
            (rowsOf x0 (ix3 (y 0) ⟨_, hn⟩ x) * Ideal.exp2 (0 - expo (amaxs (rowsOf x0)) (ix3 (y 0) ⟨_, hn⟩ 0)))) * x1 (ix3 (y 0) κ x))
          * (Ideal.exp2 (expo (amaxs (rowsOf x0)) (ix3 (y 0) ⟨_, hn⟩ 0)) * ((1 / 16 : ℝ) : EReal)) * x2 (ix3 (y 0) 0 κ) = _
    rw [hex, e1, e2, hks]
    have e3 : ∀ x : Fin 256, min (Ideal.ofBits .f32 0x43E00000#32) (max (Ideal.ofBits .f32 0xC3E00000#32)
        (rowsOf x0 (ix3 (y 0) ⟨_, hn⟩ x) * (t : EReal))) * x1 (ix3 (y 0) κ x) = (t : EReal) * v x.val * K κ.val x.val := fun x => by
      rw [hq, hK, hr x.val x.isLt, code_eq ht (hAr x) hAt]
    rw [Finset.sum_congr rfl fun x _ => e3 x, codes_sum ht, score_ref ht]
    rfl
  have h39 : ∀ z, k0_pay6 x0 x1 x2 x3 x4 x5 z = BitVec.ofNat 32 (z 2).val := fun z => by
    unfold k0_pay6
    pointwise []
  have h7 : k0_pay7 x0 x1 x2 x3 x4 x5 = k0_pay2 x0 x1 x2 := by
    unfold k0_pay7
    rw [View.ld_unit_lit _ x0 (by decide), View.ld_unit_lit _ x1 (by decide), View.ld_unit_lit _ x2 (by decide)]
  unfold out0_6
  rw [View.canon_cons_unit_lit _ _ _ (by decide), View.ld_unit_lit _ x3 (by decide), View.ld_unit_lit _ x4 (by decide),
    View.ld_unit_lit _ x5 (by decide), h7, pay1_at _ _ _ _ _ ⟨_, hn⟩ l rfl hl]
  have e8 : ((y 1).val * 8 + (y 2).val / 256) / 8 = (y 1).val := by omega
  unfold rowOut
  refine congrArg₂ Ideal.div (congrArg₂ (· * ·) (Finset.sum_congr rfl fun κ _ => ?_) rfl) ?_
  · rw [pay3_at hp _ _ _ (ix3 (y 0) ⟨_, hn⟩ κ) (scoreOf v K ks) hS h39 h5, hV]
    show clip (rowExp p (((y 1).val * 8 + (y 2).val / 256) / 8) _ κ.val * _) * _ = _
    rw [e8]
  · rw [pay4_at hp _ _ _ (ix3 (y 0) ⟨_, hn⟩ 0) (scoreOf v K ks) hS h39 h5]
    show (∑ κ : Fin 32768, rowExp p (((y 1).val * 8 + (y 2).val / 256) / 8) _ κ.val) = _
    rw [e8]

end Cert.ReferenceIdeal.Val

end
-- ==== Proof.RefFinal.lean ====
/-
The reference's result array as the attention of its arguments.
-/
module

public import proofs.«01_k».proof.Proof.RefPay
public import proofs.«01_k».proof.Proof.Attention

@[expose] public section

set_option maxRecDepth 16384

noncomputable section

namespace Cert.ReferenceIdeal.Val

open Idealize.ShloMosaic Idealize.ShloMosaic.TcCoe Idealize.ShloMosaic.Tactic
open Cert.Attn Cert.ReferenceIdeal Cert.ReferenceIdeal.Gen

variable (m : (ℓ : Loc nD τ sig) → Buf (Elt Ideal) ℓ)

theorem idx_0 : ∀ t : Fin cfg0.N, win0_0.index t = ![0, 0, 0] := (by decide +kernel : ∀ t : Fin grid0.N, _)
theorem idx_1 : ∀ t : Fin cfg0.N, win0_1.index t = ![0, 0, 0] := (by decide +kernel : ∀ t : Fin grid0.N, _)
theorem idx_2 : ∀ t : Fin cfg0.N, win0_2.index t = ![0, 0, 0] := (by decide +kernel : ∀ t : Fin grid0.N, _)
theorem idx_3 : ∀ t : Fin cfg0.N, win0_3.index t = ![0, 0, 0] := (by decide +kernel : ∀ t : Fin grid0.N, _)
theorem idx_4 : ∀ t : Fin cfg0.N, win0_4.index t = ![0, 0, 0] := (by decide +kernel : ∀ t : Fin grid0.N, _)
theorem idx_5 : ∀ t : Fin cfg0.N, win0_5.index t = ![0, 0, 0] := (by decide +kernel : ∀ t : Fin grid0.N, _)

theorem blk_0 (c : Dev nD) (t : Fin cfg0.N) (z : S2x32768x2048.Idx) : iblk m c 0 t z = m ((c : Thread nD τ).loc main_arg0) z := by
  blk_simp [iblk]
  rw [V_main_arg0]
  exact congrArg _ (by blk_ext [idx_0 t])
theorem blk_1 (c : Dev nD) (t : Fin cfg0.N) (z : S2x32768x256.Idx) : iblk m c 1 t z = m ((c : Thread nD τ).loc main_arg1) z := by
  blk_simp [iblk]
  rw [V_main_arg1]
  exact congrArg _ (by blk_ext [idx_1 t])
theorem blk_2 (c : Dev nD) (t : Fin cfg0.N) (z : S2x1x32768.Idx) : iblk m c 2 t z = m ((c : Thread nD τ).loc main_arg2) z := by
  blk_simp [iblk]
  rw [V_main_arg2]
  exact congrArg _ (by blk_ext [idx_2 t])
theorem blk_3 (c : Dev nD) (t : Fin cfg0.N) (z : S2x32768x256.Idx) : iblk m c 3 t z = m ((c : Thread nD τ).loc main_arg3) z := by
  blk_simp [iblk]
  rw [V_main_arg3]
  exact congrArg _ (by blk_ext [idx_3 t])
theorem blk_4 (c : Dev nD) (t : Fin cfg0.N) (z : S2x1x256.Idx) : iblk m c 4 t z = m ((c : Thread nD τ).loc main_arg4) z := by
  blk_simp [iblk]
  rw [V_main_arg4]
  exact congrArg _ (by blk_ext [idx_4 t])
/-- The staged prefix lengths are the argument's, reshaped. -/
theorem blk_5 (c : Dev nD) (t : Fin cfg0.N) (b : Fin 2) : iblk m c 5 t (ix3 b 0 0) = m ((c : Thread nD τ).loc main_arg5) (ix1 b) := by
  blk_simp [iblk]
  rw [show ((win0_5.blk t).view.emb (ix3 b 0 0) : S2x1x1.Idx) = ix3 b 0 0 from by blk_ext [idx_5 t]]
  entry_read
  pointwise []

/-- The reference's result array, index by index. -/
theorem final (c : Dev nD) (R : S2x32768x2048.Idx → ℝ) (hR : ∀ z, m ((c : Thread nD τ).loc main_arg0) z = (R z : EReal)) {X : ℝ} (hX : ∀ z, |R z| ≤ X)
    (p : Fin 2 → ℕ) (hp : ∀ b, p b ≤ 32768) (h5 : ∀ b, m ((c : Thread nD τ).loc main_arg5) (ix1 b) = BitVec.ofNat 32 (p b)) :
    (dats m 0 c).arrAt 6 cfg0.N = fun y : S2x32768x2048.Idx => attn p (m ((c : Thread nD τ).loc main_arg0)) (m ((c : Thread nD τ).loc main_arg1))
      (m ((c : Thread nD τ).loc main_arg2)) (m ((c : Thread nD τ).loc main_arg3)) (m ((c : Thread nD τ).loc main_arg4)) (y 0) (y 1) (y 2) := by
  refine (dats m 0 c).arrAt_eq_of_after_last 6 t0_0 (by decide +kernel) _ fun (j : S2x32768x2048.Idx) => ?_
  blk_simp
  rw [after0_6]
  have hl : (lane (j 2)).val = (j 2).val % 256 := rfl
  refine (out_at (hp (j 0)) _ _ _ _ _ _ j ((blk_5 m c t0_0 (j 0)).trans (h5 (j 0)))
    (fn1 fun d : Fin 256 => m ((c : Thread nD τ).loc main_arg0) (ix3 (j 0) (j 1) (headCol (j 2) d)))
    (fn1 fun κ : Fin 32768 => m ((c : Thread nD τ).loc main_arg2) (ix3 (j 0) 0 κ))
    (fn1 fun κ : Fin 32768 => m ((c : Thread nD τ).loc main_arg3) (ix3 (j 0) κ (lane (j 2))))
    (fn2 fun (κ : Fin 32768) (d : Fin 256) => m ((c : Thread nD τ).loc main_arg1) (ix3 (j 0) κ d)) (lane (j 2)) hl
    (fun d => if h : d < 256 then R (ix3 (j 0) (j 1) (headCol (j 2) ⟨d, h⟩)) else 0) ?_ (X := X) ?_ ?_ ?_ ?_ ?_).trans ?_
  · intro d hd
    rw [fn1_lt _ hd, dif_pos hd]; exact hR _
  · intro d hd
    rw [dif_pos hd]; exact hX _
  · intro n d hd hn
    rw [blk_0, fn1_lt _ hd]
    exact congrArg (fun q => m ((c : Thread nD τ).loc main_arg0) (ix3 (j 0) (j 1) q)) (Fin.ext hn)
  · intro κ d
    rw [blk_1]; exact (fn2_val (fun κ d => m ((c : Thread nD τ).loc main_arg1) (ix3 (j 0) κ d)) κ d).symm
  · intro κ
    rw [blk_2]; exact (fn1_val (fun κ => m ((c : Thread nD τ).loc main_arg2) (ix3 (j 0) 0 κ)) κ).symm
  · intro κ
    rw [blk_3]; exact (fn1_val (fun κ => m ((c : Thread nD τ).loc main_arg3) (ix3 (j 0) κ (lane (j 2)))) κ).symm
  · rw [blk_4]; rfl

end Cert.ReferenceIdeal.Val

end
-- ==== Proof.Algebraic.lean ====
/-
The kernel's result is the reference's: both are the attention of the argument arrays.
-/
module

public import proofs.«01_k».proof.Proof.KFinal
public import proofs.«01_k».proof.Proof.RefFinal

@[expose] public section

set_option maxRecDepth 16384

noncomputable section

namespace Cert.Proof

open Idealize.ShloMosaic Idealize.ShloMosaic.TcCoe Idealize.SL.Sem
open Cert.Attn

/-- The largest finite number of bfloat16. -/
theorem ofBits_max : Ideal.ofBits .bf16 0x7F7F#16 = ((255 * 2 ^ 120 : ℝ) : EReal) := by
  simp [Ideal.ofBits, Ideal.ieee]

/-- A magnitude with a real bound is a real's. -/
theorem real_of_le {x : EReal} (h : max x (-x) ≤ Ideal.ofBits .bf16 0x7F7F#16) : ∃ r : ℝ, x = (r : EReal) ∧ |r| ≤ 2 ^ 128 := by
  rw [ofBits_max] at h
  have h1 := le_trans (le_max_left _ _) h
  have h2 := le_trans (le_max_right _ _) h
  induction x using EReal.rec with
  | bot =>
    rw [EReal.neg_bot] at h2
    exact absurd (top_le_iff.1 h2) (EReal.coe_ne_top _)
  | top => exact absurd (top_le_iff.1 h1) (EReal.coe_ne_top _)
  | coe r =>
    refine ⟨r, rfl, abs_le.2 ⟨?_, ?_⟩⟩
    · rw [← EReal.coe_neg] at h2
      have := EReal.coe_le_coe_iff.1 h2
      norm_num at this ⊢
      linarith
    · have := EReal.coe_le_coe_iff.1 h1
      norm_num at this ⊢
      linarith

variable (m : (ℓ : Loc KernelIdeal.nD KernelIdeal.τ KernelIdeal.sig) → Buf (Elt Ideal) ℓ)

/-- The tokens are reals, under the precondition that bounds them. -/
theorem x_real (h : Cert.Pre_KernelIdeal_x_finite m) (c : Dev KernelIdeal.nD) (z : KernelIdeal.S2x32768x2048.Idx) :
    ∃ r : ℝ, m ((c.tc : Thread KernelIdeal.nD KernelIdeal.τ).loc KernelIdeal.main_arg0) z = (r : EReal) ∧ |r| ≤ 2 ^ 128 := by
  have e := congrFun (h c).2 z
  have ofBool_eq_one (p : Bool) : (BitVec.ofBool p = 1#1) ↔ p = true := by cases p <;> decide
  refine real_of_le ?_
  exact of_decide_eq_true ((ofBool_eq_one _).1 e)

/-- `Cert.algebraic_KernelIdeal_ReferenceIdeal_pre_x_finite` (Defs.lean). -/
theorem algebraic : Cert.algebraic_KernelIdeal_ReferenceIdeal_pre_x_finite := by
  intro m g m' g' hpre harg
  have hx := x_real m hpre
  choose R hR hX using hx
  have hO := KernelIdeal.Attn.ok m
  have hH := KernelIdeal.Attn.hyps_of_pre_x m hpre
  let p : Dev KernelIdeal.nD → Fin 2 → ℕ := fun c b => (m ((c.tc : Thread KernelIdeal.nD KernelIdeal.τ).loc KernelIdeal.main_arg5) (ix1 b)).toNat
  have hp : ∀ c b, p c b ≤ 32768 := fun c b => KernelIdeal.Attn.prefix_le_x m hpre c (ix1 b)
  have h5 : ∀ (c : Dev KernelIdeal.nD) b, m ((c.tc : Thread KernelIdeal.nD KernelIdeal.τ).loc KernelIdeal.main_arg5) (ix1 b) = BitVec.ofNat 32 (p c b) := fun c b => by
    show _ = BitVec.ofNat 32 (BitVec.toNat _)
    rw [BitVec.ofNat_toNat, BitVec.setWidth_eq]
  have hl := KernelIdeal.Val.leaves m hO hH R hR hX p hp h5
  refine ⟨fun c => fun y : KernelIdeal.S2x32768x2048.Idx => KernelIdeal.Val.G m c (p c) (y 0) (y 1) (y 2), ?_, ?_⟩
  · refine (θ_run _ _ _).mono (fun r h c => ⟨(h.1 c).trans (KernelIdeal.Val.final m hO hH p c), h.2 c⟩)
      (θ_run_and (KernelIdeal.Named.run_out m g hO hH (KernelIdeal.Val.outK m hO p) hl) (KernelIdeal.Gen.unchanged m g hO hH))
  · refine (θ_run _ _ _).mono (fun r h c => ⟨(h c).1.trans ?_, (h c).2⟩) (ReferenceIdeal.Value.run_blocks m' g')
    obtain ⟨a0, a1, a2, a3, a4, a5⟩ := harg c
    refine (ReferenceIdeal.Val.final m' c (R c) (fun z => (congrFun a0 z).trans (hR c z)) (hX c) (p c) (hp c) (fun b => (congrFun a5 (ix1 b)).trans (h5 c b))).trans ?_
    funext y
    unfold KernelIdeal.Val.G
    rw [a0, a1, a2, a3, a4]

end Cert.Proof

end
-- ==== Proof.lean ====
/-
The proof of `Cert.Claim`: the programs' stated facts, the frames of the kernel at both instances (each from its
precondition), the frame of the reference, the named constant's statement, and the value claim (Proof/Algebraic.lean).
-/
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_prefix_in_sequence
public import proofs.«01_k».proof.Proof.KernelPre
public import proofs.«01_k».proof.Proof.KernelFrame
public import proofs.«01_k».proof.Proof.KernelIdealPre
public import proofs.«01_k».proof.Proof.KernelIdealFrame
public import proofs.«01_k».proof.Proof.Gen.Pre_x_finite
public import proofs.«01_k».proof.Proof.Algebraic
public import Idealize.ShloMosaic.Adequacy
public import Idealize.ShloMosaic.Init

@[expose] public section

noncomputable section

namespace Cert.Proof

open Idealize.ShloMosaic Idealize.SL.Sem

/-- The constant the kernel writes as a decimal is named `log2e` at the ideal instance. -/
theorem preserves : Cert.preserves_Kernel_KernelIdeal :=
  IdealRules.named_const.statement Cert.KernelIdeal.κ "log2e" .f32 0x3FB8AA3B#32 _ rfl

/-- `Cert.Claim` (Defs.lean). -/
theorem claim : Cert.Claim := ⟨Cert.Kernel.Gen.facts, Cert.KernelIdeal.Gen.facts, Cert.ReferenceIdeal.Gen.facts,
  Cert.Pre_prefix_in_sequence.Gen.facts, Cert.Pre_x_finite.Gen.facts,
  fun m ρ h => Cert.Kernel.Gen.frame m ρ (Cert.Kernel.Attn.ok m) (Cert.Kernel.Attn.hyps_of_pre m h),
  fun m ρ h => Cert.KernelIdeal.Gen.frame m ρ (Cert.KernelIdeal.Attn.ok m) (Cert.KernelIdeal.Attn.hyps_of_pre m h),
  fun m ρ h => Cert.KernelIdeal.Gen.frame m ρ (Cert.KernelIdeal.Attn.ok m) (Cert.KernelIdeal.Attn.hyps_of_pre_x m h),
  fun m ρ _ => Cert.ReferenceIdeal.Gen.frame m ρ,
  fun m ρ _ => Cert.ReferenceIdeal.Gen.frame m ρ,
  preserves, algebraic⟩

end Cert.Proof

end
